-- ==== Defs.lean ====
def Pre_Sampling (m : (ℓ : Loc Cert.Sampling.nD Cert.Sampling.τ Cert.Sampling.sig) → Buf (Elt Bits) ℓ) : Prop :=
  True

def Pre_SamplingIdeal (m : (ℓ : Loc Cert.SamplingIdeal.nD Cert.SamplingIdeal.τ Cert.SamplingIdeal.sig) → Buf (Elt Ideal) ℓ) : Prop :=
  True

def Pre_SamplingReferenceIdeal (m : (ℓ : Loc Cert.SamplingReferenceIdeal.nD Cert.SamplingReferenceIdeal.τ Cert.SamplingReferenceIdeal.sig) → Buf (Elt Ideal) ℓ) : Prop :=
  True

def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Sampling [hSampling : Cert.Sampling.Facts] : Prop :=
  ∀ (m : (ℓ : Loc Cert.Sampling.nD Cert.Sampling.τ Cert.Sampling.sig) → Buf (Elt Bits) ℓ) (g : Dev Cert.Sampling.nD → PrngReg), Pre_Sampling m →
    θ_run (Cert.Sampling.defs (F := Bits)) (onTc (τ := Cert.Sampling.τ) (Cert.Sampling.main (F := Bits))) ⟨m, fun _ => 0, g⟩ (fun r => (∀ c : Dev Cert.Sampling.nD,
      r.2.mem ((c.tc : Thread Cert.Sampling.nD Cert.Sampling.τ).loc Cert.Sampling.main_arg0) = m ((c.tc : Thread Cert.Sampling.nD Cert.Sampling.τ).loc Cert.Sampling.main_arg0)
      ∧ r.2.mem ((c.tc : Thread Cert.Sampling.nD Cert.Sampling.τ).loc Cert.Sampling.main_arg1) = m ((c.tc : Thread Cert.Sampling.nD Cert.Sampling.τ).loc Cert.Sampling.main_arg1))
      ∧ r.2.sem = fun _ => 0)

def quiescent_SamplingIdeal [hSamplingIdeal : Cert.SamplingIdeal.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
      ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1))
      ∧ r.2.sem = fun _ => 0)

def quiescent_SamplingReferenceIdeal [hSamplingReferenceIdeal : Cert.SamplingReferenceIdeal.Facts] : Prop :=
  ∀ (m : (ℓ : Loc Cert.SamplingReferenceIdeal.nD Cert.SamplingReferenceIdeal.τ Cert.SamplingReferenceIdeal.sig) → Buf (Elt Ideal) ℓ) (g : Dev Cert.SamplingReferenceIdeal.nD → PrngReg), Pre_SamplingReferenceIdeal m →
    θ_run (Cert.SamplingReferenceIdeal.defs (F := Ideal)) (onTc (τ := Cert.SamplingReferenceIdeal.τ) (Cert.SamplingReferenceIdeal.main (F := Ideal))) ⟨m, fun _ => 0, g⟩ (fun r => (∀ c : Dev Cert.SamplingReferenceIdeal.nD,
      r.2.mem ((c.tc : Thread Cert.SamplingReferenceIdeal.nD Cert.SamplingReferenceIdeal.τ).loc Cert.SamplingReferenceIdeal.main_arg0) = m ((c.tc : Thread Cert.SamplingReferenceIdeal.nD Cert.SamplingReferenceIdeal.τ).loc Cert.SamplingReferenceIdeal.main_arg0)
      ∧ r.2.mem ((c.tc : Thread Cert.SamplingReferenceIdeal.nD Cert.SamplingReferenceIdeal.τ).loc Cert.SamplingReferenceIdeal.main_arg1) = m ((c.tc : Thread Cert.SamplingReferenceIdeal.nD Cert.SamplingReferenceIdeal.τ).loc Cert.SamplingReferenceIdeal.main_arg1))
      ∧ r.2.sem = fun _ => 0)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Sampling_SamplingIdeal : Prop :=
  True

def algebraic_SamplingIdeal_SamplingReferenceIdeal [hSamplingIdeal : Cert.SamplingIdeal.Facts] [hSamplingReferenceIdeal : Cert.SamplingReferenceIdeal.Facts] : Prop :=
  ∀ (m : (ℓ : Loc Cert.SamplingIdeal.nD Cert.SamplingIdeal.τ Cert.SamplingIdeal.sig) → Buf (Elt Ideal) ℓ) (g : Dev Cert.SamplingIdeal.nD → PrngReg)
    (m' : (ℓ : Loc Cert.SamplingReferenceIdeal.nD Cert.SamplingReferenceIdeal.τ Cert.SamplingReferenceIdeal.sig) → Buf (Elt Ideal) ℓ) (g' : Dev Cert.SamplingReferenceIdeal.nD → PrngReg), Pre_SamplingIdeal m →
    (∀ c : Dev Cert.SamplingIdeal.nD,
      m' ((c.tc : Thread Cert.SamplingReferenceIdeal.nD Cert.SamplingReferenceIdeal.τ).loc Cert.SamplingReferenceIdeal.main_arg0) = m ((c.tc : Thread Cert.SamplingIdeal.nD Cert.SamplingIdeal.τ).loc Cert.SamplingIdeal.main_arg0)
      ∧ m' ((c.tc : Thread Cert.SamplingReferenceIdeal.nD Cert.SamplingReferenceIdeal.τ).loc Cert.SamplingReferenceIdeal.main_arg1) = m ((c.tc : Thread Cert.SamplingIdeal.nD Cert.SamplingIdeal.τ).loc Cert.SamplingIdeal.main_arg1)) →
    ∃ (v0 : (c : Dev Cert.SamplingIdeal.nD) → Buf (Elt Ideal) ((c.tc : Thread Cert.SamplingIdeal.nD Cert.SamplingIdeal.τ).loc Cert.SamplingIdeal.main_v4)) (v1 : (c : Dev Cert.SamplingIdeal.nD) → Buf (Elt Ideal) ((c.tc : Thread Cert.SamplingIdeal.nD Cert.SamplingIdeal.τ).loc Cert.SamplingIdeal.main_v5)),
      θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
          r.2.mem ((c.tc : Thread Cert.SamplingIdeal.nD Cert.SamplingIdeal.τ).loc Cert.SamplingIdeal.main_v4) = v0 c
          ∧ r.2.mem ((c.tc : Thread Cert.SamplingIdeal.nD Cert.SamplingIdeal.τ).loc Cert.SamplingIdeal.main_v5) = v1 c
          ∧ r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
          ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1))
      ∧ θ_run (Cert.SamplingReferenceIdeal.defs (F := Ideal)) (onTc (τ := Cert.SamplingReferenceIdeal.τ) (Cert.SamplingReferenceIdeal.main (F := Ideal))) ⟨m', fun _ => 0, g'⟩ (fun r => ∀ c : Dev Cert.SamplingReferenceIdeal.nD,
          r.2.mem ((c.tc : Thread Cert.SamplingReferenceIdeal.nD Cert.SamplingReferenceIdeal.τ).loc Cert.SamplingReferenceIdeal.main_v26) = v0 c
          ∧ r.2.mem ((c.tc : Thread Cert.SamplingReferenceIdeal.nD Cert.SamplingReferenceIdeal.τ).loc Cert.SamplingReferenceIdeal.main_v35) = v1 c
          ∧ r.2.mem ((c.tc : Thread Cert.SamplingReferenceIdeal.nD Cert.SamplingReferenceIdeal.τ).loc Cert.SamplingReferenceIdeal.main_arg0) = m' ((c.tc : Thread Cert.SamplingReferenceIdeal.nD Cert.SamplingReferenceIdeal.τ).loc Cert.SamplingReferenceIdeal.main_arg0)
          ∧ r.2.mem ((c.tc : Thread Cert.SamplingReferenceIdeal.nD Cert.SamplingReferenceIdeal.τ).loc Cert.SamplingReferenceIdeal.main_arg1) = m' ((c.tc : Thread Cert.SamplingReferenceIdeal.nD Cert.SamplingReferenceIdeal.τ).loc Cert.SamplingReferenceIdeal.main_arg1))

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hSampling : Cert.Sampling.Facts) (hSamplingIdeal : Cert.SamplingIdeal.Facts) (hSamplingReferenceIdeal : Cert.SamplingReferenceIdeal.Facts) (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Sampling (hSampling := hSampling)
    ∧ quiescent_SamplingIdeal (hSamplingIdeal := hSamplingIdeal)
    ∧ quiescent_SamplingReferenceIdeal (hSamplingReferenceIdeal := hSamplingReferenceIdeal)
    ∧ quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Sampling_SamplingIdeal
    ∧ algebraic_SamplingIdeal_SamplingReferenceIdeal (hSamplingIdeal := hSamplingIdeal) (hSamplingReferenceIdeal := hSamplingReferenceIdeal)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S8x4096x3 : Shape := ⟨3, ![8, 4096, 3]⟩
abbrev S8x8x32x128 : Shape := ⟨4, ![8, 8, 32, 128]⟩
abbrev S8x4096x64 : Shape := ⟨3, ![8, 4096, 64]⟩
abbrev S70x128 : Shape := ⟨2, ![70, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S8x8x32x128 : S_.BroadcastsInDim S8x8x32x128 (![] : Fin 0 → Fin S8x8x32x128.rank)
  reducesTo_S8x8x32x128_S_d0_1_2_3 : S8x8x32x128.ReducesTo [0, 1, 2, 3] S_
  h_S_ : 0 < S_.numel

variable [Facts]

def fn {F : FTy → Type} [FloatOps F] (main_arg0 : FVec F S8x4096x3 .f32) (main_arg1 : FVec F S8x4096x3 .f32) (main_arg2 : IVec S8x8x32x128 32) (main_arg3 : FVec F S8x4096x64 .f32) (main_arg4 : FVec F S70x128 .f32) (main_arg5 : FVec F S128 .f32) (main_arg6 : FVec F S128x128 .f32) (main_arg7 : FVec F S128 .f32) (main_arg8 : FVec F S128x256 .f32) (main_arg9 : FVec F S256 .f32) : IVec S_ 1 :=
  let main_c : IVec S_ 32 := constantI S_ 32 0#32
  let main_v0 : IVec S8x8x32x128 32 := broadcastInDim S8x8x32x128 ![] bcast_S_S8x8x32x128 main_c
  let main_v1 : IVec S8x8x32x128 1 := cmpi .sge main_arg2 main_v0
  let main_c_0 : IVec S_ 32 := constantI S_ 32 32768#32
  let main_v2 : IVec S8x8x32x128 32 := broadcastInDim S8x8x32x128 ![] bcast_S_S8x8x32x128 main_c_0
  let main_v3 : IVec S8x8x32x128 1 := cmpi .slt main_arg2 main_v2
  let main_v4 : IVec S8x8x32x128 1 := andi main_v1 main_v3
  let main_c_1 : IVec S_ 1 := constantI S_ 1 1#1
  let main_v5 : IVec S_ 1 := (fun x v => Host.reduce IntOp.andi x v reducesTo_S8x8x32x128_S_d0_1_2_3 h_S_) main_v4 main_c_1
  main_v5
-- ==== Pre_in_range_and_finite.lean ====
abbrev S8x4096x3 : Shape := ⟨3, ![8, 4096, 3]⟩
abbrev S8x8x32x128 : Shape := ⟨4, ![8, 8, 32, 128]⟩
abbrev S8x4096x64 : Shape := ⟨3, ![8, 4096, 64]⟩
abbrev S70x128 : Shape := ⟨2, ![70, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩
abbrev S3x128 : Shape := ⟨2, ![3, 128]⟩

class Facts : Prop where
  bcast_S_S8x8x32x128 : S_.BroadcastsInDim S8x8x32x128 (![] : Fin 0 → Fin S8x8x32x128.rank)
  reducesTo_S8x8x32x128_S_d0_1_2_3 : S8x8x32x128.ReducesTo [0, 1, 2, 3] S_
  h_S_ : 0 < S_.numel
  bcast_S_S8x4096x3 : S_.BroadcastsInDim S8x4096x3 (![] : Fin 0 → Fin S8x4096x3.rank)
  reducesTo_S8x4096x3_S_d0_1_2 : S8x4096x3.ReducesTo [0, 1, 2] S_
  slices_S70x128_S3x128_0_0 : S70x128.Slices ![0, 0] S3x128
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S8x4096x3 .f32) (main_arg1 : FVec F S8x4096x3 .f32) (main_arg2 : IVec S8x8x32x128 32) (main_arg3 : FVec F S8x4096x64 .f32) (main_arg4 : FVec F S70x128 .f32) (main_arg5 : FVec F S128 .f32) (main_arg6 : FVec F S128x128 .f32) (main_arg7 : FVec F S128 .f32) (main_arg8 : FVec F S128x256 .f32) (main_arg9 : FVec F S256 .f32) : IVec S_ 1 :=
  let main_c : IVec S_ 32 := constantI S_ 32 0#32
  let main_v0 : IVec S8x8x32x128 32 := broadcastInDim S8x8x32x128 ![] bcast_S_S8x8x32x128 main_c
  let main_v1 : IVec S8x8x32x128 1 := cmpi .sge main_arg2 main_v0
  let main_c_0 : IVec S_ 32 := constantI S_ 32 32768#32
  let main_v2 : IVec S8x8x32x128 32 := broadcastInDim S8x8x32x128 ![] bcast_S_S8x8x32x128 main_c_0
  let main_v3 : IVec S8x8x32x128 1 := cmpi .slt main_arg2 main_v2
  let main_v4 : IVec S8x8x32x128 1 := andi main_v1 main_v3
  let main_c_1 : IVec S_ 1 := constantI S_ 1 1#1
  let main_v5 : IVec S_ 1 := (fun x v => Host.reduce IntOp.andi x v reducesTo_S8x8x32x128_S_d0_1_2_3 h_S_) main_v4 main_c_1
  let main_v6 : FVec F S8x4096x3 .f32 := Host.absf main_arg0
  let main_cst : FVec F S_ .f32 := constant S_ .f32 0x7F800000#32
  let main_v7 : FVec F S8x4096x3 .f32 := broadcastInDim S8x4096x3 ![] bcast_S_S8x4096x3 main_cst
  let main_v8 : IVec S8x4096x3 1 := cmpf .olt main_v6 main_v7
  let main_c_2 : IVec S_ 1 := constantI S_ 1 1#1
  let main_v9 : IVec S_ 1 := (fun x v => Host.reduce IntOp.andi x v reducesTo_S8x4096x3_S_d0_1_2 h_S_) main_v8 main_c_2
  let main_v10 : IVec S_ 1 := andi main_v5 main_v9
  let main_v11 : FVec F S3x128 .f32 := (extractStridedSlice S3x128 ![0, 0] · slices_S70x128_S3x128_0_0) main_arg4
  let main_v12 : FVec F S3x128 .f32 := Host.absf main_v11
  let main_cst_3 : FVec F S_ .f32 := constant S_ .f32 0x7F800000#32
  let main_v13 : FVec F S3x128 .f32 := broadcastInDim S3x128 ![] bcast_S_S3x128 main_cst_3
  let main_v14 : IVec S3x128 1 := cmpf .olt main_v12 main_v13
  let main_c_4 : IVec S_ 1 := constantI S_ 1 1#1
  let main_v15 : IVec S_ 1 := (fun x v => Host.reduce IntOp.andi x v reducesTo_S3x128_S_d0_1 h_S_) main_v14 main_c_4
  let main_v16 : IVec S_ 1 := andi main_v10 main_v15
  main_v16
-- ==== Sampling.lean ====
abbrev S8x4096x3 : Shape := ⟨3, ![8, 4096, 3]⟩
abbrev S8x3x4096 : Shape := ⟨3, ![8, 3, 4096]⟩
abbrev S1024x8x6 : Shape := ⟨3, ![1024, 8, 6]⟩
abbrev S8x4096 : Shape := ⟨2, ![8, 4096]⟩
abbrev S8x1 : Shape := ⟨2, ![8, 1]⟩
abbrev S8x1x4096 : Shape := ⟨3, ![8, 1, 4096]⟩
abbrev S8 : Shape := ⟨1, ![8]⟩
abbrev S8x6 : Shape := ⟨2, ![8, 6]⟩
abbrev S1x8x6 : Shape := ⟨3, ![1, 8, 6]⟩
abbrev S8x1024x6 : Shape := ⟨3, ![8, 1024, 6]⟩
abbrev S8x1024x3 : Shape := ⟨3, ![8, 1024, 3]⟩

abbrev nBuf : Space → Nat
  | .hbm => 8
  | .vmem => 3
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S1024x8x6, .f32⟩
  | .hbm, ⟨5, _⟩ => ⟨S8x1024x6, .f32⟩
  | .hbm, ⟨6, _⟩ => ⟨S8x1024x3, .f32⟩
  | .hbm, ⟨7, _⟩ => ⟨S8x1024x3, .f32⟩
  | .local _ .vmem, ⟨0, _⟩ => ⟨S8x3x4096, .f32⟩
  | .local _ .vmem, ⟨1, _⟩ => ⟨S8x3x4096, .f32⟩
  | .local _ .vmem, ⟨2, _⟩ => ⟨S1024x8x6, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c1024_i32 : BitVec 32 := 1024#32
  let v3 : BitVec 32 := Scalar.addi c0_i32_0 c1024_i32
  let c1_i32 : BitVec 32 := 1#32
  ⟨c0_i32_0, v3, c1_i32⟩
def k0_off1 (k0_t1 : Fin k0_t1_loop.trips) : Fin 3 → Nat :=
  let c0_i32_0 : BitVec 32 := 0#32
  let c1_i32 : BitVec 32 := 1#32
  let arg3 : BitVec 32 := Scf.iv c0_i32_0 c1_i32 k0_t1
  let v45 : Index := Scalar.indexCast arg3
  let c0_29 : Index := 0#32
  let c0_30 : Index := 0#32
  ![v45.toNat, 0, 0]
abbrev stage0_0 : Fin 1 → Memref sig .tc .vmem S8x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SamplingReferenceIdeal.lean ====
abbrev S8x4096x3 : Shape := ⟨3, ![8, 4096, 3]⟩
abbrev S32768x3 : Shape := ⟨2, ![32768, 3]⟩
abbrev S8 : Shape := ⟨1, ![8]⟩
abbrev S_ : Shape := ⟨0, ![]⟩
abbrev S8x4096 : Shape := ⟨2, ![8, 4096]⟩
abbrev S1023x8 : Shape := ⟨2, ![1023, 8]⟩
abbrev S8x1 : Shape := ⟨2, ![8, 1]⟩
abbrev S8x3 : Shape := ⟨2, ![8, 3]⟩
abbrev S8x1x3 : Shape := ⟨3, ![8, 1, 3]⟩
abbrev S1x8 : Shape := ⟨2, ![1, 8]⟩
abbrev S1024x8 : Shape := ⟨2, ![1024, 8]⟩
abbrev S8x1024 : Shape := ⟨2, ![8, 1024]⟩
abbrev S8192 : Shape := ⟨1, ![8192]⟩
abbrev S8192x1 : Shape := ⟨2, ![8192, 1]⟩
abbrev S8192x3 : Shape := ⟨2, ![8192, 3]⟩
abbrev S8x1024x3 : Shape := ⟨3, ![8, 1024, 3]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S32768x3, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S_, .f32⟩
  | .hbm, ⟨10, _⟩ => ⟨S8x4096, .f32⟩
  | .hbm, ⟨11, _⟩ => ⟨S_, .i32⟩
  | .hbm, ⟨12, _⟩ => ⟨S1023x8, .i32⟩
  | .hbm, ⟨13, _⟩ => ⟨S_, .i32⟩
  | .hbm, ⟨14, _⟩ => ⟨S8, .i32⟩
  | .hbm, ⟨15, _⟩ => ⟨S32768x3, .f32⟩
  | .hbm, ⟨16, _⟩ => ⟨S8x4096x3, .f32⟩
  | .hbm, ⟨17, _⟩ => ⟨S_, .i32⟩
  | .hbm, ⟨18, _⟩ => ⟨S8x4096, .f32⟩
  | .hbm, ⟨19, _⟩ => ⟨S8, .i32⟩
  | .hbm, ⟨20, _⟩ => ⟨S1023x8, .i32⟩
  | .hbm, ⟨21, _⟩ => ⟨S_, .i32⟩
  | .hbm, ⟨22, _⟩ => ⟨S_, .i1⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S8x1, .i32⟩
  | .hbm, ⟨32, _⟩ => ⟨S8x3, .f32⟩
  | .hbm, ⟨33, _⟩ => ⟨S8x1x3, .f32⟩
  | .hbm, ⟨34, _⟩ => ⟨S8x4096x3, .f32⟩
  | .hbm, ⟨35, _⟩ => ⟨S8x4096x3, .f32⟩
  | .hbm, ⟨36, _⟩ => ⟨S8x4096x3, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096, .i32⟩
  | .hbm, ⟨41, _⟩ => ⟨S_, .f32⟩
  | .hbm, ⟨42, _⟩ => ⟨S_, .i32⟩
  | .hbm, ⟨43, _⟩ => ⟨S8, .f32⟩
  | .hbm, ⟨44, _⟩ => ⟨S8, .i32⟩
  | .hbm, ⟨45, _⟩ => ⟨S1x8, .i32⟩
  | .hbm, ⟨46, _⟩ => ⟨S_, .i32⟩
  | .hbm, ⟨47, _⟩ => ⟨S1023x8, .i32⟩
  | .hbm, ⟨48, _⟩ => ⟨S_, .i32⟩
  | .hbm, ⟨49, _⟩ => ⟨S_, .i32⟩
  | .hbm, ⟨50, _⟩ => ⟨S1x8, .i32⟩
  | .hbm, ⟨51, _⟩ => ⟨S1024x8, .i32⟩
  | .hbm, ⟨52, _⟩ => ⟨S8x1024, .i32⟩
  | .hbm, ⟨53, _⟩ => ⟨S8, .i32⟩
  | .hbm, ⟨54, _⟩ => ⟨S8x1, .i32⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x1024, .i32⟩
  | .hbm, ⟨59, _⟩ => ⟨S8x1024, .i32⟩
  | .hbm, ⟨60, _⟩ => ⟨S8192, .i32⟩
  | .hbm, ⟨61, _⟩ => ⟨S32768x3, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x3, .f32⟩
  | .hbm, ⟨71, _⟩ => ⟨S8x1024x3, .f32⟩
  | .hbm, ⟨72, _⟩ => ⟨S32768x3, .f32⟩
  | .hbm, ⟨73, _⟩ => ⟨S_, .i32⟩
  | .hbm, ⟨74, _⟩ => ⟨S8192, .i32⟩
  | .hbm, ⟨75, _⟩ => ⟨S8192, .i1⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S8192, .i32⟩
  | .hbm, ⟨80, _⟩ => ⟨S8192x1, .i32⟩
  | .hbm, ⟨81, _⟩ => ⟨S8192x3, .f32⟩
  | .hbm, ⟨82, _⟩ => ⟨S8x1024x3, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_c_2 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_while0c_c_14 : Ref sig .tc := ⟨.hbm, 21, rfl⟩
abbrev main_while0c_v36 : Ref sig .tc := ⟨.hbm, 22, rfl⟩
abbrev main_while0b_v36 : Ref sig .tc := ⟨.hbm, 23, rfl⟩
abbrev main_while0b_c_14 : Ref sig .tc := ⟨.hbm, 24, rfl⟩
abbrev main_while0b_v37 : Ref sig .tc := ⟨.hbm, 25, rfl⟩
abbrev main_while0b_v38 : Ref sig .tc := ⟨.hbm, 26, rfl⟩
abbrev main_while0b_c_15 : Ref sig .tc := ⟨.hbm, 27, rfl⟩
abbrev main_while0b_v39 : Ref sig .tc := ⟨.hbm, 28, rfl⟩
abbrev main_while0b_v40 : Ref sig .tc := ⟨.hbm, 29, rfl⟩
abbrev main_while0b_v41 : Ref sig .tc := ⟨.hbm, 30, rfl⟩
abbrev main_while0b_v42 : Ref sig .tc := ⟨.hbm, 31, rfl⟩
abbrev main_while0b_v43 : Ref sig .tc := ⟨.hbm, 32, rfl⟩
abbrev main_while0b_v44 : Ref sig .tc := ⟨.hbm, 33, rfl⟩
abbrev main_while0b_v45 : Ref sig .tc := ⟨.hbm, 34, rfl⟩
abbrev main_while0b_v46 : Ref sig .tc := ⟨.hbm, 35, rfl⟩
abbrev main_while0b_v47 : Ref sig .tc := ⟨.hbm, 36, rfl⟩
abbrev main_while0b_cst_16 : Ref sig .tc := ⟨.hbm, 37, rfl⟩
abbrev main_while0b_v48 : Ref sig .tc := ⟨.hbm, 38, rfl⟩
abbrev main_while0b_v49 : Ref sig .tc := ⟨.hbm, 39, rfl⟩
abbrev main_while0b_call0_v0 : Ref sig .tc := ⟨.hbm, 40, rfl⟩
abbrev main_while0b_call0_cst : Ref sig .tc := ⟨.hbm, 41, rfl⟩
abbrev main_while0b_call0_c : Ref sig .tc := ⟨.hbm, 42, rfl⟩
abbrev main_while0b_call0_v1_0 : Ref sig .tc := ⟨.hbm, 43, rfl⟩
abbrev main_while0b_v50 : Ref sig .tc := ⟨.hbm, 44, rfl⟩
abbrev main_while0b_call1_v0 : Ref sig .tc := ⟨.hbm, 45, rfl⟩
abbrev main_while0b_call1_c : Ref sig .tc := ⟨.hbm, 46, rfl⟩
abbrev main_while0b_v51 : Ref sig .tc := ⟨.hbm, 47, rfl⟩
abbrev main_while0b_c_17 : Ref sig .tc := ⟨.hbm, 48, rfl⟩
abbrev main_while0b_v52 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_c_3 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_4 : Ref sig .tc := ⟨.hbm, 62, rfl⟩
abbrev main_v19 : Ref sig .tc := ⟨.hbm, 63, rfl⟩
abbrev main_v20 : Ref sig .tc := ⟨.hbm, 64, rfl⟩
abbrev main_c_5 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_6 : Ref sig .tc := ⟨.hbm, 73, rfl⟩
abbrev main_v28 : Ref sig .tc := ⟨.hbm, 74, rfl⟩
abbrev main_v29 : Ref sig .tc := ⟨.hbm, 75, rfl⟩
abbrev main_c_7 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩

abbrev nD : Nat := 1
abbrev τ : Topo := Topo.v7x

variable {F : FTy → Type} [FloatOps F]

abbrev main_while0_count : Scf.Loop 32 := ⟨0#32, 1023#32, 1#32⟩
-- ==== Kernel.lean ====
abbrev S8x4096x3 : Shape := ⟨3, ![8, 4096, 3]⟩
abbrev S8x8x32x128 : Shape := ⟨4, ![8, 8, 32, 128]⟩
abbrev S8x4096x64 : Shape := ⟨3, ![8, 4096, 64]⟩
abbrev S70x128 : Shape := ⟨2, ![70, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S8x3x4096 : Shape := ⟨3, ![8, 3, 4096]⟩
abbrev S1024x8x6 : Shape := ⟨3, ![1024, 8, 6]⟩
abbrev S8x4096 : Shape := ⟨2, ![8, 4096]⟩
abbrev S8x1 : Shape := ⟨2, ![8, 1]⟩
abbrev S8x1x4096 : Shape := ⟨3, ![8, 1, 4096]⟩
abbrev S8 : Shape := ⟨1, ![8]⟩
abbrev S8x6 : Shape := ⟨2, ![8, 6]⟩
abbrev S1x8x6 : Shape := ⟨3, ![1, 8, 6]⟩
abbrev S8x1024x6 : Shape := ⟨3, ![8, 1024, 6]⟩
abbrev S8x1024x3 : Shape := ⟨3, ![8, 1024, 3]⟩
abbrev S8x4096x67 : Shape := ⟨3, ![8, 4096, 67]⟩
abbrev S67x128 : Shape := ⟨2, ![67, 128]⟩
abbrev S8x4096x128 : Shape := ⟨3, ![8, 4096, 128]⟩
abbrev S1x4096x67 : Shape := ⟨3, ![1, 4096, 67]⟩
abbrev S1x4096x128 : Shape := ⟨3, ![1, 4096, 128]⟩
abbrev S4096x67 : Shape := ⟨2, ![4096, 67]⟩
abbrev S4096x128 : Shape := ⟨2, ![4096, 128]⟩
abbrev S32768x128 : Shape := ⟨2, ![32768, 128]⟩
abbrev S262144 : Shape := ⟨1, ![262144]⟩
abbrev S262144x128 : Shape := ⟨2, ![262144, 128]⟩
abbrev S_ : Shape := ⟨0, ![]⟩
abbrev S8x8x4096x128 : Shape := ⟨4, ![8, 8, 4096, 128]⟩
abbrev S3x128 : Shape := ⟨2, ![3, 128]⟩
abbrev S1x128 : Shape := ⟨2, ![1, 128]⟩
abbrev S1x256 : Shape := ⟨2, ![1, 256]⟩
abbrev S8x1024x256 : Shape := ⟨3, ![8, 1024, 256]⟩
abbrev S1x1x4096x128 : Shape := ⟨4, ![1, 1, 4096, 128]⟩
abbrev S1x128x3 : Shape := ⟨3, ![1, 128, 3]⟩
abbrev S1x128x256 : Shape := ⟨3, ![1, 128, 256]⟩
abbrev S128x3 : Shape := ⟨2, ![128, 3]⟩
abbrev S32x128x128 : Shape := ⟨3, ![32, 128, 128]⟩
abbrev S1x128x128 : Shape := ⟨3, ![1, 128, 128]⟩
abbrev S4096x256 : Shape := ⟨2, ![4096, 256]⟩
abbrev S32x128x256 : Shape := ⟨3, ![32, 128, 256]⟩
abbrev S8x256x1024 : Shape := ⟨3, ![8, 256, 1024]⟩

abbrev nBuf : Table → Nat
  | .hbm => 30
  | .local .tc .vmem => 23
  | .local .scVector .vmem => 2
  | _ => 0

abbrev bufTy : (tb : Table) → Fin (nBuf tb) → BufTy
  | .hbm, ⟨0, _⟩ => ⟨S8x4096x3, .f32⟩
  | .hbm, ⟨1, _⟩ => ⟨S8x4096x3, .f32⟩
  | .hbm, ⟨2, _⟩ => ⟨S8x8x32x128, .i32⟩
  | .hbm, ⟨3, _⟩ => ⟨S8x4096x64, .f32⟩
  | .hbm, ⟨4, _⟩ => ⟨S70x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S8x3x4096, .f32⟩
  | .hbm, ⟨11, _⟩ => ⟨S8x3x4096, .f32⟩
  | .hbm, ⟨12, _⟩ => ⟨S1024x8x6, .f32⟩
  | .hbm, ⟨13, _⟩ => ⟨S8x1024x6, .f32⟩
  | .hbm, ⟨14, _⟩ => ⟨S8x1024x3, .f32⟩
  | .hbm, ⟨15, _⟩ => ⟨S8x1024x3, .f32⟩
  | .hbm, ⟨16, _⟩ => ⟨S8x4096x67, .f32⟩
  | .hbm, ⟨17, _⟩ => ⟨S67x128, .f32⟩
  | .hbm, ⟨18, _⟩ => ⟨S8x4096x128, .f32⟩
  | .hbm, ⟨19, _⟩ => ⟨S32768x128, .f32⟩
  | .hbm, ⟨20, _⟩ => ⟨S262144, .i32⟩
  | .hbm, ⟨21, _⟩ => ⟨S262144x128, .f32⟩
  | .hbm, ⟨22, _⟩ => ⟨S8x8x4096x128, .f32⟩
  | .hbm, ⟨23, _⟩ => ⟨S3x128, .f32⟩
  | .hbm, ⟨24, _⟩ => ⟨S3x128, .f32⟩
  | .hbm, ⟨25, _⟩ => ⟨S1x128, .f32⟩
  | .hbm, ⟨26, _⟩ => ⟨S1x128, .f32⟩
  | .hbm, ⟨27, _⟩ => ⟨S1x256, .f32⟩
  | .hbm, ⟨28, _⟩ => ⟨S8x1024x256, .f32⟩
  | .hbm, ⟨29, _⟩ => ⟨S8x256x1024, .f32⟩
  | .local .tc .vmem, ⟨0, _⟩ => ⟨S8x3x4096, .f32⟩
  | .local .tc .vmem, ⟨1, _⟩ => ⟨S8x3x4096, .f32⟩
  | .local .tc .vmem, ⟨2, _⟩ => ⟨S1024x8x6, .f32⟩
  | .local .tc .vmem, ⟨3, _⟩ => ⟨S1x4096x67, .f32⟩
  | .local .tc .vmem, ⟨4, _⟩ => ⟨S1x4096x67, .f32⟩
  | .local .tc .vmem, ⟨5, _⟩ => ⟨S67x128, .f32⟩
  | .local .tc .vmem, ⟨6, _⟩ => ⟨S1x4096x128, .f32⟩
  | .local .tc .vmem, ⟨7, _⟩ => ⟨S1x4096x128, .f32⟩
  | .local .tc .vmem, ⟨8, _⟩ => ⟨S1x1x4096x128, .f32⟩
  | .local .tc .vmem, ⟨9, _⟩ => ⟨S1x1x4096x128, .f32⟩
  | .local .tc .vmem, ⟨10, _⟩ => ⟨S1x128x3, .f32⟩
  | .local .tc .vmem, ⟨11, _⟩ => ⟨S1x128x3, .f32⟩
  | .local .tc .vmem, ⟨12, _⟩ => ⟨S1x128x3, .f32⟩
  | .local .tc .vmem, ⟨13, _⟩ => ⟨S1x128x3, .f32⟩
  | .local .tc .vmem, ⟨14, _⟩ => ⟨S3x128, .f32⟩
  | .local .tc .vmem, ⟨15, _⟩ => ⟨S3x128, .f32⟩
  | .local .tc .vmem, ⟨16, _⟩ => ⟨S1x128, .f32⟩
  | .local .tc .vmem, ⟨17, _⟩ => ⟨S128x128, .f32⟩
  | .local .tc .vmem, ⟨18, _⟩ => ⟨S1x128, .f32⟩
  | .local .tc .vmem, ⟨19, _⟩ => ⟨S128x256, .f32⟩
  | .local .tc .vmem, ⟨20, _⟩ => ⟨S1x256, .f32⟩
  | .local .tc .vmem, ⟨21, _⟩ => ⟨S1x128x256, .f32⟩
  | .local .tc .vmem, ⟨22, _⟩ => ⟨S1x128x256, .f32⟩
  | .local .scVector .vmem, ⟨0, _⟩ => ⟨S128, .i32⟩
  | .local .scVector .vmem, ⟨1, _⟩ => ⟨S128x128, .f32⟩
  | _, _ => ⟨S8x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v9_scv : Ref sig .scVector := ⟨.hbm, 19, rfl⟩
abbrev main_v10_scv : Ref sig .scVector := ⟨.hbm, 20, rfl⟩
abbrev main_v11_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg2_1 : Ref sig .tc := ⟨.vmem, 13, rfl⟩
abbrev cc3_stg3_0 : Ref sig .tc := ⟨.vmem, 14, rfl⟩
abbrev cc3_stg4_0 : Ref sig .tc := ⟨.vmem, 15, rfl⟩
abbrev cc3_stg5_0 : Ref sig .tc := ⟨.vmem, 16, rfl⟩
abbrev cc3_stg6_0 : Ref sig .tc := ⟨.vmem, 17, rfl⟩
abbrev cc3_stg7_0 : Ref sig .tc := ⟨.vmem, 18, rfl⟩
abbrev cc3_stg8_0 : Ref sig .tc := ⟨.vmem, 19, rfl⟩
abbrev cc3_stg9_0 : Ref sig .tc := ⟨.vmem, 20, rfl⟩
abbrev cc3_stg10_0 : Ref sig .tc := ⟨.vmem, 21, rfl⟩
abbrev cc3_stg10_1 : Ref sig .tc := ⟨.vmem, 22, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc3_sem4_0 : DmaSem sig := 18
abbrev cc3_sem5_0 : DmaSem sig := 19
abbrev cc3_sem6_0 : DmaSem sig := 20
abbrev cc3_sem7_0 : DmaSem sig := 21
abbrev cc3_sem8_0 : DmaSem sig := 22
abbrev cc3_sem9_0 : DmaSem sig := 23
abbrev cc3_sem10_0 : DmaSem sig := 24
abbrev cc3_sem10_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c1024_i32 : BitVec 32 := 1024#32
  let v3 : BitVec 32 := Scalar.addi c0_i32_0 c1024_i32
  let c1_i32 : BitVec 32 := 1#32
  ⟨c0_i32_0, v3, c1_i32⟩
def k0_off1 (k0_t1 : Fin k0_t1_loop.trips) : Fin 3 → Nat :=
  let c0_i32_0 : BitVec 32 := 0#32
  let c1_i32 : BitVec 32 := 1#32
  let arg3 : BitVec 32 := Scf.iv c0_i32_0 c1_i32 k0_t1
  let v45 : Index := Scalar.indexCast arg3
  let c0_29 : Index := 0#32
  let c0_30 : Index := 0#32
  ![v45.toNat, 0, 0]
abbrev stage0_0 : Fin 1 → Memref sig .tc .vmem S8x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S67x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

@[reducible] def k2_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k2_t1
  let c128_i32 : BitVec 32 := 128#32
  let v4 : BitVec 32 := Scalar.muli arg8 c128_i32
  let v5 : BitVec 32 := Scalar.addi v2 v4
  ![v5.toNat]
def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k2_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid3 : Pipeline.Grid := ⟨2, ![8, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1x4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S3x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S3x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S128x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S1x128x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4096x3 : Shape := ⟨3, ![8, 4096, 3]⟩
abbrev S8x8x32x128 : Shape := ⟨4, ![8, 8, 32, 128]⟩
abbrev S8x4096x64 : Shape := ⟨3, ![8, 4096, 64]⟩
abbrev S70x128 : Shape := ⟨2, ![70, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S32768x3 : Shape := ⟨2, ![32768, 3]⟩
abbrev S8 : Shape := ⟨1, ![8]⟩
abbrev S_ : Shape := ⟨0, ![]⟩
abbrev S8x4096 : Shape := ⟨2, ![8, 4096]⟩
abbrev S1023x8 : Shape := ⟨2, ![1023, 8]⟩
abbrev S8x1 : Shape := ⟨2, ![8, 1]⟩
abbrev S8x3 : Shape := ⟨2, ![8, 3]⟩
abbrev S8x1x3 : Shape := ⟨3, ![8, 1, 3]⟩
abbrev S1x8 : Shape := ⟨2, ![1, 8]⟩
abbrev S1024x8 : Shape := ⟨2, ![1024, 8]⟩
abbrev S8x1024 : Shape := ⟨2, ![8, 1024]⟩
abbrev S8192 : Shape := ⟨1, ![8192]⟩
abbrev S8192x1 : Shape := ⟨2, ![8192, 1]⟩
abbrev S8192x3 : Shape := ⟨2, ![8192, 3]⟩
abbrev S8x1024x3 : Shape := ⟨3, ![8, 1024, 3]⟩
abbrev S8x8x128x32 : Shape := ⟨4, ![8, 8, 128, 32]⟩
abbrev S262144 : Shape := ⟨1, ![262144]⟩
abbrev S262144x1 : Shape := ⟨2, ![262144, 1]⟩
abbrev S262144x3 : Shape := ⟨2, ![262144, 3]⟩
abbrev S8x1024x32x3 : Shape := ⟨4, ![8, 1024, 32, 3]⟩
abbrev S8x1024x1x3 : Shape := ⟨4, ![8, 1024, 1, 3]⟩
abbrev S32768x64 : Shape := ⟨2, ![32768, 64]⟩
abbrev S262144x64 : Shape := ⟨2, ![262144, 64]⟩
abbrev S8x1024x32x64 : Shape := ⟨4, ![8, 1024, 32, 64]⟩
abbrev S8x1024x32x70 : Shape := ⟨4, ![8, 1024, 32, 70]⟩
abbrev S8x1024x32x128 : Shape := ⟨4, ![8, 1024, 32, 128]⟩
abbrev S1x1x1x128 : Shape := ⟨4, ![1, 1, 1, 128]⟩
abbrev S8x1024x32x256 : Shape := ⟨4, ![8, 1024, 32, 256]⟩
abbrev S1x1x1x256 : Shape := ⟨4, ![1, 1, 1, 256]⟩
abbrev S8x1024x256 : Shape := ⟨3, ![8, 1024, 256]⟩
abbrev S8x256x1024 : Shape := ⟨3, ![8, 256, 1024]⟩

abbrev nBuf : Space → Nat
  | .hbm => 145
  | .vmem => 0
  | .smem => 0
  | _ => 0

abbrev hbmTy0_0 (i : Nat) : BufTy := match i % 128 with
  | 0 => ⟨S8x4096x3, .f32⟩
  | 1 => ⟨S8x4096x3, .f32⟩
  | 2 => ⟨S8x8x32x128, .i32⟩
  | 3 => ⟨S8x4096x64, .f32⟩
  | 4 => ⟨S70x128, .f32⟩
  | 5 => ⟨S128, .f32⟩
  | 6 => ⟨S128x128, .f32⟩
  | 7 => ⟨S128, .f32⟩
  | 8 => ⟨S128x256, .f32⟩
  | 9 => ⟨S256, .f32⟩
  | 10 => ⟨S32768x3, .f32⟩
  | 11 => ⟨S8, .i32⟩
  | 12 => ⟨S_, .i32⟩
  | 13 => ⟨S8, .i32⟩
  | 14 => ⟨S8, .i32⟩
  | 15 => ⟨S_, .i32⟩
  | 16 => ⟨S8, .i32⟩
  | 17 => ⟨S_, .f32⟩
  | 18 => ⟨S8x4096, .f32⟩
  | 19 => ⟨S_, .i32⟩
  | 20 => ⟨S1023x8, .i32⟩
  | 21 => ⟨S_, .i32⟩
  | 22 => ⟨S8, .i32⟩
  | 23 => ⟨S32768x3, .f32⟩
  | 24 => ⟨S8x4096x3, .f32⟩
  | 25 => ⟨S_, .i32⟩
  | 26 => ⟨S8x4096, .f32⟩
  | 27 => ⟨S8, .i32⟩
  | 28 => ⟨S1023x8, .i32⟩
  | 29 => ⟨S_, .i32⟩
  | 30 => ⟨S_, .i1⟩
  | 31 => ⟨S8, .i32⟩
  | 32 => ⟨S_, .i32⟩
  | 33 => ⟨S8, .i32⟩
  | 34 => ⟨S8, .i1⟩
  | 35 => ⟨S_, .i32⟩
  | 36 => ⟨S8, .i32⟩
  | 37 => ⟨S8, .i32⟩
  | 38 => ⟨S8, .i32⟩
  | 39 => ⟨S8x1, .i32⟩
  | 40 => ⟨S8x3, .f32⟩
  | 41 => ⟨S8x1x3, .f32⟩
  | 42 => ⟨S8x4096x3, .f32⟩
  | 43 => ⟨S8x4096x3, .f32⟩
  | 44 => ⟨S8x4096x3, .f32⟩
  | 45 => ⟨S_, .f32⟩
  | 46 => ⟨S8x4096, .f32⟩
  | 47 => ⟨S8x4096, .f32⟩
  | 48 => ⟨S8x4096, .i32⟩
  | 49 => ⟨S_, .f32⟩
  | 50 => ⟨S_, .i32⟩
  | 51 => ⟨S8, .f32⟩
  | 52 => ⟨S8, .i32⟩
  | 53 => ⟨S1x8, .i32⟩
  | 54 => ⟨S_, .i32⟩
  | 55 => ⟨S1023x8, .i32⟩
  | 56 => ⟨S_, .i32⟩
  | 57 => ⟨S_, .i32⟩
  | 58 => ⟨S1x8, .i32⟩
  | 59 => ⟨S1024x8, .i32⟩
  | 60 => ⟨S8x1024, .i32⟩
  | 61 => ⟨S8, .i32⟩
  | 62 => ⟨S8x1, .i32⟩
  | 63 => ⟨S_, .i32⟩
  | 64 => ⟨S8x1, .i32⟩
  | 65 => ⟨S8x1, .i32⟩
  | 66 => ⟨S8x1024, .i32⟩
  | 67 => ⟨S8x1024, .i32⟩
  | 68 => ⟨S8192, .i32⟩
  | 69 => ⟨S32768x3, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x3, .f32⟩
  | 79 => ⟨S8x1024x3, .f32⟩
  | 80 => ⟨S32768x3, .f32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x3, .f32⟩
  | 90 => ⟨S8x1024x3, .f32⟩
  | 91 => ⟨S8x8x128x32, .i32⟩
  | 92 => ⟨S262144, .i32⟩
  | 93 => ⟨S32768x3, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S262144x3, .f32⟩
  | 103 => ⟨S8x1024x32x3, .f32⟩
  | 104 => ⟨S8x1024x1x3, .f32⟩
  | 105 => ⟨S8x1024x32x3, .f32⟩
  | 106 => ⟨S8x1024x32x3, .f32⟩
  | 107 => ⟨S32768x64, .f32⟩
  | 108 => ⟨S_, .i32⟩
  | 109 => ⟨S262144, .i32⟩
  | 110 => ⟨S262144, .i1⟩
  | 111 => ⟨S_, .i32⟩
  | 112 => ⟨S262144, .i32⟩
  | 113 => ⟨S262144, .i32⟩
  | 114 => ⟨S262144, .i32⟩
  | 115 => ⟨S262144x1, .i32⟩
  | 116 => ⟨S262144x64, .f32⟩
  | 117 => ⟨S8x1024x32x64, .f32⟩
  | 118 => ⟨S8x1024x1x3, .f32⟩
  | 119 => ⟨S8x1024x32x3, .f32⟩
  | 120 => ⟨S8x1024x32x70, .f32⟩
  | 121 => ⟨S8x1024x32x128, .f32⟩
  | 122 => ⟨S1x1x1x128, .f32⟩
  | 123 => ⟨S8x1024x32x128, .f32⟩
  | 124 => ⟨S8x1024x32x128, .f32⟩
  | 125 => ⟨S_, .f32⟩
  | 126 => ⟨S8x1024x32x128, .f32⟩
  | 127 => ⟨S8x1024x32x128, .f32⟩
  | _ => ⟨S8x4096x3, .f32⟩

abbrev hbmTy0_1 (i : Nat) : BufTy := match i % 128 with
  | 0 => ⟨S8x1024x32x128, .f32⟩
  | 1 => ⟨S1x1x1x128, .f32⟩
  | 2 => ⟨S8x1024x32x128, .f32⟩
  | 3 => ⟨S8x1024x32x128, .f32⟩
  | 4 => ⟨S_, .f32⟩
  | 5 => ⟨S8x1024x32x128, .f32⟩
  | 6 => ⟨S8x1024x32x128, .f32⟩
  | 7 => ⟨S8x1024x32x256, .f32⟩
  | 8 => ⟨S1x1x1x256, .f32⟩
  | 9 => ⟨S8x1024x32x256, .f32⟩
  | 10 => ⟨S8x1024x32x256, .f32⟩
  | 11 => ⟨S_, .f32⟩
  | 12 => ⟨S8x1024x32x256, .f32⟩
  | 13 => ⟨S8x1024x32x256, .f32⟩
  | 14 => ⟨S_, .f32⟩
  | 15 => ⟨S8x1024x256, .f32⟩
  | 16 => ⟨S8x256x1024, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_c_2 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v7_5 : Ref sig .tc := ⟨.hbm, 27, rfl⟩
abbrev main_v7_6 : Ref sig .tc := ⟨.hbm, 28, rfl⟩
abbrev main_while0c_c_19 : Ref sig .tc := ⟨.hbm, 29, rfl⟩
abbrev main_while0c_v79 : Ref sig .tc := ⟨.hbm, 30, rfl⟩
abbrev main_while0b_v79 : Ref sig .tc := ⟨.hbm, 31, rfl⟩
abbrev main_while0b_c_19 : Ref sig .tc := ⟨.hbm, 32, rfl⟩
abbrev main_while0b_v80 : Ref sig .tc := ⟨.hbm, 33, rfl⟩
abbrev main_while0b_v81 : Ref sig .tc := ⟨.hbm, 34, rfl⟩
abbrev main_while0b_c_20 : Ref sig .tc := ⟨.hbm, 35, rfl⟩
abbrev main_while0b_v82 : Ref sig .tc := ⟨.hbm, 36, rfl⟩
abbrev main_while0b_v83 : Ref sig .tc := ⟨.hbm, 37, rfl⟩
abbrev main_while0b_v84 : Ref sig .tc := ⟨.hbm, 38, rfl⟩
abbrev main_while0b_v85 : Ref sig .tc := ⟨.hbm, 39, rfl⟩
abbrev main_while0b_v86 : Ref sig .tc := ⟨.hbm, 40, rfl⟩
abbrev main_while0b_v87 : Ref sig .tc := ⟨.hbm, 41, rfl⟩
abbrev main_while0b_v88 : Ref sig .tc := ⟨.hbm, 42, rfl⟩
abbrev main_while0b_v89 : Ref sig .tc := ⟨.hbm, 43, rfl⟩
abbrev main_while0b_v90 : Ref sig .tc := ⟨.hbm, 44, rfl⟩
abbrev main_while0b_cst_21 : Ref sig .tc := ⟨.hbm, 45, rfl⟩
abbrev main_while0b_v91 : Ref sig .tc := ⟨.hbm, 46, rfl⟩
abbrev main_while0b_v92 : Ref sig .tc := ⟨.hbm, 47, rfl⟩
abbrev main_while0b_call0_v0 : Ref sig .tc := ⟨.hbm, 48, rfl⟩
abbrev main_while0b_call0_cst : Ref sig .tc := ⟨.hbm, 49, rfl⟩
abbrev main_while0b_call0_c : Ref sig .tc := ⟨.hbm, 50, rfl⟩
abbrev main_while0b_call0_v1_0 : Ref sig .tc := ⟨.hbm, 51, rfl⟩
abbrev main_while0b_v93 : Ref sig .tc := ⟨.hbm, 52, rfl⟩
abbrev main_while0b_call1_v0 : Ref sig .tc := ⟨.hbm, 53, rfl⟩
abbrev main_while0b_call1_c : Ref sig .tc := ⟨.hbm, 54, rfl⟩
abbrev main_while0b_v94 : Ref sig .tc := ⟨.hbm, 55, rfl⟩
abbrev main_while0b_c_22 : Ref sig .tc := ⟨.hbm, 56, rfl⟩
abbrev main_while0b_v95 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_c_3 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_4 : Ref sig .tc := ⟨.hbm, 70, rfl⟩
abbrev main_v19 : Ref sig .tc := ⟨.hbm, 71, rfl⟩
abbrev main_v20 : Ref sig .tc := ⟨.hbm, 72, rfl⟩
abbrev main_c_5 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_c_6 : Ref sig .tc := ⟨.hbm, 81, rfl⟩
abbrev main_v28 : Ref sig .tc := ⟨.hbm, 82, rfl⟩
abbrev main_v29 : Ref sig .tc := ⟨.hbm, 83, rfl⟩
abbrev main_c_7 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_c_8 : Ref sig .tc := ⟨.hbm, 94, rfl⟩
abbrev main_v39 : Ref sig .tc := ⟨.hbm, 95, rfl⟩
abbrev main_v40 : Ref sig .tc := ⟨.hbm, 96, rfl⟩
abbrev main_c_9 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_c_10 : Ref sig .tc := ⟨.hbm, 108, rfl⟩
abbrev main_v51 : Ref sig .tc := ⟨.hbm, 109, rfl⟩
abbrev main_v52 : Ref sig .tc := ⟨.hbm, 110, rfl⟩
abbrev main_c_11 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_call2_cst : Ref sig .tc := ⟨.hbm, 125, rfl⟩
abbrev main_call2_v0 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call3_cst : Ref sig .tc := ⟨.hbm, 132, rfl⟩
abbrev main_call3_v0 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_call4_cst : Ref sig .tc := ⟨.hbm, 139, rfl⟩
abbrev main_call4_v0 : Ref sig .tc := ⟨.hbm, 140, rfl⟩
abbrev main_v76 : Ref sig .tc := ⟨.hbm, 141, rfl⟩
abbrev main_cst_12 : Ref sig .tc := ⟨.hbm, 142, rfl⟩
abbrev main_v77 : Ref sig .tc := ⟨.hbm, 143, rfl⟩
abbrev main_v78 : Ref sig .tc := ⟨.hbm, 144, rfl⟩

abbrev nD : Nat := 1
abbrev τ : Topo := Topo.v7x

variable {F : FTy → Type} [FloatOps F]

abbrev main_while0_count : Scf.Loop 32 := ⟨0#32, 1023#32, 1#32⟩
-- ==== Proof.SamplingRefOps.lean ====
/-
  The sampling as a program of its own.  The reference of the sampling, run.  Its program is a line of host operations, one
  counted host loop of 1023 steps, and a second line of host operations; the state between two steps of the loop is one
  valuation of the core's buffers.
-/
module

public import proofs.«01_k».proof.Proof.Gen.SamplingReferenceIdeal
public import Idealize.ShloMosaic.Lib.StableHlo.Run
public import Idealize.ShloMosaic.Lib.HostLoop.Rules

@[expose] public section

noncomputable section

namespace Cert.SamplingReferenceIdeal.Run

open Cert.SamplingReferenceIdeal Cert.SamplingReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## The operations -/

/-- The operations before the loop: the flat rows, the rows' base numbers, and the loop's first values. -/
abbrev preOps : List (HloOp τ sig (Elt F)) :=
  [ reshape main_arg0 main_v0 (rfl : (.f32 : EltTy) = .f32) shapeCasts_S8x4096x3_S32768x3,
    nullary main_v1 (iotaInDim S8 32 0),
    nullary main_c (constantI S_ 32 4096#32),
    unary main_c main_v2 (broadcastInDim S8 ![] bcast_S_S8 : (⟨S_, .i32⟩ : BufTy).Contents (Elt F) → (⟨S8, .i32⟩ : BufTy).Contents (Elt F)),
    binary main_v1 main_v2 main_v3 (muli : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v4 (broadcastInDim S8 ![] bcast_S_S8 : (⟨S_, .i32⟩ : BufTy).Contents (Elt F) → (⟨S8, .i32⟩ : BufTy).Contents (Elt F)),
    nullary main_cst (constant S_ .f32 0x501502F9#32),
    unary main_cst main_v5 (broadcastInDim S8x4096 ![] bcast_S_S8x4096 : (⟨S_, .f32⟩ : BufTy).Contents (Elt F) → (⟨S8x4096, .f32⟩ : BufTy).Contents (Elt F)),
    nullary main_c_1 (constantI S_ 32 0#32),
    unary main_c_1 main_v6 (broadcastInDim S1023x8 ![] bcast_S_S1023x8 : (⟨S_, .i32⟩ : BufTy).Contents (Elt F) → (⟨S1023x8, .i32⟩ : BufTy).Contents (Elt F)),
    nullary main_c_2 (constantI S_ 32 0#32),
    unary main_v3 main_v7_0 id,
    unary main_v0 main_v7_1 id,
    unary main_arg0 main_v7_2 id,
    unary main_c_2 main_v7_3 id,
    unary main_v5 main_v7_4 id,
    unary main_v4 main_v7_5 id,
    unary main_v6 main_v7_6 id ]

/-- The loop's test: the counter against 1023. -/
abbrev condOps : List (HloOp τ sig (Elt F)) :=
  [ nullary main_while0c_c_14 (constantI S_ 32 1023#32),
    binary main_v7_3 main_while0c_c_14 main_while0c_v36 (cmpi .slt : (⟨S_, .i32⟩ : BufTy).Contents (Elt F) → (⟨S_, .i32⟩ : BufTy).Contents (Elt F) → (⟨S_, .i1⟩ : BufTy).Contents (Elt F)) ]

/-- One step of the loop: distances to the last chosen point, their minimum with the old ones, the farthest point. -/
abbrev bodyOps : List (HloOp τ sig (Elt F)) :=
  [ binary main_v7_0 main_v7_5 main_while0b_v36 (addi : (⟨S8, .i32⟩ : BufTy).Contents (Elt F) → (⟨S8, .i32⟩ : BufTy).Contents (Elt F) → (⟨S8, .i32⟩ : BufTy).Contents (Elt F)),
    nullary main_while0b_c_14 (constantI S_ 32 0#32),
    unary main_while0b_c_14 main_while0b_v37 (broadcastInDim S8 ![] bcast_S_S8 : (⟨S_, .i32⟩ : BufTy).Contents (Elt F) → (⟨S8, .i32⟩ : BufTy).Contents (Elt F)),
    binary main_while0b_v36 main_while0b_v37 main_while0b_v38 (cmpi .slt : (⟨S8, .i32⟩ : BufTy).Contents (Elt F) → (⟨S8, .i32⟩ : BufTy).Contents (Elt F) → (⟨S8, .i1⟩ : BufTy).Contents (Elt F)),
    nullary main_while0b_c_15 (constantI S_ 32 32768#32),
    unary main_while0b_c_15 main_while0b_v39 (broadcastInDim S8 ![] bcast_S_S8 : (⟨S_, .i32⟩ : BufTy).Contents (Elt F) → (⟨S8, .i32⟩ : BufTy).Contents (Elt F)),
    binary main_while0b_v36 main_while0b_v39 main_while0b_v40 (addi : (⟨S8, .i32⟩ : BufTy).Contents (Elt F) → (⟨S8, .i32⟩ : BufTy).Contents (Elt F) → (⟨S8, .i32⟩ : BufTy).Contents (Elt F)),
    ternary main_while0b_v38 main_while0b_v40 main_while0b_v36 main_while0b_v41 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v41 main_while0b_v42 (broadcastInDim S8x1 ![0] bcast_S8_S8x1_0 : (⟨S8, .i32⟩ : BufTy).Contents (Elt F) → (⟨S8x1, .i32⟩ : BufTy).Contents (Elt F)),
    binary main_v7_1 main_while0b_v42 main_while0b_v43 ((fun x i => Host.gather gather_S32768x3_S8x1_S8x3_1_0_n_n_0_1_13 x i) : (⟨S32768x3, .f32⟩ : BufTy).Contents (Elt F) → (⟨S8x1, .i32⟩ : BufTy).Contents (Elt F) → (⟨S8x3, .f32⟩ : BufTy).Contents (Elt F)),
    unary main_while0b_v43 main_while0b_v44 (broadcastInDim S8x1x3 ![0, 2] bcast_S8x3_S8x1x3_0_2 : (⟨S8x3, .f32⟩ : BufTy).Contents (Elt F) → (⟨S8x1x3, .f32⟩ : BufTy).Contents (Elt F)),
    unary main_while0b_v44 main_while0b_v45 (broadcastInDim S8x4096x3 ![0, 1, 2] bcast_S8x1x3_S8x4096x3_0_1_2 : (⟨S8x1x3, .f32⟩ : BufTy).Contents (Elt F) → (⟨S8x4096x3, .f32⟩ : BufTy).Contents (Elt F)),
    binary main_v7_2 main_while0b_v45 main_while0b_v46 (subf : (⟨S8x4096x3, .f32⟩ : BufTy).Contents (Elt F) → (⟨S8x4096x3, .f32⟩ : BufTy).Contents (Elt F) → (⟨S8x4096x3, .f32⟩ : BufTy).Contents (Elt F)),
    binary main_while0b_v46 main_while0b_v46 main_while0b_v47 (mulf : (⟨S8x4096x3, .f32⟩ : BufTy).Contents (Elt F) → (⟨S8x4096x3, .f32⟩ : BufTy).Contents (Elt F) → (⟨S8x4096x3, .f32⟩ : BufTy).Contents (Elt F)),
    nullary main_while0b_cst_16 (constant S_ .f32 0x00000000#32),
    binary main_while0b_v47 main_while0b_cst_16 main_while0b_v48 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v7_4 main_while0b_v48 main_while0b_v49 (minimumf : (⟨S8x4096, .f32⟩ : BufTy).Contents (Elt F) → (⟨S8x4096, .f32⟩ : BufTy).Contents (Elt F) → (⟨S8x4096, .f32⟩ : BufTy).Contents (Elt F)),
    TRef.nullary main_while0b_call0.v0 (iotaInDim S8x4096 32 1),
    TRef.nullary main_while0b_call0.cst (constant S_ .f32 0xFF800000#32),
    TRef.nullary main_while0b_call0.c (constantI S_ 32 0#32),
    TRef.quaternary (TRef.of (T := ⟨S8x4096, .f32⟩) main_while0b_v49) main_while0b_call0.v0 main_while0b_call0.cst main_while0b_call0.c main_while0b_call0.v1_0 (fun x y u v j => (Host.argReduce reducer_argmax_f32_i32 x y u v reducesTo_S8x4096_S8_d1 h_S_ j).1),
    TRef.quaternary (TRef.of (T := ⟨S8x4096, .f32⟩) main_while0b_v49) main_while0b_call0.v0 main_while0b_call0.cst main_while0b_call0.c main_while0b_call0.v1_1 (fun x y u v j => (Host.argReduce reducer_argmax_f32_i32 x y u v reducesTo_S8x4096_S8_d1 h_S_ j).2),
    TRef.unary (TRef.of (T := ⟨S8, .i32⟩) main_while0b_v50) main_while0b_call1.v0 (broadcastInDim S1x8 ![1] bcast_S8_S1x8_1),
    TRef.nullary main_while0b_call1.c (constantI S_ 32 0#32),
    TRef.binaryIndexed (TRef.of (T := ⟨S1023x8, .i32⟩) main_v7_6) main_while0b_call1.v0 ![(TRef.of (T := ⟨S_, .i32⟩) main_v7_3), main_while0b_call1.c] main_while0b_call1.v1 (fun x u i => Host.dynamicUpdateSlice x u (fun k => (i k (Shape.Idx.first h_S_)).toInt) updateFits_S1023x8_S1x8),
    nullary main_while0b_c_17 (constantI S_ 32 1#32),
    binary main_v7_3 main_while0b_c_17 main_while0b_v52 (addi : (⟨S_, .i32⟩ : BufTy).Contents (Elt F) → (⟨S_, .i32⟩ : BufTy).Contents (Elt F) → (⟨S_, .i32⟩ : BufTy).Contents (Elt F)),
    unary main_while0b_v52 main_v7_3 id,
    unary main_while0b_v49 main_v7_4 id,
    unary main_while0b_v50 main_v7_5 id,
    unary main_while0b_v51 main_v7_6 id ]

/-- The operations after the loop: the chosen points' rows of the two arrays. -/
abbrev postOps : List (HloOp τ sig (Elt F)) :=
  [ unary main_v4 main_v8 (broadcastInDim S1x8 ![1] bcast_S8_S1x8_1 : (⟨S8, .i32⟩ : BufTy).Contents (Elt F) → (⟨S1x8, .i32⟩ : BufTy).Contents (Elt F)),
    binary main_v8 main_v7_6 main_v9 ((fun a b => concatenate S1024x8 0 [⟨S1x8, a⟩, ⟨S1023x8, b⟩] concatenates_S1x8_S1023x8_S1024x8_d0) : (⟨S1x8, .i32⟩ : BufTy).Contents (Elt F) → (⟨S1023x8, .i32⟩ : BufTy).Contents (Elt F) → (⟨S1024x8, .i32⟩ : BufTy).Contents (Elt F)),
    unary main_v9 main_v10 ((transpose S8x1024 [1, 0] · transposes_S1024x8_S8x1024_1_0) : (⟨S1024x8, .i32⟩ : BufTy).Contents (Elt F) → (⟨S8x1024, .i32⟩ : BufTy).Contents (Elt F)),
    nullary main_v11 (iotaInDim S8 32 0),
    unary main_v11 main_v12 (broadcastInDim S8x1 ![0] bcast_S8_S8x1_0 : (⟨S8, .i32⟩ : BufTy).Contents (Elt F) → (⟨S8x1, .i32⟩ : BufTy).Contents (Elt F)),
    nullary main_c_3 (constantI S_ 32 4096#32),
    unary main_c_3 main_v13 (broadcastInDim S8x1 ![] bcast_S_S8x1 : (⟨S_, .i32⟩ : BufTy).Contents (Elt F) → (⟨S8x1, .i32⟩ : BufTy).Contents (Elt F)),
    binary main_v12 main_v13 main_v14 (muli : (⟨S8x1, .i32⟩ : BufTy).Contents (Elt F) → (⟨S8x1, .i32⟩ : BufTy).Contents (Elt F) → (⟨S8x1, .i32⟩ : BufTy).Contents (Elt F)),
    unary main_v14 main_v15 (broadcastInDim S8x1024 ![0, 1] bcast_S8x1_S8x1024_0_1 : (⟨S8x1, .i32⟩ : BufTy).Contents (Elt F) → (⟨S8x1024, .i32⟩ : BufTy).Contents (Elt F)),
    binary main_v10 main_v15 main_v16 (addi : (⟨S8x1024, .i32⟩ : BufTy).Contents (Elt F) → (⟨S8x1024, .i32⟩ : BufTy).Contents (Elt F) → (⟨S8x1024, .i32⟩ : BufTy).Contents (Elt F)),
    reshape main_v16 main_v17 (rfl : (.i32 : EltTy) = .i32) shapeCasts_S8x1024_S8192,
    reshape main_arg0 main_v18 (rfl : (.f32 : EltTy) = .f32) shapeCasts_S8x4096x3_S32768x3,
    nullary main_c_4 (constantI S_ 32 0#32),
    unary main_c_4 main_v19 (broadcastInDim S8192 ![] bcast_S_S8192 : (⟨S_, .i32⟩ : BufTy).Contents (Elt F) → (⟨S8192, .i32⟩ : BufTy).Contents (Elt F)),
    binary main_v17 main_v19 main_v20 (cmpi .slt : (⟨S8192, .i32⟩ : BufTy).Contents (Elt F) → (⟨S8192, .i32⟩ : BufTy).Contents (Elt F) → (⟨S8192, .i1⟩ : BufTy).Contents (Elt F)),
    nullary main_c_5 (constantI S_ 32 32768#32),
    unary main_c_5 main_v21 (broadcastInDim S8192 ![] bcast_S_S8192 : (⟨S_, .i32⟩ : BufTy).Contents (Elt F) → (⟨S8192, .i32⟩ : BufTy).Contents (Elt F)),
    binary main_v17 main_v21 main_v22 (addi : (⟨S8192, .i32⟩ : BufTy).Contents (Elt F) → (⟨S8192, .i32⟩ : BufTy).Contents (Elt F) → (⟨S8192, .i32⟩ : BufTy).Contents (Elt F)),
    ternary main_v20 main_v22 main_v17 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v23 main_v24 (broadcastInDim S8192x1 ![0] bcast_S8192_S8192x1_0 : (⟨S8192, .i32⟩ : BufTy).Contents (Elt F) → (⟨S8192x1, .i32⟩ : BufTy).Contents (Elt F)),
    binary main_v18 main_v24 main_v25 ((fun x i => Host.gather gather_S32768x3_S8192x1_S8192x3_1_0_n_n_0_1_13 x i) : (⟨S32768x3, .f32⟩ : BufTy).Contents (Elt F) → (⟨S8192x1, .i32⟩ : BufTy).Contents (Elt F) → (⟨S8192x3, .f32⟩ : BufTy).Contents (Elt F)),
    reshape main_v25 main_v26 (rfl : (.f32 : EltTy) = .f32) shapeCasts_S8192x3_S8x1024x3,
    reshape main_arg1 main_v27 (rfl : (.f32 : EltTy) = .f32) shapeCasts_S8x4096x3_S32768x3,
    nullary main_c_6 (constantI S_ 32 0#32),
    unary main_c_6 main_v28 (broadcastInDim S8192 ![] bcast_S_S8192 : (⟨S_, .i32⟩ : BufTy).Contents (Elt F) → (⟨S8192, .i32⟩ : BufTy).Contents (Elt F)),
    binary main_v17 main_v28 main_v29 (cmpi .slt : (⟨S8192, .i32⟩ : BufTy).Contents (Elt F) → (⟨S8192, .i32⟩ : BufTy).Contents (Elt F) → (⟨S8192, .i1⟩ : BufTy).Contents (Elt F)),
    nullary main_c_7 (constantI S_ 32 32768#32),
    unary main_c_7 main_v30 (broadcastInDim S8192 ![] bcast_S_S8192 : (⟨S_, .i32⟩ : BufTy).Contents (Elt F) → (⟨S8192, .i32⟩ : BufTy).Contents (Elt F)),
    binary main_v17 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v17 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v32 main_v33 (broadcastInDim S8192x1 ![0] bcast_S8192_S8192x1_0 : (⟨S8192, .i32⟩ : BufTy).Contents (Elt F) → (⟨S8192x1, .i32⟩ : BufTy).Contents (Elt F)),
    binary main_v27 main_v33 main_v34 ((fun x i => Host.gather gather_S32768x3_S8192x1_S8192x3_1_0_n_n_0_1_13 x i) : (⟨S32768x3, .f32⟩ : BufTy).Contents (Elt F) → (⟨S8192x1, .i32⟩ : BufTy).Contents (Elt F) → (⟨S8192x3, .f32⟩ : BufTy).Contents (Elt F)),
    reshape main_v34 main_v35 (rfl : (.f32 : EltTy) = .f32) shapeCasts_S8192x3_S8x1024x3 ]

/-- The program is its first line, the loop, and its second line. -/
theorem main_eq (c : Dev nD) :
    main (F := F) c = (seq preOps >>= fun _ => HostLoop.enter 0 >>= fun _ => seq postOps) := rfl

/-- A step of the loop is its line. -/
theorem body_eq : main_while0_body (F := F) = seq bodyOps := rfl

end Cert.SamplingReferenceIdeal.Run

end
-- ==== Proof.SamplingRefRun.lean ====
/-
  The sampling as a program of its own.  The reference of the sampling terminates, and what its core's buffers hold at the
  end: the valuation the first line leaves, 1023 steps of the loop from it, the last test, the second line.
-/
module

public import proofs.«01_k».proof.Proof.SamplingRefOps

@[expose] public section

noncomputable section

namespace Cert.SamplingReferenceIdeal.Run

open Cert.SamplingReferenceIdeal Cert.SamplingReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

local notation "𝕄" => MT nD τ sig Unit (Elt F) ℕ (Option PUnit) Unit

/-! ## Side facts of the lines -/

theorem scopedRefs_none : (Finset.univ.filter fun b : Ref sig .tc => b.isScoped) = ∅ := by decide
theorem scopedSems_none : (Finset.univ.filter fun sm : SemLoc sig => sm.isScoped .tc) = ∅ := by decide

set_option maxRecDepth 8192 in
theorem pre_bufs : ∀ op ∈ (preOps : List (HloOp τ sig (Elt F))), op.bufs ⊆ tcRefs τ sig := by
  intro op h; fin_cases h <;> simp
theorem pre_fresh : ∀ op ∈ (preOps : List (HloOp τ sig (Elt F))), op.fresh = ∅ := by
  intro op h; fin_cases h <;> rfl
set_option maxRecDepth 8192 in
theorem body_bufs : ∀ op ∈ (bodyOps : List (HloOp τ sig (Elt F))), op.bufs ⊆ tcRefs τ sig := by
  intro op h; fin_cases h <;> simp [TRef.nullary, TRef.unary, TRef.quaternary, TRef.binaryIndexed]
theorem body_fresh : ∀ op ∈ (bodyOps : List (HloOp τ sig (Elt F))), op.fresh = ∅ := by
  intro op h; fin_cases h <;> rfl
set_option maxRecDepth 8192 in
theorem post_bufs : ∀ op ∈ (postOps : List (HloOp τ sig (Elt F))), op.bufs ⊆ tcRefs τ sig := by
  intro op h; fin_cases h <;> simp
theorem post_fresh : ∀ op ∈ (postOps : List (HloOp τ sig (Elt F))), op.fresh = ∅ := by
  intro op h; fin_cases h <;> rfl

/-! ## The loop's valuations -/

/-- The valuation before the `k`-th test. -/
def Wk (W : Valuation τ sig (Elt F)) : ℕ → Valuation τ sig (Elt F)
  | 0 => W
  | k + 1 => after bodyOps (after condOps (Wk W k))

/-- A step adds one to the counter. -/
theorem step_ctr (W : Valuation τ sig (Elt F)) :
    after bodyOps (after condOps W) main_v7_3 = addi (W main_v7_3) (constantI S_ 32 1#32) := by
  simp only [bodyOps, condOps, TRef.nullary, TRef.unary, TRef.quaternary, TRef.binaryIndexed, TRef.toBuf, TRef.ofBuf, cast_eq]
  after_results_simp
  rfl

/-- So the counter before the `k`-th test is `k`. -/
theorem ctr (W : Valuation τ sig (Elt F)) (h0 : W main_v7_3 = constantI S_ 32 0#32) :
    ∀ k, Wk W k main_v7_3 = fun _ => BitVec.ofNat 32 k
  | 0 => h0
  | k + 1 => by
    rw [Wk, step_ctr, ctr W h0 k]
    funext i
    show BitVec.ofNat 32 k + 1#32 = BitVec.ofNat 32 (k + 1)
    rw [BitVec.ofNat_add]

/-- The test reads one exactly while steps remain. -/
theorem test_iff {k : ℕ} (h : k ≤ 1023) : IntOp.cmpi .slt (BitVec.ofNat 32 k) 1023#32 = 1#1 ↔ k < 1023 := by
  have e : (BitVec.ofNat 32 k).toInt = (k : ℤ) := by
    rw [BitVec.toInt_eq_toNat_of_lt (by simp [BitVec.toNat_ofNat]; omega), BitVec.toNat_ofNat, Nat.mod_eq_of_lt (by omega)]
  have e' : (1023#32 : BitVec 32).toInt = 1023 := by decide
  unfold IntOp.cmpi
  simp only [BitVec.slt, e, e']
  by_cases h' : k < 1023
  · simp [h']
  · simp [h']

/-- What the core's buffers hold at the end. -/
def Wend (m : (ℓ : Loc nD τ sig) → Buf (Elt F) ℓ) (d : Dev nD) : Valuation τ sig (Elt F) :=
  after postOps (after condOps (Wk (after preOps (launchContents m d)) 1023))

theorem pre_ctr (W : Valuation τ sig (Elt F)) : after preOps W main_v7_3 = constantI S_ 32 0#32 := by
  after_results_simp
  rfl

/-! ## The run -/

set_option backward.isDefEq.respectTransparency.types false in
/-- The test, from any valuation whose counter is `k`. -/
theorem wp_test (d : Dev nD) (bd : Option Variants.nat.V) (W : Valuation τ sig (Elt F)) {k : ℕ} (hk : k ≤ 1023)
    (hW : W main_v7_3 = fun _ => BitVec.ofNat 32 k) :
    iprop(boundary (d.tc : Thread nD τ) ∗ held (d.tc : Thread nD τ) (tcRefs τ sig) W)
      ⊢ wp frame (wpE (defs (F := F)) Variants.nat (d.tc : Thread nD τ) bd) Set.univ (main_while0_cond (F := F))
          (fun v => iprop(⌜v = 1#1 ↔ k < 1023⌝ ∗ boundary (d.tc : Thread nD τ) ∗ held (d.tc : Thread nD τ) (tcRefs τ sig) (after condOps W)) : _ → sProp 𝕄) := by
  unfold main_while0_cond
  simp only [wp_bind]
  iintro H
  iapply (wp_hlo_within Variants.nat (d.tc : Thread nD τ) bd Set.univ (nullary_bufs_sub _ _ _)) $$ H
  iintro H
  rw [wp_ret]; imodintro
  iapply (wp_hlo_within Variants.nat (d.tc : Thread nD τ) bd Set.univ (binary_bufs_sub _ _ _ _ _ _ _)) $$ H
  iintro H
  rw [HostLoop.elt_apply, wp_ret]; imodintro
  isplitr
  · ipureintro
    refine Iff.trans (iff_of_eq (congrArg (· = 1#1) ?_)) (test_iff hk)
    show IntOp.cmpi .slt ((nullary main_while0c_c_14 (constantI S_ 32 1023#32)).result W main_v7_3 HostLoop.idx0)
      ((nullary main_while0c_c_14 (constantI S_ 32 1023#32)).result W main_while0c_c_14 HostLoop.idx0) = _
    rw [nullary_result_ne _ _ _ _ (by decide), nullary_result, hW]
    rfl
  · iexact H

set_option backward.isDefEq.respectTransparency.types false in
/-- A step, from any valuation. -/
theorem wp_step (d : Dev nD) (bd : Option Variants.nat.V) (W : Valuation τ sig (Elt F)) :
    iprop(boundary (d.tc : Thread nD τ) ∗ held (d.tc : Thread nD τ) (tcRefs τ sig) W)
      ⊢ wp frame (wpE (defs (F := F)) Variants.nat (d.tc : Thread nD τ) bd) Set.univ (main_while0_body (F := F))
          (fun _ => iprop(boundary (d.tc : Thread nD τ) ∗ held (d.tc : Thread nD τ) (tcRefs τ sig) (after bodyOps W)) : _ → sProp 𝕄) := by
  rw [body_eq, show seq (Λ := HostLoop.Sig _ 1) (nD := nD) (bodyOps (F := F)) = (seq bodyOps >>= fun u => Pure.pure u) from (bind_pure _).symm]
  iintro H
  iapply (wp_seq Variants.nat bd Set.univ d (tcRefs τ sig) (fun u => Pure.pure u) bodyOps body_bufs body_fresh W) $$ H
  iintro H
  rw [wp_pure]; imodintro
  iexact H

set_option backward.isDefEq.respectTransparency.types false in
/-- The program, from the launch's buffers. -/
theorem wp_main (d : Dev nD) (W : Valuation τ sig (Elt F)) :
    iprop(boundary (d.tc : Thread nD τ) ∗ held (d.tc : Thread nD τ) (tcRefs τ sig) W)
      ⊢ wp frame (wpE (defs (F := F)) Variants.nat (d.tc : Thread nD τ) none) Set.univ (main (F := F) d)
          (fun _ => iprop(boundary (d.tc : Thread nD τ) ∗ held (d.tc : Thread nD τ) (tcRefs τ sig)
            (after postOps (after condOps (Wk (after preOps W) 1023)))) : _ → sProp 𝕄) := by
  have hc := ctr (after preOps W) (pre_ctr W)
  rw [main_eq]
  iintro H
  iapply (wp_seq Variants.nat none Set.univ d (tcRefs τ sig) _ preOps pre_bufs pre_fresh W) $$ H
  iintro H
  iapply (HostLoop.wp_enter (cond := main_while0_cond (F := F)) (body := main_while0_body (F := F)) Variants.nat (d.tc : Thread nD τ) none Set.univ rfl 1023
    (fun k => iprop(boundary (d.tc : Thread nD τ) ∗ held (d.tc : Thread nD τ) (tcRefs τ sig) (Wk (after preOps W) k)))
    (fun k => iprop(boundary (d.tc : Thread nD τ) ∗ held (d.tc : Thread nD τ) (tcRefs τ sig) (after condOps (Wk (after preOps W) k))))
    (fun k => (1023 - k : ℕ))
    (fun k hk bd' => wp_test d bd' _ hk (hc k))
    (fun k _ => wp_step d _ _)
    (fun k hk => (by omega : 1023 - (k + 1) < 1023 - k))
    (fun u hu => nomatch hu))
  isplitl [H]
  · iexact H
  iintro H
  rw [show seq (Λ := HostLoop.Sig _ 1) (nD := nD) (postOps (F := F)) = (seq postOps >>= fun u => Pure.pure u) from (bind_pure _).symm]
  iapply (wp_seq Variants.nat none Set.univ d (tcRefs τ sig) (fun u => Pure.pure u) postOps post_bufs post_fresh _) $$ H
  iintro H
  rw [wp_pure]; imodintro
  iexact H

/-- What each core ends holding. -/
def held_end (m : (ℓ : Loc nD τ sig) → Buf (Elt F) ℓ) (d : Dev nD) : sProp 𝕄 :=
  held (d.tc : Thread nD τ) (tcRefs τ sig) (Wend m d)

set_option backward.isDefEq.respectTransparency.types false in
theorem from_launch (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.nat (d.tc : Thread nD τ) none) Set.univ (main (F := F) d)
          (fun _ => post (liftTc (held_end m) BI.emp) (d.tc : Thread nD τ) : PUnit → sProp 𝕄) := by
  have hb : (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
    unfold held tcRefs; rw [bigSep_map]; rfl
  have hi : (opIdle (d.tc : Thread nD τ) : sProp 𝕄) ⊢ boundary (d.tc : Thread nD τ) :=
    boundary_of_opIdle (d.tc : Thread nD τ) (by rw [scopedRefs_tc, scopedRefs_none, Finset.map_empty])
      (by rw [show (d.tc : Thread nD τ) = (d, .tc) from rfl, scopedCells_tc, scopedSems_none, Finset.map_empty])
  rw [hb]
  iintro ⟨Hbufs, HO, -, Hidle⟩
  ihave Hb := hi $$ Hidle
  iapply (wp_wand_r frame (wpE (defs (F := F)) Variants.nat (d.tc : Thread nD τ) none) Set.univ)
  isplitl [Hb Hbufs]
  · iapply (wp_main d (launchContents m d))
    isplitl [Hb]; · iexact Hb
    iexact Hbufs
  iintro %u ⟨-, H⟩
  unfold post held_end Wend; simp only [liftTc_tc]
  isplitl [H]; · iexact H
  iexists ∅; iexact HO

theorem end_reads (m : (ℓ : Loc nD τ sig) → Buf (Elt F) ℓ) (d : Dev nD) (s' : Phys nD τ sig (Elt F)) :
    iprop(held_end m d ∗ SI s') ⊢ (⌜∀ b : Ref sig .tc, s'.mem.mem ((d.tc : Thread nD τ).loc b) = Wend m d b⌝ : sProp 𝕄) := by
  unfold held_end held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-- Every fair execution terminates, with each buffer of the core at the last valuation. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = Wend m d b :=
  adequate_tpu defs _ _ _ (reflect_intro_silent_tc (Ix := Unit) (Name := ℕ) (U := Option PUnit) (Lvl := Unit)
    Variants.nat (fun _ => le_rfl) none (held_end m)
    (fun d mem => ∀ b : Ref sig .tc, mem.mem ((d.tc : Thread nD τ).loc b) = Wend m d b)
    (from_launch m ρ) (end_reads m) (fun _ h d => h d))

end Cert.SamplingReferenceIdeal.Run

end
-- ==== Proof.SamplingRefVal.lean ====
/-
  The sampling as a program of its own.  What a step of the reference's loop, and its second line of operations, leave: each
  as a term of what they find.
-/
module

public import proofs.«01_k».proof.Proof.SamplingRefRun
public import Idealize.ShloMosaic.Lib.StableHlo.RunClose

@[expose] public section

noncomputable section

namespace Cert.SamplingReferenceIdeal.Run

open Cert.SamplingReferenceIdeal Cert.SamplingReferenceIdeal.Gen

open Idealize.ShloMosaic
open Idealize.ShloMosaic.TcCoe
open Idealize.ShloMosaic.StableHlo

variable {F : FTy → Type} [FloatOps F]

/-- The row numbers of the last chosen points, negative ones counted from the end. -/
def lastRow (base last : IVec S8 32) : IVec S8 32 :=
  select (cmpi .slt (addi base last) (broadcastInDim S8 ![] bcast_S_S8 (constantI S_ 32 0#32)))
    (addi (addi base last) (broadcastInDim S8 ![] bcast_S_S8 (constantI S_ 32 32768#32))) (addi base last)

/-- The differences to the last chosen points. -/
def diff (base last : IVec S8 32) (rows : FVec F S32768x3 .f32) (x : FVec F S8x4096x3 .f32) : FVec F S8x4096x3 .f32 :=
  subf x (broadcastInDim S8x4096x3 ![0, 1, 2] bcast_S8x1x3_S8x4096x3_0_1_2 (broadcastInDim S8x1x3 ![0, 2] bcast_S8x3_S8x1x3_0_2
    (Host.gather gather_S32768x3_S8x1_S8x3_1_0_n_n_0_1_13 rows (broadcastInDim S8x1 ![0] bcast_S8_S8x1_0 (lastRow base last)))))

/-- The distances after a step. -/
def newDist (base last : IVec S8 32) (rows : FVec F S32768x3 .f32) (x : FVec F S8x4096x3 .f32) (dist : FVec F S8x4096 .f32) : FVec F S8x4096 .f32 :=
  minimumf dist (Host.reduceAdd (mulf (diff base last rows x) (diff base last rows x)) (constant S_ .f32 0x00000000#32) reducesTo_S8x4096x3_S8x4096_d2 h_S_)

/-- The farthest points. -/
def farthest (dist : FVec F S8x4096 .f32) : IVec S8 32 := fun j =>
  (Host.argReduce reducer_argmax_f32_i32 dist (iotaInDim S8x4096 32 1) (constant S_ .f32 0xFF800000#32) (constantI S_ 32 0#32) reducesTo_S8x4096_S8_d1 h_S_ j).2

/-- The list of chosen points with one more. -/
def record (list : IVec S1023x8 32) (n : IVec S_ 32) (last : IVec S8 32) : IVec S1023x8 32 :=
  Host.dynamicUpdateSlice list (broadcastInDim S1x8 ![1] bcast_S8_S1x8_1 last)
    (fun k => ((![n, constantI S_ 32 0#32] : Fin 2 → IVec S_ 32) k (Shape.Idx.first h_S_)).toInt) updateFits_S1023x8_S1x8

theorem step_dist (W : Valuation τ sig (Elt F)) :
    after bodyOps (after condOps W) main_v7_4 = newDist (W main_v7_0) (W main_v7_5) (W main_v7_1) (W main_v7_2) (W main_v7_4) := by
  simp only [bodyOps, condOps, TRef.nullary, TRef.unary, TRef.quaternary, TRef.binaryIndexed, TRef.toBuf, TRef.ofBuf, cast_eq]
  after_results_simp
  rfl

theorem step_last (W : Valuation τ sig (Elt F)) :
    after bodyOps (after condOps W) main_v7_5 = farthest (newDist (W main_v7_0) (W main_v7_5) (W main_v7_1) (W main_v7_2) (W main_v7_4)) := by
  simp only [bodyOps, condOps, TRef.nullary, TRef.unary, TRef.quaternary, TRef.binaryIndexed, TRef.toBuf, TRef.ofBuf, cast_eq]
  after_results_simp
  rfl

theorem step_list (W : Valuation τ sig (Elt F)) :
    after bodyOps (after condOps W) main_v7_6 = record (W main_v7_6) (W main_v7_3)
      (farthest (newDist (W main_v7_0) (W main_v7_5) (W main_v7_1) (W main_v7_2) (W main_v7_4))) := by
  simp only [bodyOps, condOps, TRef.nullary, TRef.unary, TRef.quaternary, TRef.binaryIndexed, TRef.toBuf, TRef.ofBuf, cast_eq]
  after_results_simp_entrywise
  rfl

/-- What a step does not write. -/
theorem step_keeps (W : Valuation τ sig (Elt F)) :
    after bodyOps (after condOps W) main_v7_0 = W main_v7_0 ∧ after bodyOps (after condOps W) main_v7_1 = W main_v7_1
      ∧ after bodyOps (after condOps W) main_v7_2 = W main_v7_2 ∧ after bodyOps (after condOps W) main_v4 = W main_v4
      ∧ after bodyOps (after condOps W) main_arg0 = W main_arg0 ∧ after bodyOps (after condOps W) main_arg1 = W main_arg1 := by
  simp only [bodyOps, condOps, TRef.nullary, TRef.unary, TRef.quaternary, TRef.binaryIndexed, TRef.toBuf, TRef.ofBuf, cast_eq]
  refine ⟨?_, ?_, ?_, ?_, ?_, ?_⟩ <;> after_results_simp

/-- The chosen points' row numbers in the flat arrays. -/
def flatRows (zero : IVec S8 32) (list : IVec S1023x8 32) : IVec S8192 32 :=
  shapeCast S8192 (addi (transpose S8x1024 [1, 0] (concatenate S1024x8 0 [⟨S1x8, broadcastInDim S1x8 ![1] bcast_S8_S1x8_1 zero⟩, ⟨S1023x8, list⟩]
      concatenates_S1x8_S1023x8_S1024x8_d0) transposes_S1024x8_S8x1024_1_0)
    (broadcastInDim S8x1024 ![0, 1] bcast_S8x1_S8x1024_0_1 (muli (broadcastInDim S8x1 ![0] bcast_S8_S8x1_0 (iotaInDim S8 32 0))
      (broadcastInDim S8x1 ![] bcast_S_S8x1 (constantI S_ 32 4096#32))))) shapeCasts_S8x1024_S8192

/-- An array's rows at the chosen points. -/
def taken (rows : IVec S8192 32) (x : FVec F S8x4096x3 .f32) : FVec F S8x1024x3 .f32 :=
  shapeCast S8x1024x3 (Host.gather gather_S32768x3_S8192x1_S8192x3_1_0_n_n_0_1_13 (shapeCast S32768x3 x shapeCasts_S8x4096x3_S32768x3)
    (broadcastInDim S8192x1 ![0] bcast_S8192_S8192x1_0
      (select (cmpi .slt rows (broadcastInDim S8192 ![] bcast_S_S8192 (constantI S_ 32 0#32)))
        (addi rows (broadcastInDim S8192 ![] bcast_S_S8192 (constantI S_ 32 32768#32))) rows))) shapeCasts_S8192x3_S8x1024x3

theorem post_v26 (W : Valuation τ sig (Elt F)) :
    after postOps (after condOps W) main_v26 = taken (flatRows (W main_v4) (W main_v7_6)) (W main_arg0) := by
  simp only [postOps, condOps]
  after_results_simp
  rfl

theorem post_v35 (W : Valuation τ sig (Elt F)) :
    after postOps (after condOps W) main_v35 = taken (flatRows (W main_v4) (W main_v7_6)) (W main_arg1) := by
  simp only [postOps, condOps]
  after_results_simp
  rfl

theorem post_keeps (W : Valuation τ sig (Elt F)) :
    after postOps (after condOps W) main_arg0 = W main_arg0 ∧ after postOps (after condOps W) main_arg1 = W main_arg1 := by
  simp only [postOps, condOps]
  refine ⟨?_, ?_⟩ <;> after_results_simp

theorem pre_vals (W : Valuation τ sig (Elt F)) :
    after preOps W main_v7_0 = muli (iotaInDim S8 32 0) (broadcastInDim S8 ![] bcast_S_S8 (constantI S_ 32 4096#32))
      ∧ after preOps W main_v7_1 = shapeCast S32768x3 (W main_arg0) shapeCasts_S8x4096x3_S32768x3
      ∧ after preOps W main_v7_2 = W main_arg0
      ∧ after preOps W main_v7_4 = broadcastInDim S8x4096 ![] bcast_S_S8x4096 (constant S_ .f32 0x501502F9#32)
      ∧ after preOps W main_v7_5 = broadcastInDim S8 ![] bcast_S_S8 (constantI S_ 32 0#32)
      ∧ after preOps W main_v4 = broadcastInDim S8 ![] bcast_S_S8 (constantI S_ 32 0#32)
      ∧ after preOps W main_arg0 = W main_arg0 ∧ after preOps W main_arg1 = W main_arg1 := by
  simp only [preOps]
  refine ⟨?_, ?_, ?_, ?_, ?_, ?_, ?_, ?_⟩ <;> after_results_simp <;> rfl

end Cert.SamplingReferenceIdeal.Run

end
-- ==== Proof.SampleSpec.lean ====
/-
  Farthest-point sampling over the extended reals, as mathematics: the distances to the chosen points, the first of the
  farthest points, and the two ways a program finds it.
-/
module

public import proofs.«01_k».proof.Defs
public import Idealize.ShloMosaic.Lib.Pointwise

@[expose] public section

noncomputable section

namespace Cert.SampleSpec

open Idealize.ShloMosaic

/-- `j` is the first place where `f` is largest. -/
def IsFirst {n : ℕ} (f : Fin n → EReal) (j : Fin n) : Prop := ∀ i, f i ≤ f j ∧ (f i = f j → j ≤ i)

theorem IsFirst.unique {n : ℕ} {f : Fin n → EReal} {j k : Fin n} (hj : IsFirst f j) (hk : IsFirst f k) : j = k := by
  have e : f j = f k := le_antisymm (hk j).1 (hj k).1
  exact le_antisymm ((hj k).2 e.symm) ((hk j).2 e)

open Classical in
/-- The first place where `f` is largest. -/
def first (f : Fin 4096 → EReal) : Fin 4096 := if h : ∃ j, IsFirst f j then h.choose else 0

theorem first_eq {f : Fin 4096 → EReal} {j : Fin 4096} (h : IsFirst f j) : first f = j := by
  unfold first
  rw [dif_pos ⟨j, h⟩]
  exact IsFirst.unique (Classical.choose_spec (⟨j, h⟩ : ∃ j, IsFirst f j)) h

/-- The squared distance of point `i` to point `p`, the coordinates added from the first. -/
def sq (x : Fin 4096 → Fin 3 → EReal) (p i : Fin 4096) : EReal :=
  (x i 0 - x p 0) * (x i 0 - x p 0) + (x i 1 - x p 1) * (x i 1 - x p 1) + (x i 2 - x p 2) * (x i 2 - x p 2)

/-- The distances to the first `k` chosen points (at most `big`), and the point chosen next. -/
def state (big : EReal) (x : Fin 4096 → Fin 3 → EReal) : ℕ → (Fin 4096 → EReal) × Fin 4096
  | 0 => (fun _ => big, 0)
  | k + 1 => (fun i => min ((state big x k).1 i) (sq x (state big x k).2 i),
      first fun i => min ((state big x k).1 i) (sq x (state big x k).2 i))

/-! ## Words -/

theorem toInt_word {i : ℕ} (h : i ≤ 4096) : (BitVec.ofNat 32 i).toInt = (i : ℤ) := by
  rw [BitVec.toInt_eq_toNat_of_lt (by simp [BitVec.toNat_ofNat]; omega), BitVec.toNat_ofNat, Nat.mod_eq_of_lt (by omega)]

theorem word_inj {i j : ℕ} (hi : i ≤ 4096) (hj : j ≤ 4096) (h : BitVec.ofNat 32 i = BitVec.ofNat 32 j) : i = j := by
  have := congrArg BitVec.toInt h
  rw [toInt_word hi, toInt_word hj] at this
  exact_mod_cast this

/-! ## The kernel's way: the least lane number where the distance is the maximum -/

theorem minsi_cases (a b : BitVec 32) : (IntOp.minsi a b = a ∨ IntOp.minsi a b = b)
    ∧ (IntOp.minsi a b).toInt ≤ a.toInt ∧ (IntOp.minsi a b).toInt ≤ b.toInt := by
  unfold IntOp.minsi
  by_cases h : a.slt b
  · have h' := h
    simp only [BitVec.slt, decide_eq_true_eq] at h'
    simp [h]; omega
  · have h' := h
    simp only [BitVec.slt, decide_eq_true_eq] at h'
    simp [h]; omega

theorem fold_minsi (a : BitVec 32) {ι : Type} (g : ι → BitVec 32) (S : Finset ι) :
    (S.fold IntOp.minsi a g = a ∨ ∃ i ∈ S, S.fold IntOp.minsi a g = g i)
      ∧ ∀ i ∈ S, (S.fold IntOp.minsi a g).toInt ≤ (g i).toInt := by
  induction S using Finset.cons_induction with
  | empty => exact ⟨.inl rfl, fun i h => absurd h (Finset.notMem_empty i)⟩
  | cons i S hi ih =>
    rw [Finset.fold_cons]
    obtain ⟨hc, h1, h2⟩ := minsi_cases (g i) (S.fold IntOp.minsi a g)
    refine ⟨?_, fun k hk => ?_⟩
    · rcases hc with h | h
      · exact .inr ⟨i, Finset.mem_cons_self i S, h⟩
      · rcases ih.1 with h' | ⟨k, hk, h'⟩
        · exact .inl (h.trans h')
        · exact .inr ⟨k, Finset.mem_cons_of_mem hk, h.trans h'⟩
    · rcases Finset.mem_cons.1 hk with rfl | hk
      · exact h1
      · exact h2.trans (ih.2 k hk)

theorem fold_max (f : Fin 4096 → EReal) (a : EReal) (ha : a = ⊥) :
    (∃ i, f i = Finset.fold max a f Finset.univ) ∧ ∀ i, f i ≤ Finset.fold max a f Finset.univ := by
  subst ha
  have h : ∀ i, f i ≤ Finset.fold max ⊥ f Finset.univ := fun i => (Finset.le_fold_max _).2 (.inr ⟨i, Finset.mem_univ i, le_rfl⟩)
  refine ⟨?_, h⟩
  obtain ⟨i, hi⟩ := Finite.exists_max f
  exact ⟨i, le_antisymm (h i) ((Finset.fold_max_le _).2 ⟨bot_le, fun k _ => hi k⟩)⟩

/-- The least lane number where `f` is its maximum is the first place where `f` is largest. -/
theorem kernel_first (f : Fin 4096 → EReal) (a : EReal) (ha : a = ⊥) :
    Finset.fold IntOp.minsi 2147483647#32
        (fun i : Fin 4096 => if f i = Finset.fold max a f Finset.univ then BitVec.ofNat 32 i.val else 4096#32) Finset.univ
      = BitVec.ofNat 32 (first f).val := by
  obtain ⟨⟨i0, h0⟩, hM⟩ := fold_max f a ha
  revert h0 hM
  generalize Finset.fold max a f Finset.univ = M
  intro hM h0
  obtain ⟨hc, hle⟩ := fold_minsi 2147483647#32 (fun i : Fin 4096 => if f i = M then BitVec.ofNat 32 i.val else 4096#32) Finset.univ
  revert hc hle
  generalize Finset.fold IntOp.minsi 2147483647#32 (fun i : Fin 4096 => if f i = M then BitVec.ofNat 32 i.val else 4096#32) Finset.univ = r
  intro hc hle
  have hlt : r.toInt < 4096 := by
    have h := hle i0 (Finset.mem_univ _)
    rw [if_pos h0, toInt_word (by omega)] at h
    omega
  have hj : ∃ j : Fin 4096, f j = M ∧ r = BitVec.ofNat 32 j.val := by
    rcases hc with h | ⟨j, -, h⟩
    · rw [h] at hlt
      exact absurd hlt (by decide)
    · by_cases hj : f j = M
      · exact ⟨j, hj, by rw [h, if_pos hj]⟩
      · rw [h, if_neg hj] at hlt
        exact absurd hlt (by decide)
  obtain ⟨j, hjM, hr⟩ := hj
  have hfirst : IsFirst f j := fun i => ⟨hjM ▸ hM i, fun hi => by
    have h := hle i (Finset.mem_univ _)
    rw [if_pos (hi.trans hjM), toInt_word (by omega), hr, toInt_word (by omega)] at h
    exact Fin.le_def.2 (by omega)⟩
  rw [hr, first_eq hfirst]

/-! ## The reference's way: the pairs of distance and number, folded from the left -/

/-- The larger distance of two, of equal ones the smaller number. -/
def pick (a b : EReal × BitVec 32) : EReal × BitVec 32 :=
  (if b.1 < a.1 then a.1 else b.1, if b.1 < a.1 ∨ (a.1 = b.1 ∧ a.2.toInt < b.2.toInt) then a.2 else b.2)

theorem pick_cases (a b : EReal × BitVec 32) : (pick a b = a ∨ pick a b = b)
    ∧ (a.1 ≤ (pick a b).1 ∧ (a.1 = (pick a b).1 → (pick a b).2.toInt ≤ a.2.toInt))
    ∧ (b.1 ≤ (pick a b).1 ∧ (b.1 = (pick a b).1 → (pick a b).2.toInt ≤ b.2.toInt)) := by
  obtain ⟨x, u⟩ := a
  obtain ⟨y, v⟩ := b
  unfold pick
  rcases lt_trichotomy x y with h | h | h
  · simp [h.le, not_lt.2 h.le, h.ne]
  · subst h
    by_cases h' : u.toInt < v.toInt
    · simp [h', h'.le]
    · simp [h']; omega
  · simp [h, h.le, h.ne]

theorem foldl_pick (l : List (EReal × BitVec 32)) : ∀ a : EReal × BitVec 32,
    (l.foldl pick a ∈ a :: l) ∧ ∀ p ∈ a :: l, p.1 ≤ (l.foldl pick a).1 ∧ (p.1 = (l.foldl pick a).1 → (l.foldl pick a).2.toInt ≤ p.2.toInt) := by
  induction l with
  | nil => intro a; simp
  | cons b l ih =>
    intro a
    rw [List.foldl_cons]
    obtain ⟨hm, hd⟩ := ih (pick a b)
    obtain ⟨hc, ha, hb⟩ := pick_cases a b
    have hp := hd (pick a b) List.mem_cons_self
    have tr : ∀ q : EReal × BitVec 32, q.1 ≤ (pick a b).1 ∧ (q.1 = (pick a b).1 → (pick a b).2.toInt ≤ q.2.toInt) →
        q.1 ≤ (l.foldl pick (pick a b)).1 ∧ (q.1 = (l.foldl pick (pick a b)).1 → (l.foldl pick (pick a b)).2.toInt ≤ q.2.toInt) := by
      intro q hq
      refine ⟨hq.1.trans hp.1, fun e => ?_⟩
      have e' : q.1 = (pick a b).1 := le_antisymm hq.1 (e ▸ hp.1)
      exact (hp.2 (e'.symm.trans e)).trans (hq.2 e')
    refine ⟨?_, fun p h => ?_⟩
    · rcases List.mem_cons.1 hm with h | h
      · rw [h]
        rcases hc with h | h <;> rw [h] <;> simp
      · exact List.mem_cons_of_mem _ (List.mem_cons_of_mem _ h)
    · rcases List.mem_cons.1 h with rfl | h
      · exact tr _ ha
      · rcases List.mem_cons.1 h with rfl | h
        · exact tr _ hb
        · exact hd p (List.mem_cons_of_mem _ h)

/-- The fold over the pairs `(f i, i)`, in whatever order, from `⊥` and zero, ends at the first place where `f` is largest. -/
theorem reference_first (f : Fin 4096 → EReal) (l : List (EReal × BitVec 32))
    (hl : ∀ p, p ∈ l ↔ ∃ i : Fin 4096, p = (f i, BitVec.ofNat 32 i.val)) :
    (l.foldl pick (⊥, 0#32)).2 = BitVec.ofNat 32 (first f).val := by
  obtain ⟨hm, hd⟩ := foldl_pick l (⊥, 0#32)
  revert hm hd
  generalize l.foldl pick (⊥, 0#32) = r
  intro hm hd
  have hmem : ∀ i : Fin 4096, ((f i, BitVec.ofNat 32 i.val) : EReal × BitVec 32) ∈ ((⊥, 0#32) : EReal × BitVec 32) :: l :=
    fun i => List.mem_cons_of_mem _ ((hl _).2 ⟨i, rfl⟩)
  have hj : ∃ j : Fin 4096, r = (f j, BitVec.ofNat 32 j.val) := by
    rcases List.mem_cons.1 hm with h | h
    · refine ⟨0, ?_⟩
      have := (hd _ (hmem 0)).1
      rw [h] at this
      rw [h, show f 0 = ⊥ from le_bot_iff.1 this]
      rfl
    · exact (hl _).1 h
  obtain ⟨j, hr⟩ := hj
  subst hr
  have hfirst : IsFirst f j := fun i => ⟨(hd _ (hmem i)).1, fun e => by
    have h := (hd _ (hmem i)).2 e
    simp only [toInt_word (le_of_lt (Fin.is_lt _))] at h
    exact Fin.le_def.2 (by omega)⟩
  show BitVec.ofNat 32 j.val = _
  rw [first_eq hfirst]

end Cert.SampleSpec

end
-- ==== Proof.RowGather.lean ====
/-
  A gather of whole rows of a two-axis table by a column of row numbers, as the host operation computes it: result row `j`
  is the table row its number names, the number read signed and clamped to the table.
-/
module

public import proofs.«01_k».proof.Defs

@[expose] public section

noncomputable section

namespace Cert.RowGather

open Idealize.ShloMosaic

variable {n w r : ℕ}

/-- The dimension numbers of a gather of whole rows. -/
abbrev rowDims (wf : GatherDims.WF ⟨2, ![n, w]⟩ ⟨2, ![r, 1]⟩ ⟨2, ![r, w]⟩ [1] [0] [] [0] [] 1 ![1, w]) :
    GatherDims ⟨2, ![n, w]⟩ ⟨2, ![r, 1]⟩ ⟨2, ![r, w]⟩ where
  offsetDims := [1]
  collapsedSliceDims := [0]
  operandBatchingDims := []
  startIndicesBatchingDims := []
  startIndexMap := [0]
  indexVectorDim := 1
  sliceSizes := ![1, w]
  wf := wf

/-- The place in the column of result row `j`. -/
def colAt (j : Fin r) : (⟨2, ![r, 1]⟩ : Shape).Idx := fun a => match a with | 0 => j | 1 => (0 : Fin 1)

theorem operandIdx_zero (wf) (idx : IVec ⟨2, ![r, 1]⟩ 32) (j : (⟨2, ![r, w]⟩ : Shape).Idx) :
    ((rowDims (n := n) wf).operandIdx j idx 0).val = min (idx (colAt (j 0))).toInt.toNat (n - 1) := by
  have hsi : (rowDims (n := n) wf).siIdx j ⟨0, Nat.one_pos⟩ = colAt (j 0) := by
    funext b
    match b with
    | 0 => rfl
    | 1 => rfl
  show (rowDims (n := n) wf).start j idx 0 + (rowDims (n := n) wf).batchCoord j 0 + (rowDims (n := n) wf).offCoord j 0 = _
  rw [GatherDims.batchCoord_eq_zero _ _ _ (List.not_mem_nil),
    GatherDims.offCoord_eq_zero _ _ _ (fun h => (((rowDims (n := n) wf).mem_sKept 0).1 h).1 (List.mem_singleton.2 rfl))]
  unfold GatherDims.start
  rw [dif_pos (List.mem_singleton.2 rfl)]
  show min (idx ((rowDims (n := n) wf).siIdx j ⟨0, _⟩)).toInt.toNat (n - 1) + 0 + 0 = _
  exact congrArg (fun z => min (idx z).toInt.toNat (n - 1)) hsi

theorem operandIdx_one (wf) (idx : IVec ⟨2, ![r, 1]⟩ 32) (j : (⟨2, ![r, w]⟩ : Shape).Idx) :
    ((rowDims (n := n) wf).operandIdx j idx 1).val = (j 1).val := by
  show (rowDims (n := n) wf).start j idx 1 + (rowDims (n := n) wf).batchCoord j 1 + (rowDims (n := n) wf).offCoord j 1 = _
  rw [GatherDims.batchCoord_eq_zero _ _ _ (List.not_mem_nil)]
  unfold GatherDims.start GatherDims.offCoord
  rw [dif_neg (show ¬ (1 : Fin 2) ∈ [(0 : Fin 2)] by decide),
    dif_pos (((rowDims (n := n) wf).mem_sKept 1).2 ⟨show ¬ (1 : Fin 2) ∈ [(0 : Fin 2)] by decide, List.not_mem_nil⟩)]
  show 0 + 0 + (j 1).val = _
  omega

/-- A list stood up as a column, read at a place. -/
theorem col_at {α : Type} (h : (⟨1, ![r]⟩ : Shape).BroadcastsInDim ⟨2, ![r, 1]⟩ ![0]) (f : (⟨1, ![r]⟩ : Shape).Idx → α) (hr : r ≠ 1)
    (j : Fin r) (i : (⟨1, ![r]⟩ : Shape).Idx) (hi : (i 0).val = j.val) :
    broadcastInDim ⟨2, ![r, 1]⟩ ![0] h f (colAt j) = f i := by
  unfold broadcastInDim
  congr 1
  funext a
  match a with
  | 0 =>
    refine Fin.ext ?_
    rw [dif_neg (show ¬ (⟨1, ![r]⟩ : Shape).size 0 = 1 from hr)]
    exact hi.symm

/-- A row number that is one is its own clamp. -/
theorem clamp_eq {v : BitVec 32} {k : ℕ} (hk : k ≤ 2 ^ 31) (h : v.toNat < k) : min v.toInt.toNat (k - 1) = v.toNat := by
  have : v.toInt = v.toNat := BitVec.toInt_eq_toNat_of_lt (by omega)
  rw [this]; simp; omega

/-- The index the host adds the table's height to when it is negative: not, when it names a row. -/
theorem wrap_eq {v k : BitVec 32} (h : v.toNat < 2 ^ 31) :
    (if IntOp.cmpi .slt v 0#32 = 1#1 then IntOp.addi v k else v) = v := by
  rw [if_neg]
  simp only [IntOp.cmpi, BitVec.slt_eq_decide, BitVec.toInt_eq_toNat_of_lt (show 2 * v.toNat < 2 ^ 32 by omega)]
  have : ¬ ((v.toNat : ℤ) < (0#32).toInt) := by rw [show (0#32).toInt = 0 from rfl]; omega
  rw [decide_eq_false this]; decide

/-- The range test `(0 ≤ v) & (v < k)` on words, all ones, says that `v`'s own value is below `k`. -/
theorem range_of_test {v : BitVec 32} {k : ℕ} (hk : k < 2 ^ 31)
    (e : IntOp.andi (IntOp.cmpi .sge v 0#32) (IntOp.cmpi .slt v (BitVec.ofNat 32 k)) = 1#1) : v.toNat < k := by
  have h1 (p q : Bool) : IntOp.andi (BitVec.ofBool p) (BitVec.ofBool q) = 1#1 ↔ p = true ∧ q = true := by
    cases p <;> cases q <;> decide
  simp only [IntOp.cmpi, h1, BitVec.sle_eq_decide, BitVec.slt_eq_decide, decide_eq_true_eq] at e
  have hk' : (BitVec.ofNat 32 k).toInt = k := by
    rw [BitVec.toInt_eq_toNat_of_lt (by simp; omega)]; simp; omega
  rw [hk', show (0#32).toInt = 0 from rfl, BitVec.toInt_eq_toNat_cond] at e
  have := v.isLt
  split at e <;> omega

end Cert.RowGather

end
-- ==== Proof.SamplingRefRead.lean ====
/-
  The sampling as a program of its own.  The reference's sampling terms read at an element over the extended reals: the
  distances, the farthest points, the list of chosen points, and the rows taken there.
-/
module

public import proofs.«01_k».proof.Proof.SamplingRefVal
public import proofs.«01_k».proof.Proof.SampleSpec
public import proofs.«01_k».proof.Proof.RowGather

@[expose] public section

noncomputable section

namespace Cert.SamplingReferenceIdeal.Run

open Cert.SamplingReferenceIdeal Cert.SamplingReferenceIdeal.Gen Cert.SampleSpec
open Idealize.ShloMosaic Idealize.ShloMosaic.TcCoe

/-- The row numbers of the batches' first points. -/
def bases : IVec S8 32 := muli (iotaInDim S8 32 0) (broadcastInDim S8 ![] bcast_S_S8 (constantI S_ 32 4096#32))

/-- The points of a batch. -/
def cloud (x : FVec Ideal S8x4096x3 .f32) (b : Fin 8) : Fin 4096 → Fin 3 → EReal := fun i e => x (ix3 b i e)

theorem row_toNat (b : Fin 8) (p : Fin 4096) : (BitVec.ofNat 32 b.val * 4096#32 + BitVec.ofNat 32 p.val).toNat = b.val * 4096 + p.val := by
  simp only [BitVec.toNat_add, BitVec.toNat_mul, BitVec.toNat_ofNat]
  omega

variable (last : IVec S8 32) (b : Fin 8) (p : Fin 4096) (hp : last (ix1 b) = BitVec.ofNat 32 p.val)

include hp

theorem lastRow_toNat : (lastRow bases last (ix1 b)).toNat = b.val * 4096 + p.val := by
  have e : addi bases last (ix1 b) = BitVec.ofNat 32 b.val * 4096#32 + BitVec.ofNat 32 p.val := by
    rw [← hp]
    rfl
  have h := RowGather.wrap_eq (v := addi bases last (ix1 b)) (k := 32768#32) (by rw [e, row_toNat]; omega)
  rw [← row_toNat b p, ← e]
  exact congrArg BitVec.toNat h

theorem picked (x : FVec Ideal S8x4096x3 .f32) (e : Fin 3) :
    Host.gather gather_S32768x3_S8x1_S8x3_1_0_n_n_0_1_13 (shapeCast S32768x3 x shapeCasts_S8x4096x3_S32768x3)
      (broadcastInDim S8x1 ![0] bcast_S8_S8x1_0 (lastRow bases last)) (ix2 b e) = x (ix3 b p e) := by
  have hv := lastRow_toNat last b p hp
  have hi : gather_S32768x3_S8x1_S8x3_1_0_n_n_0_1_13.operandIdx (ix2 b e) (broadcastInDim S8x1 ![0] bcast_S8_S8x1_0 (lastRow bases last))
      = ix2 (⟨b.val * 4096 + p.val, by omega⟩ : Fin 32768) e := by
    funext a
    match a with
    | 0 =>
      refine Fin.ext ((RowGather.operandIdx_zero _ _ (ix2 b e)).trans ?_)
      rw [show (ix2 b e) 0 = b from rfl, RowGather.col_at _ _ (by norm_num) b (ix1 b) rfl,
        RowGather.clamp_eq (by norm_num) (by rw [hv]; omega), hv]
      rfl
    | 1 => exact Fin.ext (RowGather.operandIdx_one _ _ (ix2 b e))
  show shapeCast S32768x3 x _ (gather_S32768x3_S8x1_S8x3_1_0_n_n_0_1_13.operandIdx (ix2 b e) _) = _
  rw [hi]
  pointwise

theorem diff_apply (x : FVec Ideal S8x4096x3 .f32) (i : Fin 4096) (e : Fin 3) :
    diff bases last (shapeCast S32768x3 x shapeCasts_S8x4096x3_S32768x3) x (ix3 b i e) = x (ix3 b i e) - x (ix3 b p e) := by
  rw [← picked last b p hp x e]
  pointwise [diff]

theorem newDist_apply (x : FVec Ideal S8x4096x3 .f32) (dist : FVec Ideal S8x4096 .f32) (i : Fin 4096) :
    newDist bases last (shapeCast S32768x3 x shapeCasts_S8x4096x3_S32768x3) x dist (ix2 b i)
      = min (dist (ix2 b i)) (sq (cloud x b) p i) := by
  have hd := diff_apply last b p hp x i
  revert hd
  unfold newDist
  generalize diff bases last (shapeCast S32768x3 x shapeCasts_S8x4096x3_S32768x3) x = d
  intro hd
  pointwise
  rw [Fin.sum_univ_three, hd, hd, hd]
  simp [SampleSpec.sq, cloud]

omit hp

/-! ## The farthest points -/

theorem reducer_eq : reducer_argmax_f32_i32 (F := Ideal) = pick := by
  funext a b
  obtain ⟨x, u⟩ := a
  obtain ⟨y, v⟩ := b
  simp only [reducer_argmax_f32_i32, pick, FloatOps.cmpf, Ideal.cmp, IntOp.ori, IntOp.andi, IntOp.cmpi, Scalar.select, BitVec.slt]
  by_cases h1 : y < x <;> by_cases h2 : x = y <;> by_cases h3 : u.toInt < v.toInt <;> simp [h1, h2, h3]

/-- The pairs a batch's fold runs over. -/
theorem farthest_fiber (dist : FVec Ideal S8x4096 .f32) (q : EReal × BitVec 32) :
    q ∈ Host.argReduceFiber dist (iotaInDim S8x4096 32 1) reducesTo_S8x4096_S8_d1 (ix1 b) ↔ ∃ i : Fin 4096, q = (dist (ix2 b i), BitVec.ofNat 32 i.val) := by
  unfold Host.argReduceFiber
  simp only [List.mem_map, List.mem_filter, List.mem_finRange, true_and, decide_eq_true_eq]
  constructor
  · rintro ⟨n, hn, rfl⟩
    obtain ⟨b', i, hi⟩ : ∃ b' i, S8x4096.rowMajor.symm n = ix2 b' i := ⟨_, _, eq_ix2 _⟩
    rw [hi] at hn ⊢
    have hb : b' = b := by
      have := reducesTo_S8x4096_S8_d1.drop_apply_val_of_eq (ix2 b' i) 0 0
      rw [hn] at this
      exact Fin.ext this.symm
    subst hb
    exact ⟨i, rfl⟩
  · rintro ⟨i, rfl⟩
    refine ⟨S8x4096.rowMajor (ix2 b i), ?_, ?_⟩
    · rw [Equiv.symm_apply_apply]
      funext a
      match a with
      | 0 => exact Fin.ext (reducesTo_S8x4096_S8_d1.drop_apply_val_of_eq (ix2 b i) 0 0)
    · rw [Equiv.symm_apply_apply]
      rfl

theorem farthest_apply (dist : FVec Ideal S8x4096 .f32) :
    farthest dist (ix1 b) = BitVec.ofNat 32 (first fun i => dist (ix2 b i)).val := by
  unfold farthest
  rw [Ideal.argReduce_eq_reduce2, Host.reduce2_eq_foldl_fiber, reducer_eq]
  have hl : ∀ q, q ∈ Host.argReduceFiber dist (iotaInDim S8x4096 32 1) reducesTo_S8x4096_S8_d1 (ix1 b) ↔ ∃ i : Fin 4096, q = (dist (ix2 b i), BitVec.ofNat 32 i.val) :=
    farthest_fiber b dist
  revert hl
  generalize Host.argReduceFiber dist (iotaInDim S8x4096 32 1) reducesTo_S8x4096_S8_d1 (ix1 b) = l
  intro hl
  have h0 : constant (F := Ideal) S_ .f32 0xFF800000#32 (Shape.Idx.first h_S_) = (⊥ : EReal) := by
    show Ideal.ofBits .f32 0xFF800000#32 = ⊥
    simp [Ideal.ofBits, Ideal.ieee]
  rw [h0]
  exact reference_first _ l hl

theorem record_apply (list : IVec S1023x8 32) (k r : Fin 1023) :
    record list (fun _ => BitVec.ofNat 32 k.val) last (ix2 r b) = if r = k then last (ix1 b) else list (ix2 r b) := by
  have h0 : Host.clampedStart S1023x8 S1x8 rfl (fun a => ((![fun _ => BitVec.ofNat 32 k.val, constantI S_ 32 0#32] : Fin 2 → IVec S_ 32) a (Shape.Idx.first h_S_)).toInt) 0 = k.val :=
    Host.clampedStart_of_le _ _ _ _ (toInt_word (by omega)) (by show k.val + 1 ≤ 1023; omega)
  have h1 : Host.clampedStart S1023x8 S1x8 rfl (fun a => ((![fun _ => BitVec.ofNat 32 k.val, constantI S_ 32 0#32] : Fin 2 → IVec S_ 32) a (Shape.Idx.first h_S_)).toInt) 1 = 0 :=
    Host.clampedStart_of_le _ _ _ _ rfl (by decide)
  unfold record
  rw [Host.dynamicUpdateSlice_apply]
  by_cases h : r = k
  · subst h
    rw [if_pos rfl, dif_pos ?_]
    · pointwise
      exact congrArg (fun z => last (ix1 z)) (Fin.ext (by dsimp only; rw [h1]; rfl))
    · intro a
      match a with
      | 0 => rw [h0]; exact ⟨le_rfl, Nat.lt_succ_self _⟩
      | 1 => rw [h1]; exact ⟨Nat.zero_le _, by show b.val < 0 + 8; omega⟩
  · rw [if_neg h, dif_neg ?_]
    intro hin
    have := hin 0
    rw [h0] at this
    have h2 : r.val < k.val + 1 := this.2
    have h3 : k.val ≤ r.val := this.1
    exact h (Fin.ext (by omega))

end Cert.SamplingReferenceIdeal.Run

end
-- ==== Proof.SamplingRefState.lean ====
/-
  The sampling as a program of its own.  The reference's loop, followed through its steps over the extended reals: after `k`
  of them it holds the distances and the chosen points of farthest-point sampling; and what the reference then takes from its
  arrays.
-/
module

public import proofs.«01_k».proof.Proof.SamplingRefRead

@[expose] public section

noncomputable section

namespace Cert.SamplingReferenceIdeal.Run

open Cert.SamplingReferenceIdeal Cert.SamplingReferenceIdeal.Gen Cert.SampleSpec
open Idealize.ShloMosaic Idealize.ShloMosaic.TcCoe Idealize.ShloMosaic.StableHlo

/-- The distances the loop starts from. -/
def far : EReal := Ideal.ofBits .f32 0x501502F9#32

/-- Eight zeros: the first chosen points. -/
def zeros : IVec S8 32 := broadcastInDim S8 ![] bcast_S_S8 (constantI S_ 32 0#32)

/-- What the loop's buffers hold after `k` steps on the points `x` and the normals `y`. -/
structure Held (x y : FVec Ideal S8x4096x3 .f32) (k : ℕ) (U : Valuation τ sig (Elt Ideal)) : Prop where
  base : U main_v7_0 = bases
  rows : U main_v7_1 = shapeCast S32768x3 x shapeCasts_S8x4096x3_S32768x3
  points : U main_v7_2 = x
  zero : U main_v4 = zeros
  arg0 : U main_arg0 = x
  arg1 : U main_arg1 = y
  dist : ∀ (b : Fin 8) (i : Fin 4096), (U main_v7_4 : FVec Ideal S8x4096 .f32) (ix2 b i) = (state far (cloud x b) k).1 i
  last : ∀ b : Fin 8, (U main_v7_5 : IVec S8 32) (ix1 b) = BitVec.ofNat 32 (state far (cloud x b) k).2.val
  list : ∀ (r : Fin 1023) (b : Fin 8), r.val < k → (U main_v7_6 : IVec S1023x8 32) (ix2 r b) = BitVec.ofNat 32 (state far (cloud x b) (r.val + 1)).2.val

theorem held_pre (V : Valuation τ sig (Elt Ideal)) : Held (V main_arg0) (V main_arg1) 0 (after preOps V) := by
  obtain ⟨h0, h1, h2, h4, h5, hz, ha, hb⟩ := pre_vals V
  refine ⟨h0, h1, h2, hz, ha, hb, fun b i => ?_, fun b => ?_, fun r b h => absurd h (Nat.not_lt_zero _)⟩
  · rw [h4]; rfl
  · rw [h5]; rfl

theorem held_step (x y : FVec Ideal S8x4096x3 .f32) (k : Fin 1023) (U : Valuation τ sig (Elt Ideal)) (h : Held x y k.val U)
    (hc : U main_v7_3 = fun _ => BitVec.ofNat 32 k.val) : Held x y (k.val + 1) (after bodyOps (after condOps U)) := by
  obtain ⟨e0, e1, e2, ez, ea, eb⟩ := step_keeps U
  have hd : ∀ (b : Fin 8) (i : Fin 4096), newDist (F := Ideal) (U main_v7_0) (U main_v7_5) (U main_v7_1) (U main_v7_2) (U main_v7_4) (ix2 b i)
      = (state far (cloud x b) (k.val + 1)).1 i := by
    intro b i
    rw [h.base, h.rows, h.points, newDist_apply _ b _ (h.last b) x _ i, h.dist b i]
    rfl
  have hl : ∀ b : Fin 8, farthest (newDist (F := Ideal) (U main_v7_0) (U main_v7_5) (U main_v7_1) (U main_v7_2) (U main_v7_4)) (ix1 b)
      = BitVec.ofNat 32 (state far (cloud x b) (k.val + 1)).2.val := by
    intro b
    rw [farthest_apply]
    exact congrArg (fun f => BitVec.ofNat 32 (first f).val) (funext (hd b))
  refine ⟨e0.trans h.base, e1.trans h.rows, e2.trans h.points, ez.trans h.zero, ea.trans h.arg0, eb.trans h.arg1,
    fun b i => ?_, fun b => ?_, fun r b hr => ?_⟩
  · rw [step_dist]; exact hd b i
  · rw [step_last]; exact hl b
  · rw [step_list, hc]
    refine (record_apply _ b _ k r).trans ?_
    by_cases hrk : r = k
    · subst hrk
      rw [if_pos rfl]; exact hl b
    · rw [if_neg hrk]
      exact h.list r b (by have := fun e => hrk (Fin.ext e); omega)

theorem held (V : Valuation τ sig (Elt Ideal)) :
    ∀ k, k ≤ 1023 → Held (V main_arg0) (V main_arg1) k (Wk (after preOps V) k)
  | 0, _ => held_pre V
  | k + 1, hk => held_step _ _ ⟨k, by omega⟩ _ (held V k (by omega)) (ctr _ (pre_ctr V) k)

/-! ## What is taken -/

/-- Place in the list of chosen points of batch `b`'s `t`-th. -/
def at8192 (b : Fin 8) (t : Fin 1024) : Fin 8192 := ⟨b.val * 1024 + t.val, by omega⟩

theorem flatRows_apply (list : IVec S1023x8 32) (x : FVec Ideal S8x4096x3 .f32)
    (h : ∀ (r : Fin 1023) (b : Fin 8), list (ix2 r b) = BitVec.ofNat 32 (state far (cloud x b) (r.val + 1)).2.val) (b : Fin 8) (t : Fin 1024) :
    (flatRows zeros list (ix1 (at8192 b t))).toNat = b.val * 4096 + (state far (cloud x b) t.val).2.val := by
  have e : flatRows zeros list (ix1 (at8192 b t)) = BitVec.ofNat 32 b.val * 4096#32 + BitVec.ofNat 32 (state far (cloud x b) t.val).2.val := by
    pointwise [flatRows, at8192, zeros]
    show (if h : t.val < 1 then 0#32 else list (ix2 (⟨t.val - 1, by omega⟩ : Fin 1023) b)) + BitVec.ofNat 32 b.val * 4096#32 = _
    rw [BitVec.add_comm]
    by_cases ht : t.val < 1
    · rw [dif_pos ht, show t.val = 0 by omega]
      rfl
    · rw [dif_neg ht, h, show (⟨t.val - 1, by omega⟩ : Fin 1023).val + 1 = t.val by show t.val - 1 + 1 = t.val; omega]
  rw [e, row_toNat]

theorem taken_apply (rows : IVec S8192 32) (x : FVec Ideal S8x4096x3 .f32) (b : Fin 8) (t : Fin 1024) (e : Fin 3) (p : Fin 4096)
    (h : (rows (ix1 (at8192 b t))).toNat = b.val * 4096 + p.val) : taken rows x (ix3 b t e) = x (ix3 b p e) := by
  have hi : gather_S32768x3_S8192x1_S8192x3_1_0_n_n_0_1_13.operandIdx (ix2 (at8192 b t) e) (broadcastInDim S8192x1 ![0] bcast_S8192_S8192x1_0
      (select (cmpi .slt rows (broadcastInDim S8192 ![] bcast_S_S8192 (constantI S_ 32 0#32)))
        (addi rows (broadcastInDim S8192 ![] bcast_S_S8192 (constantI S_ 32 32768#32))) rows))
      = ix2 (⟨b.val * 4096 + p.val, by omega⟩ : Fin 32768) e := by
    have hw := RowGather.wrap_eq (v := rows (ix1 (at8192 b t))) (k := 32768#32) (by omega)
    funext a
    match a with
    | 0 =>
      refine Fin.ext ((RowGather.operandIdx_zero _ _ (ix2 (at8192 b t) e)).trans ?_)
      rw [show (ix2 (at8192 b t) e) 0 = at8192 b t from rfl, RowGather.col_at _ _ (by norm_num) (at8192 b t) (ix1 (at8192 b t)) rfl]
      refine (congrArg (fun v : BitVec 32 => min v.toInt.toNat (32768 - 1)) hw).trans ?_
      dsimp only
      rw [RowGather.clamp_eq (by norm_num) (by omega), h]
      rfl
    | 1 => exact Fin.ext (RowGather.operandIdx_one _ _ (ix2 (at8192 b t) e))
  have hg : Host.gather gather_S32768x3_S8192x1_S8192x3_1_0_n_n_0_1_13 (shapeCast S32768x3 x shapeCasts_S8x4096x3_S32768x3)
      (broadcastInDim S8192x1 ![0] bcast_S8192_S8192x1_0
      (select (cmpi .slt rows (broadcastInDim S8192 ![] bcast_S_S8192 (constantI S_ 32 0#32)))
        (addi rows (broadcastInDim S8192 ![] bcast_S_S8192 (constantI S_ 32 32768#32))) rows)) (ix2 (at8192 b t) e) = x (ix3 b p e) := by
    refine (congrArg (shapeCast S32768x3 x shapeCasts_S8x4096x3_S32768x3) hi).trans ?_
    pointwise
  rw [← hg]
  unfold taken
  generalize Host.gather gather_S32768x3_S8192x1_S8192x3_1_0_n_n_0_1_13 _ _ = g
  pointwise [at8192]

/-- What the whole reference leaves at an element. -/
theorem end_apply (m : (ℓ : Loc nD τ sig) → Buf (Elt Ideal) ℓ) (d : Dev nD) (b : Fin 8) (t : Fin 1024) (e : Fin 3) :
    (Wend m d main_v26 : FVec Ideal S8x1024x3 .f32) (ix3 b t e)
        = (launchContents m d main_arg0 : FVec Ideal S8x4096x3 .f32) (ix3 b (state far (cloud (launchContents m d main_arg0) b) t.val).2 e)
      ∧ (Wend m d main_v35 : FVec Ideal S8x1024x3 .f32) (ix3 b t e)
        = (launchContents m d main_arg1 : FVec Ideal S8x4096x3 .f32) (ix3 b (state far (cloud (launchContents m d main_arg0) b) t.val).2 e) := by
  have h := held (launchContents m d) 1023 le_rfl
  have hr := flatRows_apply _ _ (fun r b => h.list r b r.isLt) b t
  constructor
  · rw [Wend, post_v26, h.zero, h.arg0]
    exact taken_apply _ _ b t e _ hr
  · rw [Wend, post_v35, h.zero, h.arg1]
    exact taken_apply _ _ b t e _ hr

theorem end_keeps (m : (ℓ : Loc nD τ sig) → Buf (Elt Ideal) ℓ) (d : Dev nD) :
    Wend m d main_arg0 = launchContents m d main_arg0 ∧ Wend m d main_arg1 = launchContents m d main_arg1 := by
  have h := held (launchContents m d) 1023 le_rfl
  have e := post_keeps (Wk (after preOps (launchContents m d)) 1023)
  exact ⟨e.1.trans h.arg0, e.2.trans h.arg1⟩

end Cert.SamplingReferenceIdeal.Run

end
-- ==== Proof.SamplingCall.lean ====
/-
  The sampling as a program of its own.  The sampling kernel's body, read: 1024 trips of one step over the carried distances
  and the carried point, the trip's row of the output written at the trip's number.
-/
module

public import proofs.«01_k».proof.Proof.Gen.SamplingIdeal.Frame
public import Idealize.ShloMosaic.Lib.Pipeline.Value
public import Idealize.ShloMosaic.Lib.Pipeline.ValueKit.Geometry
public import Idealize.ShloMosaic.Lib.Pointwise

@[expose] public section

noncomputable section

namespace Cert.SamplingIdeal.Call

open Cert.SamplingIdeal Cert.SamplingIdeal.Gen

open Idealize.ShloMosaic
open Idealize.ShloMosaic.TcCoe
open Idealize.SL Idealize.SL.Sem

variable {F : FTy → Type} [FloatOps F]

/-- The lane numbers. -/
abbrev lanes : IVec S8x4096 32 := iota .tc S8x4096 32 [1] iota_S8x4096_d1_w32

/-- What is carried: the distances to the chosen points, and the point to choose next. -/
abbrev Carry (F : FTy → Type) := FVec F S8x4096 .f32 × IVec S8x1 32

/-- A coordinate's lanes. -/
abbrev coord (x : Vec F S8x3x4096 .f32) (o : Fin 3 → ℕ) (h : ∀ a, o a + S8x1x4096.size a ≤ S8x3x4096.size a) : Vec F S8x1x4096 .f32 :=
  View.ld x (Rect.unit (s := S8x3x4096) o S8x1x4096.size h)

abbrev c0 (x : Vec F S8x3x4096 .f32) := coord x ![0, 0, 0] inb_S8x3x4096_S8x1x4096_0_0_0
abbrev c1 (x : Vec F S8x3x4096 .f32) := coord x ![0, 1, 0] inb_S8x3x4096_S8x1x4096_0_1_0
abbrev c2 (x : Vec F S8x3x4096 .f32) := coord x ![0, 2, 0] inb_S8x3x4096_S8x1x4096_0_2_0

/-- A trip's effect on what is carried. -/
def next (x : Vec F S8x3x4096 .f32) (a : Carry F) : Carry F :=
  (k0_pay4 a.1 (k0_pay7 (c0 x)) (k0_pay8 (c1 x)) (k0_pay9 (c2 x)) (k0_pay10 lanes a.2 (c0 x)) (k0_pay11 lanes a.2 (c1 x)) (k0_pay12 lanes a.2 (c2 x)),
   k0_pay5 a.1 (k0_pay7 (c0 x)) (k0_pay8 (c1 x)) (k0_pay9 (c2 x)) (k0_pay10 lanes a.2 (c0 x)) (k0_pay11 lanes a.2 (c1 x)) (k0_pay12 lanes a.2 (c2 x)))

/-- A trip's row of the output. -/
def row (x n : Vec F S8x3x4096 .f32) (a : Carry F) : Vec F S1x8x6 .f32 :=
  k0_pay3 (k0_pay6 lanes a.2) (k0_pay10 lanes a.2 (c0 x)) (k0_pay11 lanes a.2 (c1 x)) (k0_pay12 lanes a.2 (c2 x))
    (k0_pay13 lanes a.2 (c0 n)) (k0_pay14 lanes a.2 (c1 n)) (c2 n)

variable (c : Dev nD) (arg0 : Memref sig .tc .vmem S8x3x4096 .f32) (harg0 : arg0.IsWhole) (arg1 : Memref sig .tc .vmem S8x3x4096 .f32) (harg1 : arg1.IsWhole) (arg2 : Memref sig .tc .vmem S1024x8x6 .f32) (harg2 : arg2.IsWhole)

/-- A trip of the loop, as the run finds it. -/
theorem tripR_eq (X0 : BufTy.Contents (Elt F) arg0.view.ty) (X1 : BufTy.Contents (Elt F) arg1.view.ty) (k : Fin k0_t1_loop.trips) (a : Carry F) :
    tripR_k0_t1 (F := F) Variants.none c none arg0 harg0 arg1 harg1 arg2 harg2 lanes X0 X1 k a
      = next (arg0.view.read (Elt F) X0) a := by
  unfold tripR_k0_t1 trip_k0_t1; rfl

theorem tripL_eq (X0 : BufTy.Contents (Elt F) arg0.view.ty) (X1 : BufTy.Contents (Elt F) arg1.view.ty) (k : Fin k0_t1_loop.trips) (a : Carry F) :
    tripL_k0_t1 (F := F) Variants.none c none arg0 harg0 arg1 harg1 arg2 harg2 lanes X0 X1 k a
      = [⟨Rect.unit (s := S1024x8x6) (k0_off1 k) S1x8x6.size (k0_off1_inb k), row (arg0.view.read (Elt F) X0) (arg1.view.read (Elt F) X1) a⟩] := by
  unfold tripL_k0_t1 trip_k0_t1; rfl

/-- What is carried before trip `k`. -/
def carried (x : Vec F S8x3x4096 .f32) : ℕ → Carry F
  | 0 => (k0_pay1, k0_pay2)
  | k + 1 => next x (carried x k)

/-- The body's pieces are the loop's. -/
theorem run_eq (x0 x1 : Vec F S8x3x4096 .f32) :
    (kernelRun0_A c arg0 harg0 arg1 harg1 arg2 harg2 x0 x1).1
      = (st_k0_t1 (F := F) Variants.none c none arg0 harg0 arg1 harg1 arg2 harg2 lanes (harg0.unread x0) (harg1.unread x1) (k0_pay1, k0_pay2) k0_t1_loop.trips).2 := by
  rfl

theorem st_carried (x0 x1 : Vec F S8x3x4096 .f32) (k : ℕ) (hk : k ≤ k0_t1_loop.trips) :
    (st_k0_t1 (F := F) Variants.none c none arg0 harg0 arg1 harg1 arg2 harg2 lanes (harg0.unread x0) (harg1.unread x1) (k0_pay1, k0_pay2) k).1
      = carried x0 k := by
  induction k with
  | zero => rfl
  | succ k ih =>
    rw [st_k0_t1_succ _ _ _ _ _ _ _ _ _ _ _ _ _ ⟨k, hk⟩]
    show tripR_k0_t1 _ _ _ _ _ _ _ _ _ _ _ _ _ _ = _
    rw [tripR_eq, ih (by omega), harg0.read_unread]
    rfl

/-! ## The output, row by row -/

theorem trips_eq : k0_t1_loop.trips = 1024 := by decide

theorem off_eq (k : Fin k0_t1_loop.trips) : k0_off1 k = ![k.val, 0, 0] := by
  have hk : k.val < 1024 := trips_eq ▸ k.isLt
  funext a
  unfold k0_off1
  fin_cases a
  · simp [Scf.iv, Scalar.indexCast]
    omega
  · rfl
  · rfl

variable [∀ e, Nonempty (Elt F e)]

/-- The pieces of the trips before `k` hold row `t`. -/
theorem canon_rows (x0 x1 : Vec F S8x3x4096 .f32) (k : ℕ) (hk : k ≤ k0_t1_loop.trips) (t : Fin 1024) (ht : t.val < k) (b : Fin 8) (j : Fin 6) :
    View.canon (st_k0_t1 (F := F) Variants.none c none arg0 harg0 arg1 harg1 arg2 harg2 lanes (harg0.unread x0) (harg1.unread x1) (k0_pay1, k0_pay2) k).2
        (ix3 t b j : S1024x8x6.Idx)
      = row x0 x1 (carried x0 t.val) (ix3 (0 : Fin 1) b j : S1x8x6.Idx) := by
  induction k with
  | zero => omega
  | succ k ih =>
    rw [st_k0_t1_succ _ _ _ _ _ _ _ _ _ _ _ _ _ ⟨k, hk⟩]
    show View.canon (tripL_k0_t1 _ _ _ _ _ _ _ _ _ _ _ _ _ _ ++ _) _ = _
    rw [tripL_eq, st_carried _ _ _ _ _ _ _ _ _ _ (by omega), harg0.read_unread, harg1.read_unread]
    rw [List.singleton_append]
    by_cases h : t.val = k
    · subst h
      have e : (ix3 t b j : S1024x8x6.Idx)
          = (Rect.unit (s := S1024x8x6) (k0_off1 ⟨t.val, hk⟩) S1x8x6.size (k0_off1_inb ⟨t.val, hk⟩)).emb (ix3 (0 : Fin 1) b j : S1x8x6.Idx) := by
        funext a
        apply Fin.ext
        refine Eq.trans ?_ (ValueKit.rect_emb_unit_val _ _ _ _ a).symm
        rw [show k0_off1 ⟨t.val, hk⟩ a = (![t.val, 0, 0] : Fin 3 → ℕ) a from congrFun (off_eq ⟨t.val, hk⟩) a]
        fin_cases a <;> simp [ix3]
      rw [e, View.canon_cons_emb]
    · rw [View.canon_cons_of_not_mem, ih (by omega) (by omega)]
      intro hm
      have := (Rect.mem_set_unit (inb := k0_off1_inb ⟨k, hk⟩)).mp hm 0
      rw [show k0_off1 ⟨k, hk⟩ 0 = k from congrFun (off_eq ⟨k, hk⟩) 0] at this
      simp [ix3] at this
      omega

/-- The output, from the two inputs. -/
def rows (x n : Vec F S8x3x4096 .f32) : Vec F S1024x8x6 .f32 := fun i =>
  row x n (carried x (i 0).val) (ix3 (0 : Fin 1) (i 1) (i 2) : S1x8x6.Idx)

theorem out_eq (x0 x1 : Vec F S8x3x4096 .f32) : out0_A_2 c arg0 harg0 arg1 harg1 arg2 harg2 x0 x1 = rows x0 x1 := by
  unfold out0_A_2
  rw [View.read_writes_junk_eq_canon, run_eq]
  funext i
  obtain ⟨t, b, j, rfl⟩ : ∃ (t : Fin 1024) (b : Fin 8) (j : Fin 6), i = ix3 t b j :=
    ⟨i 0, i 1, i 2, funext fun a => by fin_cases a <;> rfl⟩
  exact canon_rows c arg0 harg0 arg1 harg1 arg2 harg2 x0 x1 _ (le_refl _) t (lt_of_lt_of_eq t.isLt trips_eq.symm) b j

end Cert.SamplingIdeal.Call

end
-- ==== Proof.SamplingEnds.lean ====
/-
  The sampling as a program of its own.  The sampling program, end to end: its call's array is the kernel's rows of the two
  transposed arguments, and its two results are the first and the last three columns of it.
-/
module

public import proofs.«01_k».proof.Proof.SamplingCall

@[expose] public section

noncomputable section

namespace Cert.SamplingIdeal.Ends

open Cert.SamplingIdeal Cert.SamplingIdeal.Gen Cert.SamplingIdeal.Call

open Idealize.ShloMosaic
open Idealize.ShloMosaic.TcCoe
open Idealize.SL Idealize.SL.Sem
open Idealize.ShloMosaic.StableHlo

variable {F : FTy → Type} [FloatOps F] [∀ e, Nonempty (Elt F e)]

variable (m : (ℓ : Loc nD τ sig) → Buf (Elt F) ℓ) (ρ : Dev nD → PrngReg)

theorem index_0 : ∀ (t : Fin grid0.N) (a : Fin 3), win0_0.index t a = 0 := by decide
theorem index_1 : ∀ (t : Fin grid0.N) (a : Fin 3), win0_1.index t a = 0 := by decide
theorem index_2 : ∀ (t : Fin grid0.N) (a : Fin 3), win0_2.index t a = 0 := by decide

theorem iblk_0 (c : Dev nD) (t : Fin cfg0.N) : iblk m c 0 t = V m c main_v0 := by
  funext y
  refine congrArg (V m c main_v0) (funext fun a => Fin.ext ?_)
  exact win0_0.rect_emb_val_of_index_zero t a (index_0 t a) y

theorem iblk_1 (c : Dev nD) (t : Fin cfg0.N) : iblk m c 1 t = V m c main_v1 := by
  funext y
  refine congrArg (V m c main_v1) (funext fun a => Fin.ext ?_)
  exact win0_1.rect_emb_val_of_index_zero t a (index_1 t a) y

/-- The call's array. -/
theorem final (c : Dev nD) : (dats m 0 c).arrAt 2 cfg0.N = rows (V m c main_v0) (V m c main_v1) := by
  refine (dats m 0 c).arrAt_eq_of_cover 2 (rows (V m c main_v0) (V m c main_v1)) (fun t _ => ?_) fun i => ?_
  · funext y
    show outsAt0 m c t y = rows (V m c main_v0) (V m c main_v1) (((cfg0.win 2).blk t).view.emb y)
    unfold outsAt0
    rw [out_eq, iblk_0, iblk_1]
    refine congrArg _ (funext fun a => Fin.ext ?_)
    exact (win0_2.rect_emb_val_of_index_zero t a (index_2 t a) y).symm
  · refine ⟨⟨0, by decide⟩, flush0_2 _, ?_⟩
    have h := View.emb_mem_set ((cfg0.win 2).blk ⟨0, by decide⟩).view i
    refine Eq.subst (motive := fun z => z ∈ _) (funext fun a => Fin.ext ?_) h
    exact win0_2.rect_emb_val_of_index_zero _ a (index_2 _ a) i

theorem V_v0 (c : Dev nD) : V m c main_v0 = transpose S8x3x4096 [0, 2, 1] (m (c, Proc.devRef .tc main_arg0)) transposes_S8x4096x3_S8x3x4096_0_2_1 := by
  simp only [V, V0, List.flatten_cons, List.flatten_nil, List.append_nil, hostOps0]
  after_results_simp

theorem V_v1 (c : Dev nD) : V m c main_v1 = transpose S8x3x4096 [0, 2, 1] (m (c, Proc.devRef .tc main_arg1)) transposes_S8x4096x3_S8x3x4096_0_2_1 := by
  simp only [V, V0, List.flatten_cons, List.flatten_nil, List.append_nil, hostOps0]
  after_results_simp

/-- The rows, the batch first. -/
def table (x n : Vec F S8x4096x3 .f32) : Vec F S8x1024x6 .f32 :=
  transpose S8x1024x6 [1, 0, 2] (rows (transpose S8x3x4096 [0, 2, 1] x transposes_S8x4096x3_S8x3x4096_0_2_1)
    (transpose S8x3x4096 [0, 2, 1] n transposes_S8x4096x3_S8x3x4096_0_2_1)) transposes_S1024x8x6_S8x1024x6_1_0_2

theorem arr_inj : Function.Injective (Pipeline.arrRef spec0) := by decide

theorem tail_v4 (c : Dev nD) : Pipeline.afterTail₀ cfgs (dats m) 0 (V0 m) [hostOps1] c main_v4
    = extractStridedSlice S8x1024x3 ![0, 0, 0] (table (m (c, Proc.devRef .tc main_arg0)) (m (c, Proc.devRef .tc main_arg1))) slices_S8x1024x6_S8x1024x3_0_0_0 := by
  unfold Pipeline.afterTail₀ table
  rw [← V_v0, ← V_v1, ← final m c, ← Pipeline.withArrays_arr spec0 arr_inj c (V0 m c) (fun w => (dats m 0 c).arrAt w cfg0.N) 2]
  simp only [List.flatten_cons, List.flatten_nil, List.append_nil, hostOps1]
  after_results_simp

theorem tail_v5 (c : Dev nD) : Pipeline.afterTail₀ cfgs (dats m) 0 (V0 m) [hostOps1] c main_v5
    = extractStridedSlice S8x1024x3 ![0, 0, 3] (table (m (c, Proc.devRef .tc main_arg0)) (m (c, Proc.devRef .tc main_arg1))) slices_S8x1024x6_S8x1024x3_0_0_3 := by
  unfold Pipeline.afterTail₀ table
  rw [← V_v0, ← V_v1, ← final m c, ← Pipeline.withArrays_arr spec0 arr_inj c (V0 m c) (fun w => (dats m 0 c).arrAt w cfg0.N) 2]
  simp only [List.flatten_cons, List.flatten_nil, List.append_nil, hostOps1]
  after_results_simp

/-- Every fair execution ends with the two results at the table's columns and the arguments as they were. -/
theorem ends : θ_run defs (onTc (τ := τ) (main (F := F))) ⟨m, fun _ => 0, ρ⟩ fun r => ∀ c : Dev nD,
      r.2.mem ((c.tc : Thread nD τ).loc main_v4)
        = extractStridedSlice S8x1024x3 ![0, 0, 0] (table (m (c, Proc.devRef .tc main_arg0)) (m (c, Proc.devRef .tc main_arg1))) slices_S8x1024x6_S8x1024x3_0_0_0
      ∧ r.2.mem ((c.tc : Thread nD τ).loc main_v5)
        = extractStridedSlice S8x1024x3 ![0, 0, 3] (table (m (c, Proc.devRef .tc main_arg0)) (m (c, Proc.devRef .tc main_arg1))) slices_S8x1024x6_S8x1024x3_0_0_3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.SamplingIdeal.Ends

end
-- ==== Proof.SamplingEq.lean ====
/-
  The sampling as a program of its own.  The sampling kernel's table and the reference's sampling hold the same elements:
  each is the sampled point's coordinate or its normal's.
-/
module

public import proofs.«01_k».proof.Proof.SamplingRefState
public import proofs.«01_k».proof.Proof.SamplingPay
public import proofs.«01_k».proof.Proof.SamplingEnds

@[expose] public section

noncomputable section

namespace Cert.SamplingEq

open Idealize.ShloMosaic Idealize.ShloMosaic.TcCoe Cert.SampleSpec

open Cert.SamplingReferenceIdeal.Run (far cloud)

/-- The kernel's table at a row's first half and second half. -/
theorem table_apply (x n : FVec Ideal Cert.SamplingIdeal.S8x4096x3 .f32) (b : Fin 8) (t : Fin 1024) (e : Fin 3) :
    Cert.SamplingIdeal.Ends.table (F := Ideal) x n (ix3 b t (⟨e.val, by omega⟩ : Fin 6)) = x (ix3 b (state far (cloud x b) t.val).2 e)
      ∧ Cert.SamplingIdeal.Ends.table (F := Ideal) x n (ix3 b t (⟨3 + e.val, by omega⟩ : Fin 6)) = n (ix3 b (state far (cloud x b) t.val).2 e) := by
  have hx : ∀ (z : FVec Ideal Cert.SamplingIdeal.S8x4096x3 .f32) h (b : Fin 8) (e : Fin 3) (i : Fin 4096),
      transpose Cert.SamplingIdeal.S8x3x4096 [0, 2, 1] z h (ix3 b e i) = z (ix3 b i e) := by
    intro z h b e i
    pointwise
  have hr := Cert.SamplingIdeal.Pay.row_eq (transpose Cert.SamplingIdeal.S8x3x4096 [0, 2, 1] x Cert.SamplingIdeal.Gen.transposes_S8x4096x3_S8x3x4096_0_2_1)
    (transpose Cert.SamplingIdeal.S8x3x4096 [0, 2, 1] n Cert.SamplingIdeal.Gen.transposes_S8x4096x3_S8x3x4096_0_2_1) t.val b e
  have hp : Cert.SamplingIdeal.Pay.pts (transpose Cert.SamplingIdeal.S8x3x4096 [0, 2, 1] x Cert.SamplingIdeal.Gen.transposes_S8x4096x3_S8x3x4096_0_2_1) b
      = cloud x b := by
    funext i e
    exact hx _ _ b e i
  rw [hp, hx, hx] at hr
  refine ⟨Eq.trans ?_ hr.1, Eq.trans ?_ hr.2⟩
  · unfold Cert.SamplingIdeal.Ends.table
    pointwise [Cert.SamplingIdeal.Call.rows]
  · unfold Cert.SamplingIdeal.Ends.table
    pointwise [Cert.SamplingIdeal.Call.rows]

theorem points_eq (x n : FVec Ideal Cert.SamplingIdeal.S8x4096x3 .f32) (b : Fin 8) (t : Fin 1024) (e : Fin 3) :
    extractStridedSlice Cert.SamplingIdeal.S8x1024x3 ![0, 0, 0] (Cert.SamplingIdeal.Ends.table (F := Ideal) x n) Cert.SamplingIdeal.Gen.slices_S8x1024x6_S8x1024x3_0_0_0 (ix3 b t e)
      = x (ix3 b (state far (cloud x b) t.val).2 e) := by
  rw [← (table_apply x n b t e).1]
  generalize Cert.SamplingIdeal.Ends.table (F := Ideal) x n = T
  pointwise

theorem normals_eq (x n : FVec Ideal Cert.SamplingIdeal.S8x4096x3 .f32) (b : Fin 8) (t : Fin 1024) (e : Fin 3) :
    extractStridedSlice Cert.SamplingIdeal.S8x1024x3 ![0, 0, 3] (Cert.SamplingIdeal.Ends.table (F := Ideal) x n) Cert.SamplingIdeal.Gen.slices_S8x1024x6_S8x1024x3_0_0_3 (ix3 b t e)
      = n (ix3 b (state far (cloud x b) t.val).2 e) := by
  rw [← (table_apply x n b t e).2]
  generalize Cert.SamplingIdeal.Ends.table (F := Ideal) x n = T
  pointwise

end Cert.SamplingEq

end
-- ==== Proof.SampleRefOps.lean ====
/-
  The reference's operations.  Its program is a line of host operations, one counted host loop of 1023 steps that chooses the
  centres, a line that takes the chosen points' rows, a line that groups every centre's neighbours, and a line that puts the groups
  through the layers; the state between two steps of the loop is one valuation of the core's buffers.
-/
module

public import proofs.«01_k».proof.Proof.Gen.ReferenceIdeal
public import Idealize.ShloMosaic.Lib.StableHlo.Run
public import Idealize.ShloMosaic.Lib.HostLoop.Rules

@[expose] public section

noncomputable section

namespace Cert.ReferenceIdeal.Run

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## The operations -/

/-- The operations before the loop: the flat rows, the rows' base numbers, and the loop's first values. -/
abbrev preOps : List (HloOp τ sig (Elt F)) :=
  [ reshape main_arg0 main_v0 (rfl : (.f32 : EltTy) = .f32) shapeCasts_S8x4096x3_S32768x3,
    nullary main_v1 (iotaInDim S8 32 0),
    nullary main_c (constantI S_ 32 4096#32),
    unary main_c main_v2 (broadcastInDim S8 ![] bcast_S_S8 : (⟨S_, .i32⟩ : BufTy).Contents (Elt F) → (⟨S8, .i32⟩ : BufTy).Contents (Elt F)),
    binary main_v1 main_v2 main_v3 (muli : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v4 (broadcastInDim S8 ![] bcast_S_S8 : (⟨S_, .i32⟩ : BufTy).Contents (Elt F) → (⟨S8, .i32⟩ : BufTy).Contents (Elt F)),
    nullary main_cst (constant S_ .f32 0x501502F9#32),
    unary main_cst main_v5 (broadcastInDim S8x4096 ![] bcast_S_S8x4096 : (⟨S_, .f32⟩ : BufTy).Contents (Elt F) → (⟨S8x4096, .f32⟩ : BufTy).Contents (Elt F)),
    nullary main_c_1 (constantI S_ 32 0#32),
    unary main_c_1 main_v6 (broadcastInDim S1023x8 ![] bcast_S_S1023x8 : (⟨S_, .i32⟩ : BufTy).Contents (Elt F) → (⟨S1023x8, .i32⟩ : BufTy).Contents (Elt F)),
    nullary main_c_2 (constantI S_ 32 0#32),
    unary main_v3 main_v7_0 id,
    unary main_v0 main_v7_1 id,
    unary main_arg0 main_v7_2 id,
    unary main_c_2 main_v7_3 id,
    unary main_v5 main_v7_4 id,
    unary main_v4 main_v7_5 id,
    unary main_v6 main_v7_6 id ]

/-- The loop's test: the counter against 1023. -/
abbrev condOps : List (HloOp τ sig (Elt F)) :=
  [ nullary main_while0c_c_19 (constantI S_ 32 1023#32),
    binary main_v7_3 main_while0c_c_19 main_while0c_v79 (cmpi .slt : (⟨S_, .i32⟩ : BufTy).Contents (Elt F) → (⟨S_, .i32⟩ : BufTy).Contents (Elt F) → (⟨S_, .i1⟩ : BufTy).Contents (Elt F)) ]

/-- One step of the loop: distances to the last chosen point, their minimum with the old ones, the farthest point. -/
abbrev bodyOps : List (HloOp τ sig (Elt F)) :=
  [ binary main_v7_0 main_v7_5 main_while0b_v79 (addi : (⟨S8, .i32⟩ : BufTy).Contents (Elt F) → (⟨S8, .i32⟩ : BufTy).Contents (Elt F) → (⟨S8, .i32⟩ : BufTy).Contents (Elt F)),
    nullary main_while0b_c_19 (constantI S_ 32 0#32),
    unary main_while0b_c_19 main_while0b_v80 (broadcastInDim S8 ![] bcast_S_S8 : (⟨S_, .i32⟩ : BufTy).Contents (Elt F) → (⟨S8, .i32⟩ : BufTy).Contents (Elt F)),
    binary main_while0b_v79 main_while0b_v80 main_while0b_v81 (cmpi .slt : (⟨S8, .i32⟩ : BufTy).Contents (Elt F) → (⟨S8, .i32⟩ : BufTy).Contents (Elt F) → (⟨S8, .i1⟩ : BufTy).Contents (Elt F)),
    nullary main_while0b_c_20 (constantI S_ 32 32768#32),
    unary main_while0b_c_20 main_while0b_v82 (broadcastInDim S8 ![] bcast_S_S8 : (⟨S_, .i32⟩ : BufTy).Contents (Elt F) → (⟨S8, .i32⟩ : BufTy).Contents (Elt F)),
    binary main_while0b_v79 main_while0b_v82 main_while0b_v83 (addi : (⟨S8, .i32⟩ : BufTy).Contents (Elt F) → (⟨S8, .i32⟩ : BufTy).Contents (Elt F) → (⟨S8, .i32⟩ : BufTy).Contents (Elt F)),
    ternary main_while0b_v81 main_while0b_v83 main_while0b_v79 main_while0b_v84 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v84 main_while0b_v85 (broadcastInDim S8x1 ![0] bcast_S8_S8x1_0 : (⟨S8, .i32⟩ : BufTy).Contents (Elt F) → (⟨S8x1, .i32⟩ : BufTy).Contents (Elt F)),
    binary main_v7_1 main_while0b_v85 main_while0b_v86 ((fun x i => Host.gather gather_S32768x3_S8x1_S8x3_1_0_n_n_0_1_13 x i) : (⟨S32768x3, .f32⟩ : BufTy).Contents (Elt F) → (⟨S8x1, .i32⟩ : BufTy).Contents (Elt F) → (⟨S8x3, .f32⟩ : BufTy).Contents (Elt F)),
    unary main_while0b_v86 main_while0b_v87 (broadcastInDim S8x1x3 ![0, 2] bcast_S8x3_S8x1x3_0_2 : (⟨S8x3, .f32⟩ : BufTy).Contents (Elt F) → (⟨S8x1x3, .f32⟩ : BufTy).Contents (Elt F)),
    unary main_while0b_v87 main_while0b_v88 (broadcastInDim S8x4096x3 ![0, 1, 2] bcast_S8x1x3_S8x4096x3_0_1_2 : (⟨S8x1x3, .f32⟩ : BufTy).Contents (Elt F) → (⟨S8x4096x3, .f32⟩ : BufTy).Contents (Elt F)),
    binary main_v7_2 main_while0b_v88 main_while0b_v89 (subf : (⟨S8x4096x3, .f32⟩ : BufTy).Contents (Elt F) → (⟨S8x4096x3, .f32⟩ : BufTy).Contents (Elt F) → (⟨S8x4096x3, .f32⟩ : BufTy).Contents (Elt F)),
    binary main_while0b_v89 main_while0b_v89 main_while0b_v90 (mulf : (⟨S8x4096x3, .f32⟩ : BufTy).Contents (Elt F) → (⟨S8x4096x3, .f32⟩ : BufTy).Contents (Elt F) → (⟨S8x4096x3, .f32⟩ : BufTy).Contents (Elt F)),
    nullary main_while0b_cst_21 (constant S_ .f32 0x00000000#32),
    binary main_while0b_v90 main_while0b_cst_21 main_while0b_v91 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v7_4 main_while0b_v91 main_while0b_v92 (minimumf : (⟨S8x4096, .f32⟩ : BufTy).Contents (Elt F) → (⟨S8x4096, .f32⟩ : BufTy).Contents (Elt F) → (⟨S8x4096, .f32⟩ : BufTy).Contents (Elt F)),
    TRef.nullary main_while0b_call0.v0 (iotaInDim S8x4096 32 1),
    TRef.nullary main_while0b_call0.cst (constant S_ .f32 0xFF800000#32),
    TRef.nullary main_while0b_call0.c (constantI S_ 32 0#32),
    TRef.quaternary (TRef.of (T := ⟨S8x4096, .f32⟩) main_while0b_v92) main_while0b_call0.v0 main_while0b_call0.cst main_while0b_call0.c main_while0b_call0.v1_0 (fun x y u v j => (Host.argReduce reducer_argmax_f32_i32 x y u v reducesTo_S8x4096_S8_d1 h_S_ j).1),
    TRef.quaternary (TRef.of (T := ⟨S8x4096, .f32⟩) main_while0b_v92) main_while0b_call0.v0 main_while0b_call0.cst main_while0b_call0.c main_while0b_call0.v1_1 (fun x y u v j => (Host.argReduce reducer_argmax_f32_i32 x y u v reducesTo_S8x4096_S8_d1 h_S_ j).2),
    TRef.unary (TRef.of (T := ⟨S8, .i32⟩) main_while0b_v93) main_while0b_call1.v0 (broadcastInDim S1x8 ![1] bcast_S8_S1x8_1),
    TRef.nullary main_while0b_call1.c (constantI S_ 32 0#32),
    TRef.binaryIndexed (TRef.of (T := ⟨S1023x8, .i32⟩) main_v7_6) main_while0b_call1.v0 ![(TRef.of (T := ⟨S_, .i32⟩) main_v7_3), main_while0b_call1.c] main_while0b_call1.v1 (fun x u i => Host.dynamicUpdateSlice x u (fun k => (i k (Shape.Idx.first h_S_)).toInt) updateFits_S1023x8_S1x8),
    nullary main_while0b_c_22 (constantI S_ 32 1#32),
    binary main_v7_3 main_while0b_c_22 main_while0b_v95 (addi : (⟨S_, .i32⟩ : BufTy).Contents (Elt F) → (⟨S_, .i32⟩ : BufTy).Contents (Elt F) → (⟨S_, .i32⟩ : BufTy).Contents (Elt F)),
    unary main_while0b_v95 main_v7_3 id,
    unary main_while0b_v92 main_v7_4 id,
    unary main_while0b_v93 main_v7_5 id,
    unary main_while0b_v94 main_v7_6 id ]

/-- The operations after the loop: the chosen points' rows of the two arrays. -/
abbrev postOps : List (HloOp τ sig (Elt F)) :=
  [ unary main_v4 main_v8 (broadcastInDim S1x8 ![1] bcast_S8_S1x8_1 : (⟨S8, .i32⟩ : BufTy).Contents (Elt F) → (⟨S1x8, .i32⟩ : BufTy).Contents (Elt F)),
    binary main_v8 main_v7_6 main_v9 ((fun a b => concatenate S1024x8 0 [⟨S1x8, a⟩, ⟨S1023x8, b⟩] concatenates_S1x8_S1023x8_S1024x8_d0) : (⟨S1x8, .i32⟩ : BufTy).Contents (Elt F) → (⟨S1023x8, .i32⟩ : BufTy).Contents (Elt F) → (⟨S1024x8, .i32⟩ : BufTy).Contents (Elt F)),
    unary main_v9 main_v10 ((transpose S8x1024 [1, 0] · transposes_S1024x8_S8x1024_1_0) : (⟨S1024x8, .i32⟩ : BufTy).Contents (Elt F) → (⟨S8x1024, .i32⟩ : BufTy).Contents (Elt F)),
    nullary main_v11 (iotaInDim S8 32 0),
    unary main_v11 main_v12 (broadcastInDim S8x1 ![0] bcast_S8_S8x1_0 : (⟨S8, .i32⟩ : BufTy).Contents (Elt F) → (⟨S8x1, .i32⟩ : BufTy).Contents (Elt F)),
    nullary main_c_3 (constantI S_ 32 4096#32),
    unary main_c_3 main_v13 (broadcastInDim S8x1 ![] bcast_S_S8x1 : (⟨S_, .i32⟩ : BufTy).Contents (Elt F) → (⟨S8x1, .i32⟩ : BufTy).Contents (Elt F)),
    binary main_v12 main_v13 main_v14 (muli : (⟨S8x1, .i32⟩ : BufTy).Contents (Elt F) → (⟨S8x1, .i32⟩ : BufTy).Contents (Elt F) → (⟨S8x1, .i32⟩ : BufTy).Contents (Elt F)),
    unary main_v14 main_v15 (broadcastInDim S8x1024 ![0, 1] bcast_S8x1_S8x1024_0_1 : (⟨S8x1, .i32⟩ : BufTy).Contents (Elt F) → (⟨S8x1024, .i32⟩ : BufTy).Contents (Elt F)),
    binary main_v10 main_v15 main_v16 (addi : (⟨S8x1024, .i32⟩ : BufTy).Contents (Elt F) → (⟨S8x1024, .i32⟩ : BufTy).Contents (Elt F) → (⟨S8x1024, .i32⟩ : BufTy).Contents (Elt F)),
    reshape main_v16 main_v17 (rfl : (.i32 : EltTy) = .i32) shapeCasts_S8x1024_S8192,
    reshape main_arg0 main_v18 (rfl : (.f32 : EltTy) = .f32) shapeCasts_S8x4096x3_S32768x3,
    nullary main_c_4 (constantI S_ 32 0#32),
    unary main_c_4 main_v19 (broadcastInDim S8192 ![] bcast_S_S8192 : (⟨S_, .i32⟩ : BufTy).Contents (Elt F) → (⟨S8192, .i32⟩ : BufTy).Contents (Elt F)),
    binary main_v17 main_v19 main_v20 (cmpi .slt : (⟨S8192, .i32⟩ : BufTy).Contents (Elt F) → (⟨S8192, .i32⟩ : BufTy).Contents (Elt F) → (⟨S8192, .i1⟩ : BufTy).Contents (Elt F)),
    nullary main_c_5 (constantI S_ 32 32768#32),
    unary main_c_5 main_v21 (broadcastInDim S8192 ![] bcast_S_S8192 : (⟨S_, .i32⟩ : BufTy).Contents (Elt F) → (⟨S8192, .i32⟩ : BufTy).Contents (Elt F)),
    binary main_v17 main_v21 main_v22 (addi : (⟨S8192, .i32⟩ : BufTy).Contents (Elt F) → (⟨S8192, .i32⟩ : BufTy).Contents (Elt F) → (⟨S8192, .i32⟩ : BufTy).Contents (Elt F)),
    ternary main_v20 main_v22 main_v17 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v23 main_v24 (broadcastInDim S8192x1 ![0] bcast_S8192_S8192x1_0 : (⟨S8192, .i32⟩ : BufTy).Contents (Elt F) → (⟨S8192x1, .i32⟩ : BufTy).Contents (Elt F)),
    binary main_v18 main_v24 main_v25 ((fun x i => Host.gather gather_S32768x3_S8192x1_S8192x3_1_0_n_n_0_1_13 x i) : (⟨S32768x3, .f32⟩ : BufTy).Contents (Elt F) → (⟨S8192x1, .i32⟩ : BufTy).Contents (Elt F) → (⟨S8192x3, .f32⟩ : BufTy).Contents (Elt F)),
    reshape main_v25 main_v26 (rfl : (.f32 : EltTy) = .f32) shapeCasts_S8192x3_S8x1024x3,
    reshape main_arg1 main_v27 (rfl : (.f32 : EltTy) = .f32) shapeCasts_S8x4096x3_S32768x3,
    nullary main_c_6 (constantI S_ 32 0#32),
    unary main_c_6 main_v28 (broadcastInDim S8192 ![] bcast_S_S8192 : (⟨S_, .i32⟩ : BufTy).Contents (Elt F) → (⟨S8192, .i32⟩ : BufTy).Contents (Elt F)),
    binary main_v17 main_v28 main_v29 (cmpi .slt : (⟨S8192, .i32⟩ : BufTy).Contents (Elt F) → (⟨S8192, .i32⟩ : BufTy).Contents (Elt F) → (⟨S8192, .i1⟩ : BufTy).Contents (Elt F)),
    nullary main_c_7 (constantI S_ 32 32768#32),
    unary main_c_7 main_v30 (broadcastInDim S8192 ![] bcast_S_S8192 : (⟨S_, .i32⟩ : BufTy).Contents (Elt F) → (⟨S8192, .i32⟩ : BufTy).Contents (Elt F)),
    binary main_v17 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v17 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v32 main_v33 (broadcastInDim S8192x1 ![0] bcast_S8192_S8192x1_0 : (⟨S8192, .i32⟩ : BufTy).Contents (Elt F) → (⟨S8192x1, .i32⟩ : BufTy).Contents (Elt F)),
    binary main_v27 main_v33 main_v34 ((fun x i => Host.gather gather_S32768x3_S8192x1_S8192x3_1_0_n_n_0_1_13 x i) : (⟨S32768x3, .f32⟩ : BufTy).Contents (Elt F) → (⟨S8192x1, .i32⟩ : BufTy).Contents (Elt F) → (⟨S8192x3, .f32⟩ : BufTy).Contents (Elt F)),
    reshape main_v34 main_v35 (rfl : (.f32 : EltTy) = .f32) shapeCasts_S8192x3_S8x1024x3 ]

/-- The neighbours' rows, relative to the centres, beside their features and the centres' normals. -/
abbrev groupOps : List (HloOp τ sig (Elt F)) :=
  [ unary main_arg2 main_v36 ((transpose S8x8x128x32 [0, 1, 3, 2] · transposes_S8x8x32x128_S8x8x128x32_0_1_3_2) : (⟨S8x8x32x128, .i32⟩ : BufTy).Contents (Elt F) → (⟨S8x8x128x32, .i32⟩ : BufTy).Contents (Elt F)),
    reshape main_v36 main_v37 (rfl : (.i32 : EltTy) = .i32) shapeCasts_S8x8x128x32_S262144,
    reshape main_arg0 main_v38 (rfl : (.f32 : EltTy) = .f32) shapeCasts_S8x4096x3_S32768x3,
    nullary main_c_8 (constantI S_ 32 0#32),
    unary main_c_8 main_v39 (broadcastInDim S262144 ![] bcast_S_S262144 : (⟨S_, .i32⟩ : BufTy).Contents (Elt F) → (⟨S262144, .i32⟩ : BufTy).Contents (Elt F)),
    binary main_v37 main_v39 main_v40 (cmpi .slt : (⟨S262144, .i32⟩ : BufTy).Contents (Elt F) → (⟨S262144, .i32⟩ : BufTy).Contents (Elt F) → (⟨S262144, .i1⟩ : BufTy).Contents (Elt F)),
    nullary main_c_9 (constantI S_ 32 32768#32),
    unary main_c_9 main_v41 (broadcastInDim S262144 ![] bcast_S_S262144 : (⟨S_, .i32⟩ : BufTy).Contents (Elt F) → (⟨S262144, .i32⟩ : BufTy).Contents (Elt F)),
    binary main_v37 main_v41 main_v42 (addi : (⟨S262144, .i32⟩ : BufTy).Contents (Elt F) → (⟨S262144, .i32⟩ : BufTy).Contents (Elt F) → (⟨S262144, .i32⟩ : BufTy).Contents (Elt F)),
    ternary main_v40 main_v42 main_v37 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v43 main_v44 (broadcastInDim S262144x1 ![0] bcast_S262144_S262144x1_0 : (⟨S262144, .i32⟩ : BufTy).Contents (Elt F) → (⟨S262144x1, .i32⟩ : BufTy).Contents (Elt F)),
    binary main_v38 main_v44 main_v45 ((fun x i => Host.gather gather_S32768x3_S262144x1_S262144x3_1_0_n_n_0_1_13 x i) : (⟨S32768x3, .f32⟩ : BufTy).Contents (Elt F) → (⟨S262144x1, .i32⟩ : BufTy).Contents (Elt F) → (⟨S262144x3, .f32⟩ : BufTy).Contents (Elt F)),
    reshape main_v45 main_v46 (rfl : (.f32 : EltTy) = .f32) shapeCasts_S262144x3_S8x1024x32x3,
    unary main_v26 main_v47 (broadcastInDim S8x1024x1x3 ![0, 1, 3] bcast_S8x1024x3_S8x1024x1x3_0_1_3 : (⟨S8x1024x3, .f32⟩ : BufTy).Contents (Elt F) → (⟨S8x1024x1x3, .f32⟩ : BufTy).Contents (Elt F)),
    unary main_v47 main_v48 (broadcastInDim S8x1024x32x3 ![0, 1, 2, 3] bcast_S8x1024x1x3_S8x1024x32x3_0_1_2_3 : (⟨S8x1024x1x3, .f32⟩ : BufTy).Contents (Elt F) → (⟨S8x1024x32x3, .f32⟩ : BufTy).Contents (Elt F)),
    binary main_v46 main_v48 main_v49 (subf : (⟨S8x1024x32x3, .f32⟩ : BufTy).Contents (Elt F) → (⟨S8x1024x32x3, .f32⟩ : BufTy).Contents (Elt F) → (⟨S8x1024x32x3, .f32⟩ : BufTy).Contents (Elt F)),
    reshape main_arg3 main_v50 (rfl : (.f32 : EltTy) = .f32) shapeCasts_S8x4096x64_S32768x64,
    nullary main_c_10 (constantI S_ 32 0#32),
    unary main_c_10 main_v51 (broadcastInDim S262144 ![] bcast_S_S262144 : (⟨S_, .i32⟩ : BufTy).Contents (Elt F) → (⟨S262144, .i32⟩ : BufTy).Contents (Elt F)),
    binary main_v37 main_v51 main_v52 (cmpi .slt : (⟨S262144, .i32⟩ : BufTy).Contents (Elt F) → (⟨S262144, .i32⟩ : BufTy).Contents (Elt F) → (⟨S262144, .i1⟩ : BufTy).Contents (Elt F)),
    nullary main_c_11 (constantI S_ 32 32768#32),
    unary main_c_11 main_v53 (broadcastInDim S262144 ![] bcast_S_S262144 : (⟨S_, .i32⟩ : BufTy).Contents (Elt F) → (⟨S262144, .i32⟩ : BufTy).Contents (Elt F)),
    binary main_v37 main_v53 main_v54 (addi : (⟨S262144, .i32⟩ : BufTy).Contents (Elt F) → (⟨S262144, .i32⟩ : BufTy).Contents (Elt F) → (⟨S262144, .i32⟩ : BufTy).Contents (Elt F)),
    ternary main_v52 main_v54 main_v37 main_v55 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v55 main_v56 (broadcastInDim S262144x1 ![0] bcast_S262144_S262144x1_0 : (⟨S262144, .i32⟩ : BufTy).Contents (Elt F) → (⟨S262144x1, .i32⟩ : BufTy).Contents (Elt F)),
    binary main_v50 main_v56 main_v57 ((fun x i => Host.gather gather_S32768x64_S262144x1_S262144x64_1_0_n_n_0_1_164 x i) : (⟨S32768x64, .f32⟩ : BufTy).Contents (Elt F) → (⟨S262144x1, .i32⟩ : BufTy).Contents (Elt F) → (⟨S262144x64, .f32⟩ : BufTy).Contents (Elt F)),
    reshape main_v57 main_v58 (rfl : (.f32 : EltTy) = .f32) shapeCasts_S262144x64_S8x1024x32x64,
    unary main_v35 main_v59 (broadcastInDim S8x1024x1x3 ![0, 1, 3] bcast_S8x1024x3_S8x1024x1x3_0_1_3 : (⟨S8x1024x3, .f32⟩ : BufTy).Contents (Elt F) → (⟨S8x1024x1x3, .f32⟩ : BufTy).Contents (Elt F)),
    unary main_v59 main_v60 (broadcastInDim S8x1024x32x3 ![0, 1, 2, 3] bcast_S8x1024x1x3_S8x1024x32x3_0_1_2_3 : (⟨S8x1024x1x3, .f32⟩ : BufTy).Contents (Elt F) → (⟨S8x1024x32x3, .f32⟩ : BufTy).Contents (Elt F)),
    nary ![main_v49, main_v58, main_v60] main_v61 (fun u => (concatenate S8x1024x32x70 3 [⟨S8x1024x32x3, (u 0 : (⟨S8x1024x32x3, .f32⟩ : BufTy).Contents (Elt F))⟩, ⟨S8x1024x32x64, (u 1 : (⟨S8x1024x32x64, .f32⟩ : BufTy).Contents (Elt F))⟩, ⟨S8x1024x32x3, (u 2 : (⟨S8x1024x32x3, .f32⟩ : BufTy).Contents (Elt F))⟩] concatenates_S8x1024x32x3_S8x1024x32x64_S8x1024x32x3_S8x1024x32x70_d3 : (⟨S8x1024x32x70, .f32⟩ : BufTy).Contents (Elt F))) ]

/-- The three layers, and the maximum over a group. -/
abbrev layerOps : List (HloOp τ sig (Elt F)) :=
  [ binary main_v61 main_arg4 main_v62 ((fun l r => Host.dotGeneral dot_S8x1024x32x70_S70x128_S8x1024x32x128_3_0_012_1_n_n none l r) : (⟨S8x1024x32x70, .f32⟩ : BufTy).Contents (Elt F) → (⟨S70x128, .f32⟩ : BufTy).Contents (Elt F) → (⟨S8x1024x32x128, .f32⟩ : BufTy).Contents (Elt F)),
    unary main_arg5 main_v63 (broadcastInDim S1x1x1x128 ![3] bcast_S128_S1x1x1x128_3 : (⟨S128, .f32⟩ : BufTy).Contents (Elt F) → (⟨S1x1x1x128, .f32⟩ : BufTy).Contents (Elt F)),
    unary main_v63 main_v64 (broadcastInDim S8x1024x32x128 ![0, 1, 2, 3] bcast_S1x1x1x128_S8x1024x32x128_0_1_2_3 : (⟨S1x1x1x128, .f32⟩ : BufTy).Contents (Elt F) → (⟨S8x1024x32x128, .f32⟩ : BufTy).Contents (Elt F)),
    binary main_v62 main_v64 main_v65 (addf : (⟨S8x1024x32x128, .f32⟩ : BufTy).Contents (Elt F) → (⟨S8x1024x32x128, .f32⟩ : BufTy).Contents (Elt F) → (⟨S8x1024x32x128, .f32⟩ : BufTy).Contents (Elt F)),
    TRef.nullary main_call2.cst (constant S_ .f32 0x00000000#32),
    TRef.unary main_call2.cst main_call2.v0 (broadcastInDim S8x1024x32x128 ![] bcast_S_S8x1024x32x128),
    TRef.binary (TRef.of (T := ⟨S8x1024x32x128, .f32⟩) main_v65) main_call2.v0 main_call2.v1 maximumf,
    binary main_v66 main_arg6 main_v67 ((fun l r => Host.dotGeneral dot_S8x1024x32x128_S128x128_S8x1024x32x128_3_0_012_1_n_n none l r) : (⟨S8x1024x32x128, .f32⟩ : BufTy).Contents (Elt F) → (⟨S128x128, .f32⟩ : BufTy).Contents (Elt F) → (⟨S8x1024x32x128, .f32⟩ : BufTy).Contents (Elt F)),
    unary main_arg7 main_v68 (broadcastInDim S1x1x1x128 ![3] bcast_S128_S1x1x1x128_3 : (⟨S128, .f32⟩ : BufTy).Contents (Elt F) → (⟨S1x1x1x128, .f32⟩ : BufTy).Contents (Elt F)),
    unary main_v68 main_v69 (broadcastInDim S8x1024x32x128 ![0, 1, 2, 3] bcast_S1x1x1x128_S8x1024x32x128_0_1_2_3 : (⟨S1x1x1x128, .f32⟩ : BufTy).Contents (Elt F) → (⟨S8x1024x32x128, .f32⟩ : BufTy).Contents (Elt F)),
    binary main_v67 main_v69 main_v70 (addf : (⟨S8x1024x32x128, .f32⟩ : BufTy).Contents (Elt F) → (⟨S8x1024x32x128, .f32⟩ : BufTy).Contents (Elt F) → (⟨S8x1024x32x128, .f32⟩ : BufTy).Contents (Elt F)),
    TRef.nullary main_call3.cst (constant S_ .f32 0x00000000#32),
    TRef.unary main_call3.cst main_call3.v0 (broadcastInDim S8x1024x32x128 ![] bcast_S_S8x1024x32x128),
    TRef.binary (TRef.of (T := ⟨S8x1024x32x128, .f32⟩) main_v70) main_call3.v0 main_call3.v1 maximumf,
    binary main_v71 main_arg8 main_v72 ((fun l r => Host.dotGeneral dot_S8x1024x32x128_S128x256_S8x1024x32x256_3_0_012_1_n_n none l r) : (⟨S8x1024x32x128, .f32⟩ : BufTy).Contents (Elt F) → (⟨S128x256, .f32⟩ : BufTy).Contents (Elt F) → (⟨S8x1024x32x256, .f32⟩ : BufTy).Contents (Elt F)),
    unary main_arg9 main_v73 (broadcastInDim S1x1x1x256 ![3] bcast_S256_S1x1x1x256_3 : (⟨S256, .f32⟩ : BufTy).Contents (Elt F) → (⟨S1x1x1x256, .f32⟩ : BufTy).Contents (Elt F)),
    unary main_v73 main_v74 (broadcastInDim S8x1024x32x256 ![0, 1, 2, 3] bcast_S1x1x1x256_S8x1024x32x256_0_1_2_3 : (⟨S1x1x1x256, .f32⟩ : BufTy).Contents (Elt F) → (⟨S8x1024x32x256, .f32⟩ : BufTy).Contents (Elt F)),
    binary main_v72 main_v74 main_v75 (addf : (⟨S8x1024x32x256, .f32⟩ : BufTy).Contents (Elt F) → (⟨S8x1024x32x256, .f32⟩ : BufTy).Contents (Elt F) → (⟨S8x1024x32x256, .f32⟩ : BufTy).Contents (Elt F)),
    TRef.nullary main_call4.cst (constant S_ .f32 0x00000000#32),
    TRef.unary main_call4.cst main_call4.v0 (broadcastInDim S8x1024x32x256 ![] bcast_S_S8x1024x32x256),
    TRef.binary (TRef.of (T := ⟨S8x1024x32x256, .f32⟩) main_v75) main_call4.v0 main_call4.v1 maximumf,
    nullary main_cst_12 (constant S_ .f32 0xFF800000#32),
    binary main_v76 main_cst_12 main_v77 ((fun x v => Host.reduce FloatOps.maximumf x v reducesTo_S8x1024x32x256_S8x1024x256_d2 h_S_) : (⟨S8x1024x32x256, .f32⟩ : BufTy).Contents (Elt F) → (⟨S_, .f32⟩ : BufTy).Contents (Elt F) → (⟨S8x1024x256, .f32⟩ : BufTy).Contents (Elt F)),
    unary main_v77 main_v78 ((transpose S8x256x1024 [0, 2, 1] · transposes_S8x1024x256_S8x256x1024_0_2_1) : (⟨S8x1024x256, .f32⟩ : BufTy).Contents (Elt F) → (⟨S8x256x1024, .f32⟩ : BufTy).Contents (Elt F)) ]

/-- The program is its first line, the loop, and its three last lines. -/
theorem main_eq (c : Dev nD) :
    main (F := F) c = (seq preOps >>= fun _ => HostLoop.enter 0 >>= fun _ => seq postOps >>= fun _ => seq groupOps >>= fun _ =>
      seq layerOps) := rfl

/-- A step of the loop is its line. -/
theorem body_eq : main_while0_body (F := F) = seq bodyOps := rfl

end Cert.ReferenceIdeal.Run

end
-- ==== Proof.SampleRefRun.lean ====
/-
  The reference terminates, and what its core's buffers hold at the end: the valuation the first line leaves, 1023 steps of the
  loop from it, the last test, the three last lines.
-/
module

public import proofs.«01_k».proof.Proof.SampleRefOps

@[expose] public section

noncomputable section

namespace Cert.ReferenceIdeal.Run

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

local notation "𝕄" => MT nD τ sig Unit (Elt F) ℕ (Option PUnit) Unit

/-! ## Side facts of the lines -/

theorem scopedRefs_none : (Finset.univ.filter fun b : Ref sig .tc => b.isScoped) = ∅ := by decide
theorem scopedSems_none : (Finset.univ.filter fun sm : SemLoc sig => sm.isScoped .tc) = ∅ := by decide

set_option maxRecDepth 8192 in
theorem pre_bufs : ∀ op ∈ (preOps : List (HloOp τ sig (Elt F))), op.bufs ⊆ tcRefs τ sig := by
  intro op h; fin_cases h <;> simp
theorem pre_fresh : ∀ op ∈ (preOps : List (HloOp τ sig (Elt F))), op.fresh = ∅ := by
  intro op h; fin_cases h <;> rfl
set_option maxRecDepth 8192 in
theorem body_bufs : ∀ op ∈ (bodyOps : List (HloOp τ sig (Elt F))), op.bufs ⊆ tcRefs τ sig := by
  intro op h; fin_cases h <;> simp [TRef.nullary, TRef.unary, TRef.quaternary, TRef.binaryIndexed]
theorem body_fresh : ∀ op ∈ (bodyOps : List (HloOp τ sig (Elt F))), op.fresh = ∅ := by
  intro op h; fin_cases h <;> rfl
set_option maxRecDepth 8192 in
theorem post_bufs : ∀ op ∈ (postOps : List (HloOp τ sig (Elt F))), op.bufs ⊆ tcRefs τ sig := by
  intro op h; fin_cases h <;> simp
theorem post_fresh : ∀ op ∈ (postOps : List (HloOp τ sig (Elt F))), op.fresh = ∅ := by
  intro op h; fin_cases h <;> rfl

set_option maxRecDepth 8192 in
theorem group_bufs : ∀ op ∈ (groupOps : List (HloOp τ sig (Elt F))), op.bufs ⊆ tcRefs τ sig := by
  intro op h; fin_cases h <;> simp
theorem group_fresh : ∀ op ∈ (groupOps : List (HloOp τ sig (Elt F))), op.fresh = ∅ := by
  intro op h; fin_cases h <;> rfl
set_option maxRecDepth 8192 in
theorem layer_bufs : ∀ op ∈ (layerOps : List (HloOp τ sig (Elt F))), op.bufs ⊆ tcRefs τ sig := by
  intro op h; fin_cases h <;> simp [TRef.nullary, TRef.unary, TRef.binary]
theorem layer_fresh : ∀ op ∈ (layerOps : List (HloOp τ sig (Elt F))), op.fresh = ∅ := by
  intro op h; fin_cases h <;> rfl

/-! ## The loop's valuations -/

/-- The valuation before the `k`-th test. -/
def Wk (W : Valuation τ sig (Elt F)) : ℕ → Valuation τ sig (Elt F)
  | 0 => W
  | k + 1 => after bodyOps (after condOps (Wk W k))

/-- A step adds one to the counter. -/
theorem step_ctr (W : Valuation τ sig (Elt F)) :
    after bodyOps (after condOps W) main_v7_3 = addi (W main_v7_3) (constantI S_ 32 1#32) := by
  simp only [bodyOps, condOps, TRef.nullary, TRef.unary, TRef.quaternary, TRef.binaryIndexed, TRef.toBuf, TRef.ofBuf, cast_eq]
  after_results_simp
  rfl

/-- So the counter before the `k`-th test is `k`. -/
theorem ctr (W : Valuation τ sig (Elt F)) (h0 : W main_v7_3 = constantI S_ 32 0#32) :
    ∀ k, Wk W k main_v7_3 = fun _ => BitVec.ofNat 32 k
  | 0 => h0
  | k + 1 => by
    rw [Wk, step_ctr, ctr W h0 k]
    funext i
    show BitVec.ofNat 32 k + 1#32 = BitVec.ofNat 32 (k + 1)
    rw [BitVec.ofNat_add]

/-- The test reads one exactly while steps remain. -/
theorem test_iff {k : ℕ} (h : k ≤ 1023) : IntOp.cmpi .slt (BitVec.ofNat 32 k) 1023#32 = 1#1 ↔ k < 1023 := by
  have e : (BitVec.ofNat 32 k).toInt = (k : ℤ) := by
    rw [BitVec.toInt_eq_toNat_of_lt (by simp [BitVec.toNat_ofNat]; omega), BitVec.toNat_ofNat, Nat.mod_eq_of_lt (by omega)]
  have e' : (1023#32 : BitVec 32).toInt = 1023 := by decide
  unfold IntOp.cmpi
  simp only [BitVec.slt, e, e']
  by_cases h' : k < 1023
  · simp [h']
  · simp [h']

/-- What the core's buffers hold at the end. -/
def Wend (m : (ℓ : Loc nD τ sig) → Buf (Elt F) ℓ) (d : Dev nD) : Valuation τ sig (Elt F) :=
  after layerOps (after groupOps (after postOps (after condOps (Wk (after preOps (launchContents m d)) 1023))))

theorem pre_ctr (W : Valuation τ sig (Elt F)) : after preOps W main_v7_3 = constantI S_ 32 0#32 := by
  after_results_simp
  rfl

/-! ## The run -/

set_option backward.isDefEq.respectTransparency.types false in
/-- The test, from any valuation whose counter is `k`. -/
theorem wp_test (d : Dev nD) (bd : Option Variants.nat.V) (W : Valuation τ sig (Elt F)) {k : ℕ} (hk : k ≤ 1023)
    (hW : W main_v7_3 = fun _ => BitVec.ofNat 32 k) :
    iprop(boundary (d.tc : Thread nD τ) ∗ held (d.tc : Thread nD τ) (tcRefs τ sig) W)
      ⊢ wp frame (wpE (defs (F := F)) Variants.nat (d.tc : Thread nD τ) bd) Set.univ (main_while0_cond (F := F))
          (fun v => iprop(⌜v = 1#1 ↔ k < 1023⌝ ∗ boundary (d.tc : Thread nD τ) ∗ held (d.tc : Thread nD τ) (tcRefs τ sig) (after condOps W)) : _ → sProp 𝕄) := by
  unfold main_while0_cond
  simp only [wp_bind]
  iintro H
  iapply (wp_hlo_within Variants.nat (d.tc : Thread nD τ) bd Set.univ (nullary_bufs_sub _ _ _)) $$ H
  iintro H
  rw [wp_ret]; imodintro
  iapply (wp_hlo_within Variants.nat (d.tc : Thread nD τ) bd Set.univ (binary_bufs_sub _ _ _ _ _ _ _)) $$ H
  iintro H
  rw [HostLoop.elt_apply, wp_ret]; imodintro
  isplitr
  · ipureintro
    refine Iff.trans (iff_of_eq (congrArg (· = 1#1) ?_)) (test_iff hk)
    show IntOp.cmpi .slt ((nullary main_while0c_c_19 (constantI S_ 32 1023#32)).result W main_v7_3 HostLoop.idx0)
      ((nullary main_while0c_c_19 (constantI S_ 32 1023#32)).result W main_while0c_c_19 HostLoop.idx0) = _
    rw [nullary_result_ne _ _ _ _ (by decide), nullary_result, hW]
    rfl
  · iexact H

set_option backward.isDefEq.respectTransparency.types false in
/-- A step, from any valuation. -/
theorem wp_step (d : Dev nD) (bd : Option Variants.nat.V) (W : Valuation τ sig (Elt F)) :
    iprop(boundary (d.tc : Thread nD τ) ∗ held (d.tc : Thread nD τ) (tcRefs τ sig) W)
      ⊢ wp frame (wpE (defs (F := F)) Variants.nat (d.tc : Thread nD τ) bd) Set.univ (main_while0_body (F := F))
          (fun _ => iprop(boundary (d.tc : Thread nD τ) ∗ held (d.tc : Thread nD τ) (tcRefs τ sig) (after bodyOps W)) : _ → sProp 𝕄) := by
  rw [body_eq, show seq (Λ := HostLoop.Sig _ 1) (nD := nD) (bodyOps (F := F)) = (seq bodyOps >>= fun u => Pure.pure u) from (bind_pure _).symm]
  iintro H
  iapply (wp_seq Variants.nat bd Set.univ d (tcRefs τ sig) (fun u => Pure.pure u) bodyOps body_bufs body_fresh W) $$ H
  iintro H
  rw [wp_pure]; imodintro
  iexact H

set_option backward.isDefEq.respectTransparency.types false in
/-- The program, from the launch's buffers. -/
theorem wp_main (d : Dev nD) (W : Valuation τ sig (Elt F)) :
    iprop(boundary (d.tc : Thread nD τ) ∗ held (d.tc : Thread nD τ) (tcRefs τ sig) W)
      ⊢ wp frame (wpE (defs (F := F)) Variants.nat (d.tc : Thread nD τ) none) Set.univ (main (F := F) d)
          (fun _ => iprop(boundary (d.tc : Thread nD τ) ∗ held (d.tc : Thread nD τ) (tcRefs τ sig)
            (after layerOps (after groupOps (after postOps (after condOps (Wk (after preOps W) 1023)))))) : _ → sProp 𝕄) := by
  have hc := ctr (after preOps W) (pre_ctr W)
  rw [main_eq]
  iintro H
  iapply (wp_seq Variants.nat none Set.univ d (tcRefs τ sig) _ preOps pre_bufs pre_fresh W) $$ H
  iintro H
  iapply (HostLoop.wp_enter (cond := main_while0_cond (F := F)) (body := main_while0_body (F := F)) Variants.nat (d.tc : Thread nD τ) none Set.univ rfl 1023
    (fun k => iprop(boundary (d.tc : Thread nD τ) ∗ held (d.tc : Thread nD τ) (tcRefs τ sig) (Wk (after preOps W) k)))
    (fun k => iprop(boundary (d.tc : Thread nD τ) ∗ held (d.tc : Thread nD τ) (tcRefs τ sig) (after condOps (Wk (after preOps W) k))))
    (fun k => (1023 - k : ℕ))
    (fun k hk bd' => wp_test d bd' _ hk (hc k))
    (fun k _ => wp_step d _ _)
    (fun k hk => (by omega : 1023 - (k + 1) < 1023 - k))
    (fun u hu => nomatch hu))
  isplitl [H]
  · iexact H
  iintro H
  iapply (wp_seq Variants.nat none Set.univ d (tcRefs τ sig) _ postOps post_bufs post_fresh _) $$ H
  iintro H
  iapply (wp_seq Variants.nat none Set.univ d (tcRefs τ sig) _ groupOps group_bufs group_fresh _) $$ H
  iintro H
  rw [show seq (Λ := HostLoop.Sig _ 1) (nD := nD) (layerOps (F := F)) = (seq layerOps >>= fun u => Pure.pure u) from (bind_pure _).symm]
  iapply (wp_seq Variants.nat none Set.univ d (tcRefs τ sig) (fun u => Pure.pure u) layerOps layer_bufs layer_fresh _) $$ H
  iintro H
  rw [wp_pure]; imodintro
  iexact H

/-- What each core ends holding. -/
def held_end (m : (ℓ : Loc nD τ sig) → Buf (Elt F) ℓ) (d : Dev nD) : sProp 𝕄 :=
  held (d.tc : Thread nD τ) (tcRefs τ sig) (Wend m d)

set_option backward.isDefEq.respectTransparency.types false in
theorem from_launch (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.nat (d.tc : Thread nD τ) none) Set.univ (main (F := F) d)
          (fun _ => post (liftTc (held_end m) BI.emp) (d.tc : Thread nD τ) : PUnit → sProp 𝕄) := by
  have hb : (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
    unfold held tcRefs; rw [bigSep_map]; rfl
  have hi : (opIdle (d.tc : Thread nD τ) : sProp 𝕄) ⊢ boundary (d.tc : Thread nD τ) :=
    boundary_of_opIdle (d.tc : Thread nD τ) (by rw [scopedRefs_tc, scopedRefs_none, Finset.map_empty])
      (by rw [show (d.tc : Thread nD τ) = (d, .tc) from rfl, scopedCells_tc, scopedSems_none, Finset.map_empty])
  rw [hb]
  iintro ⟨Hbufs, HO, -, Hidle⟩
  ihave Hb := hi $$ Hidle
  iapply (wp_wand_r frame (wpE (defs (F := F)) Variants.nat (d.tc : Thread nD τ) none) Set.univ)
  isplitl [Hb Hbufs]
  · iapply (wp_main d (launchContents m d))
    isplitl [Hb]; · iexact Hb
    iexact Hbufs
  iintro %u ⟨-, H⟩
  unfold post held_end Wend; simp only [liftTc_tc]
  isplitl [H]; · iexact H
  iexists ∅; iexact HO

theorem end_reads (m : (ℓ : Loc nD τ sig) → Buf (Elt F) ℓ) (d : Dev nD) (s' : Phys nD τ sig (Elt F)) :
    iprop(held_end m d ∗ SI s') ⊢ (⌜∀ b : Ref sig .tc, s'.mem.mem ((d.tc : Thread nD τ).loc b) = Wend m d b⌝ : sProp 𝕄) := by
  unfold held_end held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-- Every fair execution terminates, with each buffer of the core at the last valuation. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = Wend m d b :=
  adequate_tpu defs _ _ _ (reflect_intro_silent_tc (Ix := Unit) (Name := ℕ) (U := Option PUnit) (Lvl := Unit)
    Variants.nat (fun _ => le_rfl) none (held_end m)
    (fun d mem => ∀ b : Ref sig .tc, mem.mem ((d.tc : Thread nD τ).loc b) = Wend m d b)
    (from_launch m ρ) (end_reads m) (fun _ h d => h d))

end Cert.ReferenceIdeal.Run

end
-- ==== Proof.SampleRefVal.lean ====
/-
  What a step of the reference's loop, and the line after it, leave: each as a term of what they find.
-/
module

public import proofs.«01_k».proof.Proof.SampleRefRun
public import Idealize.ShloMosaic.Lib.StableHlo.RunClose

@[expose] public section

noncomputable section

namespace Cert.ReferenceIdeal.Run

open Cert.ReferenceIdeal Cert.ReferenceIdeal.Gen

open Idealize.ShloMosaic
open Idealize.ShloMosaic.TcCoe
open Idealize.ShloMosaic.StableHlo

variable {F : FTy → Type} [FloatOps F]

/-- The row numbers of the last chosen points, negative ones counted from the end. -/
def lastRow (base last : IVec S8 32) : IVec S8 32 :=
  select (cmpi .slt (addi base last) (broadcastInDim S8 ![] bcast_S_S8 (constantI S_ 32 0#32)))
    (addi (addi base last) (broadcastInDim S8 ![] bcast_S_S8 (constantI S_ 32 32768#32))) (addi base last)

/-- The differences to the last chosen points. -/
def diff (base last : IVec S8 32) (rows : FVec F S32768x3 .f32) (x : FVec F S8x4096x3 .f32) : FVec F S8x4096x3 .f32 :=
  subf x (broadcastInDim S8x4096x3 ![0, 1, 2] bcast_S8x1x3_S8x4096x3_0_1_2 (broadcastInDim S8x1x3 ![0, 2] bcast_S8x3_S8x1x3_0_2
    (Host.gather gather_S32768x3_S8x1_S8x3_1_0_n_n_0_1_13 rows (broadcastInDim S8x1 ![0] bcast_S8_S8x1_0 (lastRow base last)))))

/-- The distances after a step. -/
def newDist (base last : IVec S8 32) (rows : FVec F S32768x3 .f32) (x : FVec F S8x4096x3 .f32) (dist : FVec F S8x4096 .f32) : FVec F S8x4096 .f32 :=
  minimumf dist (Host.reduceAdd (mulf (diff base last rows x) (diff base last rows x)) (constant S_ .f32 0x00000000#32) reducesTo_S8x4096x3_S8x4096_d2 h_S_)

/-- The farthest points. -/
def farthest (dist : FVec F S8x4096 .f32) : IVec S8 32 := fun j =>
  (Host.argReduce reducer_argmax_f32_i32 dist (iotaInDim S8x4096 32 1) (constant S_ .f32 0xFF800000#32) (constantI S_ 32 0#32) reducesTo_S8x4096_S8_d1 h_S_ j).2

/-- The list of chosen points with one more. -/
def record (list : IVec S1023x8 32) (n : IVec S_ 32) (last : IVec S8 32) : IVec S1023x8 32 :=
  Host.dynamicUpdateSlice list (broadcastInDim S1x8 ![1] bcast_S8_S1x8_1 last)
    (fun k => ((![n, constantI S_ 32 0#32] : Fin 2 → IVec S_ 32) k (Shape.Idx.first h_S_)).toInt) updateFits_S1023x8_S1x8

theorem step_dist (W : Valuation τ sig (Elt F)) :
    after bodyOps (after condOps W) main_v7_4 = newDist (W main_v7_0) (W main_v7_5) (W main_v7_1) (W main_v7_2) (W main_v7_4) := by
  simp only [bodyOps, condOps, TRef.nullary, TRef.unary, TRef.quaternary, TRef.binaryIndexed, TRef.toBuf, TRef.ofBuf, cast_eq]
  after_results_simp
  rfl

theorem step_last (W : Valuation τ sig (Elt F)) :
    after bodyOps (after condOps W) main_v7_5 = farthest (newDist (W main_v7_0) (W main_v7_5) (W main_v7_1) (W main_v7_2) (W main_v7_4)) := by
  simp only [bodyOps, condOps, TRef.nullary, TRef.unary, TRef.quaternary, TRef.binaryIndexed, TRef.toBuf, TRef.ofBuf, cast_eq]
  after_results_simp
  rfl

theorem step_list (W : Valuation τ sig (Elt F)) :
    after bodyOps (after condOps W) main_v7_6 = record (W main_v7_6) (W main_v7_3)
      (farthest (newDist (W main_v7_0) (W main_v7_5) (W main_v7_1) (W main_v7_2) (W main_v7_4))) := by
  simp only [bodyOps, condOps, TRef.nullary, TRef.unary, TRef.quaternary, TRef.binaryIndexed, TRef.toBuf, TRef.ofBuf, cast_eq]
  after_results_simp_entrywise
  rfl

/-- What a step does not write. -/
theorem step_keeps (W : Valuation τ sig (Elt F)) :
    after bodyOps (after condOps W) main_v7_0 = W main_v7_0 ∧ after bodyOps (after condOps W) main_v7_1 = W main_v7_1
      ∧ after bodyOps (after condOps W) main_v7_2 = W main_v7_2 ∧ after bodyOps (after condOps W) main_v4 = W main_v4
      ∧ after bodyOps (after condOps W) main_arg0 = W main_arg0 ∧ after bodyOps (after condOps W) main_arg1 = W main_arg1 := by
  simp only [bodyOps, condOps, TRef.nullary, TRef.unary, TRef.quaternary, TRef.binaryIndexed, TRef.toBuf, TRef.ofBuf, cast_eq]
  refine ⟨?_, ?_, ?_, ?_, ?_, ?_⟩ <;> after_results_simp

/-- The chosen points' row numbers in the flat arrays. -/
def flatRows (zero : IVec S8 32) (list : IVec S1023x8 32) : IVec S8192 32 :=
  shapeCast S8192 (addi (transpose S8x1024 [1, 0] (concatenate S1024x8 0 [⟨S1x8, broadcastInDim S1x8 ![1] bcast_S8_S1x8_1 zero⟩, ⟨S1023x8, list⟩]
      concatenates_S1x8_S1023x8_S1024x8_d0) transposes_S1024x8_S8x1024_1_0)
    (broadcastInDim S8x1024 ![0, 1] bcast_S8x1_S8x1024_0_1 (muli (broadcastInDim S8x1 ![0] bcast_S8_S8x1_0 (iotaInDim S8 32 0))
      (broadcastInDim S8x1 ![] bcast_S_S8x1 (constantI S_ 32 4096#32))))) shapeCasts_S8x1024_S8192

/-- An array's rows at the chosen points. -/
def taken (rows : IVec S8192 32) (x : FVec F S8x4096x3 .f32) : FVec F S8x1024x3 .f32 :=
  shapeCast S8x1024x3 (Host.gather gather_S32768x3_S8192x1_S8192x3_1_0_n_n_0_1_13 (shapeCast S32768x3 x shapeCasts_S8x4096x3_S32768x3)
    (broadcastInDim S8192x1 ![0] bcast_S8192_S8192x1_0
      (select (cmpi .slt rows (broadcastInDim S8192 ![] bcast_S_S8192 (constantI S_ 32 0#32)))
        (addi rows (broadcastInDim S8192 ![] bcast_S_S8192 (constantI S_ 32 32768#32))) rows))) shapeCasts_S8192x3_S8x1024x3

theorem post_v26 (W : Valuation τ sig (Elt F)) :
    after postOps (after condOps W) main_v26 = taken (flatRows (W main_v4) (W main_v7_6)) (W main_arg0) := by
  simp only [postOps, condOps]
  after_results_simp
  rfl

theorem post_v35 (W : Valuation τ sig (Elt F)) :
    after postOps (after condOps W) main_v35 = taken (flatRows (W main_v4) (W main_v7_6)) (W main_arg1) := by
  simp only [postOps, condOps]
  after_results_simp
  rfl

theorem pre_vals (W : Valuation τ sig (Elt F)) :
    after preOps W main_v7_0 = muli (iotaInDim S8 32 0) (broadcastInDim S8 ![] bcast_S_S8 (constantI S_ 32 4096#32))
      ∧ after preOps W main_v7_1 = shapeCast S32768x3 (W main_arg0) shapeCasts_S8x4096x3_S32768x3
      ∧ after preOps W main_v7_2 = W main_arg0
      ∧ after preOps W main_v7_4 = broadcastInDim S8x4096 ![] bcast_S_S8x4096 (constant S_ .f32 0x501502F9#32)
      ∧ after preOps W main_v7_5 = broadcastInDim S8 ![] bcast_S_S8 (constantI S_ 32 0#32)
      ∧ after preOps W main_v4 = broadcastInDim S8 ![] bcast_S_S8 (constantI S_ 32 0#32)
      ∧ after preOps W main_arg0 = W main_arg0 ∧ after preOps W main_arg1 = W main_arg1 := by
  simp only [preOps]
  refine ⟨?_, ?_, ?_, ?_, ?_, ?_, ?_, ?_⟩ <;> after_results_simp <;> rfl

end Cert.ReferenceIdeal.Run

end
-- ==== Proof.SampleRefRead.lean ====
/-
  The reference's sampling terms read at an element over the extended reals: the distances, the farthest points, the list of
  chosen points, and the rows taken there.
-/
module

public import proofs.«01_k».proof.Proof.SampleRefVal
public import proofs.«01_k».proof.Proof.SampleSpec
public import proofs.«01_k».proof.Proof.RowGather

@[expose] public section

noncomputable section

namespace Cert.ReferenceIdeal.Run

open Cert.ReferenceIdeal Cert.ReferenceIdeal.Gen Cert.SampleSpec
open Idealize.ShloMosaic Idealize.ShloMosaic.TcCoe

/-- The row numbers of the batches' first points. -/
def bases : IVec S8 32 := muli (iotaInDim S8 32 0) (broadcastInDim S8 ![] bcast_S_S8 (constantI S_ 32 4096#32))

/-- The points of a batch. -/
def cloud (x : FVec Ideal S8x4096x3 .f32) (b : Fin 8) : Fin 4096 → Fin 3 → EReal := fun i e => x (ix3 b i e)

theorem row_toNat (b : Fin 8) (p : Fin 4096) : (BitVec.ofNat 32 b.val * 4096#32 + BitVec.ofNat 32 p.val).toNat = b.val * 4096 + p.val := by
  simp only [BitVec.toNat_add, BitVec.toNat_mul, BitVec.toNat_ofNat]
  omega

variable (last : IVec S8 32) (b : Fin 8) (p : Fin 4096) (hp : last (ix1 b) = BitVec.ofNat 32 p.val)

include hp

theorem lastRow_toNat : (lastRow bases last (ix1 b)).toNat = b.val * 4096 + p.val := by
  have e : addi bases last (ix1 b) = BitVec.ofNat 32 b.val * 4096#32 + BitVec.ofNat 32 p.val := by
    rw [← hp]
    rfl
  have h := RowGather.wrap_eq (v := addi bases last (ix1 b)) (k := 32768#32) (by rw [e, row_toNat]; omega)
  rw [← row_toNat b p, ← e]
  exact congrArg BitVec.toNat h

theorem picked (x : FVec Ideal S8x4096x3 .f32) (e : Fin 3) :
    Host.gather gather_S32768x3_S8x1_S8x3_1_0_n_n_0_1_13 (shapeCast S32768x3 x shapeCasts_S8x4096x3_S32768x3)
      (broadcastInDim S8x1 ![0] bcast_S8_S8x1_0 (lastRow bases last)) (ix2 b e) = x (ix3 b p e) := by
  have hv := lastRow_toNat last b p hp
  have hi : gather_S32768x3_S8x1_S8x3_1_0_n_n_0_1_13.operandIdx (ix2 b e) (broadcastInDim S8x1 ![0] bcast_S8_S8x1_0 (lastRow bases last))
      = ix2 (⟨b.val * 4096 + p.val, by omega⟩ : Fin 32768) e := by
    funext a
    match a with
    | 0 =>
      refine Fin.ext ((RowGather.operandIdx_zero _ _ (ix2 b e)).trans ?_)
      rw [show (ix2 b e) 0 = b from rfl, RowGather.col_at _ _ (by norm_num) b (ix1 b) rfl,
        RowGather.clamp_eq (by norm_num) (by rw [hv]; omega), hv]
      rfl
    | 1 => exact Fin.ext (RowGather.operandIdx_one _ _ (ix2 b e))
  show shapeCast S32768x3 x _ (gather_S32768x3_S8x1_S8x3_1_0_n_n_0_1_13.operandIdx (ix2 b e) _) = _
  rw [hi]
  pointwise

theorem diff_apply (x : FVec Ideal S8x4096x3 .f32) (i : Fin 4096) (e : Fin 3) :
    diff bases last (shapeCast S32768x3 x shapeCasts_S8x4096x3_S32768x3) x (ix3 b i e) = x (ix3 b i e) - x (ix3 b p e) := by
  rw [← picked last b p hp x e]
  pointwise [diff]

theorem newDist_apply (x : FVec Ideal S8x4096x3 .f32) (dist : FVec Ideal S8x4096 .f32) (i : Fin 4096) :
    newDist bases last (shapeCast S32768x3 x shapeCasts_S8x4096x3_S32768x3) x dist (ix2 b i)
      = min (dist (ix2 b i)) (sq (cloud x b) p i) := by
  have hd := diff_apply last b p hp x i
  revert hd
  unfold newDist
  generalize diff bases last (shapeCast S32768x3 x shapeCasts_S8x4096x3_S32768x3) x = d
  intro hd
  pointwise
  rw [Fin.sum_univ_three, hd, hd, hd]
  simp [SampleSpec.sq, cloud]

omit hp

/-! ## The farthest points -/

theorem reducer_eq : reducer_argmax_f32_i32 (F := Ideal) = pick := by
  funext a b
  obtain ⟨x, u⟩ := a
  obtain ⟨y, v⟩ := b
  simp only [reducer_argmax_f32_i32, pick, FloatOps.cmpf, Ideal.cmp, IntOp.ori, IntOp.andi, IntOp.cmpi, Scalar.select, BitVec.slt]
  by_cases h1 : y < x <;> by_cases h2 : x = y <;> by_cases h3 : u.toInt < v.toInt <;> simp [h1, h2, h3]

/-- The pairs a batch's fold runs over. -/
theorem farthest_fiber (dist : FVec Ideal S8x4096 .f32) (q : EReal × BitVec 32) :
    q ∈ Host.argReduceFiber dist (iotaInDim S8x4096 32 1) reducesTo_S8x4096_S8_d1 (ix1 b) ↔ ∃ i : Fin 4096, q = (dist (ix2 b i), BitVec.ofNat 32 i.val) := by
  unfold Host.argReduceFiber
  simp only [List.mem_map, List.mem_filter, List.mem_finRange, true_and, decide_eq_true_eq]
  constructor
  · rintro ⟨n, hn, rfl⟩
    obtain ⟨b', i, hi⟩ : ∃ b' i, S8x4096.rowMajor.symm n = ix2 b' i := ⟨_, _, eq_ix2 _⟩
    rw [hi] at hn ⊢
    have hb : b' = b := by
      have := reducesTo_S8x4096_S8_d1.drop_apply_val_of_eq (ix2 b' i) 0 0
      rw [hn] at this
      exact Fin.ext this.symm
    subst hb
    exact ⟨i, rfl⟩
  · rintro ⟨i, rfl⟩
    refine ⟨S8x4096.rowMajor (ix2 b i), ?_, ?_⟩
    · rw [Equiv.symm_apply_apply]
      funext a
      match a with
      | 0 => exact Fin.ext (reducesTo_S8x4096_S8_d1.drop_apply_val_of_eq (ix2 b i) 0 0)
    · rw [Equiv.symm_apply_apply]
      rfl

theorem farthest_apply (dist : FVec Ideal S8x4096 .f32) :
    farthest dist (ix1 b) = BitVec.ofNat 32 (first fun i => dist (ix2 b i)).val := by
  unfold farthest
  rw [Ideal.argReduce_eq_reduce2, Host.reduce2_eq_foldl_fiber, reducer_eq]
  have hl : ∀ q, q ∈ Host.argReduceFiber dist (iotaInDim S8x4096 32 1) reducesTo_S8x4096_S8_d1 (ix1 b) ↔ ∃ i : Fin 4096, q = (dist (ix2 b i), BitVec.ofNat 32 i.val) :=
    farthest_fiber b dist
  revert hl
  generalize Host.argReduceFiber dist (iotaInDim S8x4096 32 1) reducesTo_S8x4096_S8_d1 (ix1 b) = l
  intro hl
  have h0 : constant (F := Ideal) S_ .f32 0xFF800000#32 (Shape.Idx.first h_S_) = (⊥ : EReal) := by
    show Ideal.ofBits .f32 0xFF800000#32 = ⊥
    simp [Ideal.ofBits, Ideal.ieee]
  rw [h0]
  exact reference_first _ l hl

theorem record_apply (list : IVec S1023x8 32) (k r : Fin 1023) :
    record list (fun _ => BitVec.ofNat 32 k.val) last (ix2 r b) = if r = k then last (ix1 b) else list (ix2 r b) := by
  have h0 : Host.clampedStart S1023x8 S1x8 rfl (fun a => ((![fun _ => BitVec.ofNat 32 k.val, constantI S_ 32 0#32] : Fin 2 → IVec S_ 32) a (Shape.Idx.first h_S_)).toInt) 0 = k.val :=
    Host.clampedStart_of_le _ _ _ _ (toInt_word (by omega)) (by show k.val + 1 ≤ 1023; omega)
  have h1 : Host.clampedStart S1023x8 S1x8 rfl (fun a => ((![fun _ => BitVec.ofNat 32 k.val, constantI S_ 32 0#32] : Fin 2 → IVec S_ 32) a (Shape.Idx.first h_S_)).toInt) 1 = 0 :=
    Host.clampedStart_of_le _ _ _ _ rfl (by decide)
  unfold record
  rw [Host.dynamicUpdateSlice_apply]
  by_cases h : r = k
  · subst h
    rw [if_pos rfl, dif_pos ?_]
    · pointwise
      exact congrArg (fun z => last (ix1 z)) (Fin.ext (by dsimp only; rw [h1]; rfl))
    · intro a
      match a with
      | 0 => rw [h0]; exact ⟨le_rfl, Nat.lt_succ_self _⟩
      | 1 => rw [h1]; exact ⟨Nat.zero_le _, by show b.val < 0 + 8; omega⟩
  · rw [if_neg h, dif_neg ?_]
    intro hin
    have := hin 0
    rw [h0] at this
    have h2 : r.val < k.val + 1 := this.2
    have h3 : k.val ≤ r.val := this.1
    exact h (Fin.ext (by omega))

end Cert.ReferenceIdeal.Run

end
-- ==== Proof.SampleRefState.lean ====
/-
  The reference's loop, followed through its steps over the extended reals: after `k` of them it holds the distances and the
  chosen points of farthest-point sampling; and what the reference then takes from its arrays.
-/
module

public import proofs.«01_k».proof.Proof.SampleRefRead

@[expose] public section

noncomputable section

namespace Cert.ReferenceIdeal.Run

open Cert.ReferenceIdeal Cert.ReferenceIdeal.Gen Cert.SampleSpec
open Idealize.ShloMosaic Idealize.ShloMosaic.TcCoe Idealize.ShloMosaic.StableHlo

/-- The distances the loop starts from. -/
def far : EReal := Ideal.ofBits .f32 0x501502F9#32

/-- Eight zeros: the first chosen points. -/
def zeros : IVec S8 32 := broadcastInDim S8 ![] bcast_S_S8 (constantI S_ 32 0#32)

/-- What the loop's buffers hold after `k` steps on the points `x` and the normals `y`. -/
structure Held (x y : FVec Ideal S8x4096x3 .f32) (k : ℕ) (U : Valuation τ sig (Elt Ideal)) : Prop where
  base : U main_v7_0 = bases
  rows : U main_v7_1 = shapeCast S32768x3 x shapeCasts_S8x4096x3_S32768x3
  points : U main_v7_2 = x
  zero : U main_v4 = zeros
  arg0 : U main_arg0 = x
  arg1 : U main_arg1 = y
  dist : ∀ (b : Fin 8) (i : Fin 4096), (U main_v7_4 : FVec Ideal S8x4096 .f32) (ix2 b i) = (state far (cloud x b) k).1 i
  last : ∀ b : Fin 8, (U main_v7_5 : IVec S8 32) (ix1 b) = BitVec.ofNat 32 (state far (cloud x b) k).2.val
  list : ∀ (r : Fin 1023) (b : Fin 8), r.val < k → (U main_v7_6 : IVec S1023x8 32) (ix2 r b) = BitVec.ofNat 32 (state far (cloud x b) (r.val + 1)).2.val

theorem held_pre (V : Valuation τ sig (Elt Ideal)) : Held (V main_arg0) (V main_arg1) 0 (after preOps V) := by
  obtain ⟨h0, h1, h2, h4, h5, hz, ha, hb⟩ := pre_vals V
  refine ⟨h0, h1, h2, hz, ha, hb, fun b i => ?_, fun b => ?_, fun r b h => absurd h (Nat.not_lt_zero _)⟩
  · rw [h4]; rfl
  · rw [h5]; rfl

theorem held_step (x y : FVec Ideal S8x4096x3 .f32) (k : Fin 1023) (U : Valuation τ sig (Elt Ideal)) (h : Held x y k.val U)
    (hc : U main_v7_3 = fun _ => BitVec.ofNat 32 k.val) : Held x y (k.val + 1) (after bodyOps (after condOps U)) := by
  obtain ⟨e0, e1, e2, ez, ea, eb⟩ := step_keeps U
  have hd : ∀ (b : Fin 8) (i : Fin 4096), newDist (F := Ideal) (U main_v7_0) (U main_v7_5) (U main_v7_1) (U main_v7_2) (U main_v7_4) (ix2 b i)
      = (state far (cloud x b) (k.val + 1)).1 i := by
    intro b i
    rw [h.base, h.rows, h.points, newDist_apply _ b _ (h.last b) x _ i, h.dist b i]
    rfl
  have hl : ∀ b : Fin 8, farthest (newDist (F := Ideal) (U main_v7_0) (U main_v7_5) (U main_v7_1) (U main_v7_2) (U main_v7_4)) (ix1 b)
      = BitVec.ofNat 32 (state far (cloud x b) (k.val + 1)).2.val := by
    intro b
    rw [farthest_apply]
    exact congrArg (fun f => BitVec.ofNat 32 (first f).val) (funext (hd b))
  refine ⟨e0.trans h.base, e1.trans h.rows, e2.trans h.points, ez.trans h.zero, ea.trans h.arg0, eb.trans h.arg1,
    fun b i => ?_, fun b => ?_, fun r b hr => ?_⟩
  · rw [step_dist]; exact hd b i
  · rw [step_last]; exact hl b
  · rw [step_list, hc]
    refine (record_apply _ b _ k r).trans ?_
    by_cases hrk : r = k
    · subst hrk
      rw [if_pos rfl]; exact hl b
    · rw [if_neg hrk]
      exact h.list r b (by have := fun e => hrk (Fin.ext e); omega)

theorem held (V : Valuation τ sig (Elt Ideal)) :
    ∀ k, k ≤ 1023 → Held (V main_arg0) (V main_arg1) k (Wk (after preOps V) k)
  | 0, _ => held_pre V
  | k + 1, hk => held_step _ _ ⟨k, by omega⟩ _ (held V k (by omega)) (ctr _ (pre_ctr V) k)

/-! ## What is taken -/

/-- Place in the list of chosen points of batch `b`'s `t`-th. -/
def at8192 (b : Fin 8) (t : Fin 1024) : Fin 8192 := ⟨b.val * 1024 + t.val, by omega⟩

theorem flatRows_apply (list : IVec S1023x8 32) (x : FVec Ideal S8x4096x3 .f32)
    (h : ∀ (r : Fin 1023) (b : Fin 8), list (ix2 r b) = BitVec.ofNat 32 (state far (cloud x b) (r.val + 1)).2.val) (b : Fin 8) (t : Fin 1024) :
    (flatRows zeros list (ix1 (at8192 b t))).toNat = b.val * 4096 + (state far (cloud x b) t.val).2.val := by
  have e : flatRows zeros list (ix1 (at8192 b t)) = BitVec.ofNat 32 b.val * 4096#32 + BitVec.ofNat 32 (state far (cloud x b) t.val).2.val := by
    pointwise [flatRows, at8192, zeros]
    show (if h : t.val < 1 then 0#32 else list (ix2 (⟨t.val - 1, by omega⟩ : Fin 1023) b)) + BitVec.ofNat 32 b.val * 4096#32 = _
    rw [BitVec.add_comm]
    by_cases ht : t.val < 1
    · rw [dif_pos ht, show t.val = 0 by omega]
      rfl
    · rw [dif_neg ht, h, show (⟨t.val - 1, by omega⟩ : Fin 1023).val + 1 = t.val by show t.val - 1 + 1 = t.val; omega]
  rw [e, row_toNat]

theorem taken_apply (rows : IVec S8192 32) (x : FVec Ideal S8x4096x3 .f32) (b : Fin 8) (t : Fin 1024) (e : Fin 3) (p : Fin 4096)
    (h : (rows (ix1 (at8192 b t))).toNat = b.val * 4096 + p.val) : taken rows x (ix3 b t e) = x (ix3 b p e) := by
  have hi : gather_S32768x3_S8192x1_S8192x3_1_0_n_n_0_1_13.operandIdx (ix2 (at8192 b t) e) (broadcastInDim S8192x1 ![0] bcast_S8192_S8192x1_0
      (select (cmpi .slt rows (broadcastInDim S8192 ![] bcast_S_S8192 (constantI S_ 32 0#32)))
        (addi rows (broadcastInDim S8192 ![] bcast_S_S8192 (constantI S_ 32 32768#32))) rows))
      = ix2 (⟨b.val * 4096 + p.val, by omega⟩ : Fin 32768) e := by
    have hw := RowGather.wrap_eq (v := rows (ix1 (at8192 b t))) (k := 32768#32) (by omega)
    funext a
    match a with
    | 0 =>
      refine Fin.ext ((RowGather.operandIdx_zero _ _ (ix2 (at8192 b t) e)).trans ?_)
      rw [show (ix2 (at8192 b t) e) 0 = at8192 b t from rfl, RowGather.col_at _ _ (by norm_num) (at8192 b t) (ix1 (at8192 b t)) rfl]
      refine (congrArg (fun v : BitVec 32 => min v.toInt.toNat (32768 - 1)) hw).trans ?_
      dsimp only
      rw [RowGather.clamp_eq (by norm_num) (by omega), h]
      rfl
    | 1 => exact Fin.ext (RowGather.operandIdx_one _ _ (ix2 (at8192 b t) e))
  have hg : Host.gather gather_S32768x3_S8192x1_S8192x3_1_0_n_n_0_1_13 (shapeCast S32768x3 x shapeCasts_S8x4096x3_S32768x3)
      (broadcastInDim S8192x1 ![0] bcast_S8192_S8192x1_0
      (select (cmpi .slt rows (broadcastInDim S8192 ![] bcast_S_S8192 (constantI S_ 32 0#32)))
        (addi rows (broadcastInDim S8192 ![] bcast_S_S8192 (constantI S_ 32 32768#32))) rows)) (ix2 (at8192 b t) e) = x (ix3 b p e) := by
    refine (congrArg (shapeCast S32768x3 x shapeCasts_S8x4096x3_S32768x3) hi).trans ?_
    pointwise
  rw [← hg]
  unfold taken
  generalize Host.gather gather_S32768x3_S8192x1_S8192x3_1_0_n_n_0_1_13 _ _ = g
  pointwise [at8192]

/-- What the line after the loop leaves at an element. -/
theorem post_apply (V : Valuation τ sig (Elt Ideal)) (b : Fin 8) (t : Fin 1024) (e : Fin 3) :
    (after postOps (after condOps (Wk (after preOps V) 1023)) main_v26 : FVec Ideal S8x1024x3 .f32) (ix3 b t e)
        = (V main_arg0 : FVec Ideal S8x4096x3 .f32) (ix3 b (state far (cloud (V main_arg0) b) t.val).2 e)
      ∧ (after postOps (after condOps (Wk (after preOps V) 1023)) main_v35 : FVec Ideal S8x1024x3 .f32) (ix3 b t e)
        = (V main_arg1 : FVec Ideal S8x4096x3 .f32) (ix3 b (state far (cloud (V main_arg0) b) t.val).2 e) := by
  have h := held V 1023 le_rfl
  have hr := flatRows_apply _ _ (fun r b => h.list r b r.isLt) b t
  constructor
  · rw [post_v26, h.zero, h.arg0]
    exact taken_apply _ _ b t e _ hr
  · rw [post_v35, h.zero, h.arg1]
    exact taken_apply _ _ b t e _ hr

end Cert.ReferenceIdeal.Run

end
-- ==== Proof.GatherIdeal.lean ====
/-
  The SparseCore gather, one task.

  Task (c, s) of the call has number w = 2 s + c and owns the 8192 rows from row 8192 w of the output.  It holds a share
  of the table, a share of the index list and its own rows of the output.  In each of 64 trips it copies 128 row numbers
  into its index scratch, gathers the table rows they name into its row scratch, and copies those out.  The loop
  invariant says which rows of the output already hold the table rows named by the index list.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.ScGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The values -/

/-- The list's index `j`. -/
def ixL (j : S262144x128.Coord 0) : S262144.Idx := fun a => match a with | 0 => j

/-- Row number `j` of the list, as a row of the table (reduced modulo the number of rows, so that it always is one). -/
def rowNo (I : S262144.Idx → BitVec 32) (j : S262144x128.Coord 0) : Fin 32768 :=
  ⟨(I (ixL j)).toNat % 32768, Nat.mod_lt _ (by omega)⟩

/-- What the call leaves in its output: at row `j` the table row that entry `j` of the list names. -/
def gathered (X : S32768x128.Idx → Elt F .f32) (I : S262144.Idx → BitVec 32) : S262144x128.Idx → Elt F .f32 :=
  fun x => X (fun a => match a with | 0 => rowNo I (x 0) | 1 => x 1)

/-- The rows of the output that task `w` owns. -/
def ownRows (w : ℕ) : Finset S262144x128.Idx := Finset.univ.filter fun x => (x 0).val / 8192 = w

theorem mem_ownRows {w : ℕ} {x : S262144x128.Idx} : x ∈ ownRows w ↔ (x 0).val / 8192 = w := by simp [ownRows]

/-! ## The program as the launch sees it -/

abbrev ΛP : Labels := Pipeline.Sig Λ₀ (Fin 3) fun p => (pcfgs (F := F) p).Adm
abbrev K [FloatOps F] : SparseCore.Cfg τ sig (ΛP (F := F)) 1 := sc (F := F)
abbrev 𝒱₀ : Variants := Variants.none

abbrev UH : Type := URounds (GSem nD τ sig) ℕ
/-- The handshakes' rounds, the two pipelines' rounds, the transfers' counters. -/
abbrev UU : Type := UH × (UR sig nD τ × Counters)

local notation "𝕄" => MT nD τ sig (HIx 1) (Elt F) ℕ UU ℕ

abbrev xLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

local notation "xV" => (Memref.whole main_v9_scv : Memref sig Kind.scVector Space.hbm S32768x128 EltTy.f32)
local notation "iV" => (Memref.whole main_v10_scv : Memref sig Kind.scVector Space.hbm S262144 EltTy.i32)
local notation "oV" => (Memref.whole main_v11_scv : Memref sig Kind.scVector Space.hbm S262144x128 EltTy.f32)
local notation "sV" => (Memref.whole cc2_scratch0 : Memref sig Kind.scVector Space.vmem S128 EltTy.i32)
local notation "rV" => (Memref.whole cc2_scratch1 : Memref sig Kind.scVector Space.vmem S128x128 EltTy.f32)

abbrev cV (L : grid2.Coords) : Fin τ.nSC := (L 0).castLE hcore2
abbrev jV (L : grid2.Coords) : Fin τ.nSub := (L 1).castLE hsub2
/-- The task's number. -/
def wNo (L : grid2.Coords) : ℕ := 2 * (L 1).val + (L 0).val

/-- The chunk of the list, the chunk of the output and the table, as trip `t` addresses them. -/
abbrev iChunk (L : grid2.Coords) (t : Fin k2_t1_loop.trips) : Memref sig .scVector .hbm S128 .i32 :=
  (iV).slice (Rect.unit (s := S262144) (k2_off1 L t) S128.size (k2_off1_inb L t)) (fun _ => rfl)
abbrev oChunk (L : grid2.Coords) (t : Fin k2_t1_loop.trips) : Memref sig .scVector .hbm S128x128 .f32 :=
  (oV).slice (Rect.unit (s := S262144x128) (k2_off2 L t) S128x128.size (k2_off2_inb L t)) (fun _ => rfl)
abbrev xAll : Memref sig .scVector .hbm S32768x128 .f32 :=
  (xV).slice (Rect.unit (s := S32768x128) ![0, 0] S32768x128.size inb_S32768x128_S32768x128_0_0) (fun _ => rfl)

theorem trips_eq : k2_t1_loop.trips = 64 := by decide

theorem t_lt (t : Fin k2_t1_loop.trips) : t.val < 64 := lt_of_lt_of_le t.isLt trips_eq.le

/-- Which elements of the output trip `t`'s chunk is. -/
theorem mem_oChunk (L : grid2.Coords) (t : Fin k2_t1_loop.trips) (x : S262144x128.Idx) :
    x ∈ (oChunk L t).view.set ↔ 8192 * wNo L + 128 * t.val ≤ (x 0).val ∧ (x 0).val < 8192 * wNo L + 128 * t.val + 128 := by
  have h : (oChunk L t).view.set = (Rect.unit (s := S262144x128) (k2_off2 L t) S128x128.size (k2_off2_inb L t)).set := by
    show ((View.whole (main_v11_scv : Ref sig .scVector)).slice _).set = _
    rw [View.set_slice]; exact Finset.map_refl
  rw [h, Rect.mem_set_unit, k2_off2_eq]
  unfold wNo
  constructor
  · intro h; have := h 0; simp at this; omega
  · intro h a
    match a with
    | 0 => simp; omega
    | 1 => simp; exact (x 1).isLt

theorem oChunk_subset (L : grid2.Coords) (t : Fin k2_t1_loop.trips) : (oChunk L t).view.set ⊆ ownRows (wNo L) := by
  intro x hx
  have h := (mem_oChunk L t x).mp hx
  have := t_lt t
  exact mem_ownRows.mpr (by omega)

/-- Where the chunk's own index lies in the output. -/
theorem oChunk_emb0 (L : grid2.Coords) (t : Fin k2_t1_loop.trips) (y : S128x128.Idx) :
    ((oChunk L t).view.emb y 0).val = 8192 * wNo L + 128 * t.val + (y 0).val := by
  show ((Rect.unit (s := S262144x128) (k2_off2 L t) S128x128.size (k2_off2_inb L t)).emb y 0).val = _
  rw [Rect.emb_apply]; simp only [Rect.off_unit, Rect.stride_unit, k2_off2_eq]
  unfold wNo; simp; omega
theorem oChunk_emb1 (L : grid2.Coords) (t : Fin k2_t1_loop.trips) (y : S128x128.Idx) :
    ((oChunk L t).view.emb y 1).val = (y 1).val := by
  show ((Rect.unit (s := S262144x128) (k2_off2 L t) S128x128.size (k2_off2_inb L t)).emb y 1).val = _
  rw [Rect.emb_apply]; simp only [Rect.off_unit, Rect.stride_unit, k2_off2_eq]
  simp
theorem iChunk_emb0 (L : grid2.Coords) (t : Fin k2_t1_loop.trips) (y : S128.Idx) :
    ((iChunk L t).view.emb y 0).val = 8192 * wNo L + 128 * t.val + (y 0).val := by
  show ((Rect.unit (s := S262144) (k2_off1 L t) S128.size (k2_off1_inb L t)).emb y 0).val = _
  rw [Rect.emb_apply]; simp only [Rect.off_unit, Rect.stride_unit, k2_off1_eq]
  unfold wNo; simp; omega
theorem xAll_emb (y : S32768x128.Idx) : (xAll).view.emb y = y := by
  funext a; apply Fin.ext
  show ((Rect.unit (s := S32768x128) ![0, 0] S32768x128.size inb_S32768x128_S32768x128_0_0).emb y a).val = _
  rw [Rect.emb_apply]; simp only [Rect.off_unit, Rect.stride_unit]
  match a with
  | 0 => simp
  | 1 => simp

theorem idx1_eq (i : Fin S128.numel) : (S128.rowMajor.symm i 0).val = i.val := by
  have h := S128.rowMajor.apply_symm_apply i
  have := congrArg Fin.val h
  rwa [Shape.rowMajor_val_one] at this

/-- What trip `t` copies out: the table rows named by its chunk of the list. -/
theorem payload_eq (L : grid2.Coords) (t : Fin k2_t1_loop.trips) (X : S32768x128.Idx → Elt F .f32) (I : S262144.Idx → BitVec 32)
    (hn : S128.numel = S128x128.size gathers_S32768x128_S128x128.axis')
    (idx : S128.Idx → Elt F .i32) (hidx : idx = (iChunk L t).view.read (Elt F) I)
    (hin : ∀ x, (idx x).toNat < S32768x128.size gathers_S32768x128_S128x128.axis) (y : S128x128.Idx) :
    SparseCore.gatherPayload gathers_S32768x128_S128x128 ((xAll).view.read (Elt F) X) (SparseCore.rows idx hn hin) y
      = gathered X I ((oChunk L t).view.emb y) := by
  unfold SparseCore.gatherPayload
  rw [View.read_apply, xAll_emb]
  unfold gathered
  refine congrArg X (funext fun a => Fin.ext ?_)
  match a with
  | 0 =>
    refine (congrArg Fin.val (Shape.Gathers.idx_axis gathers_S32768x128_S128x128 (SparseCore.rows idx hn hin) y)).trans ?_
    have hr : ∀ z, (iChunk L t).view.read (Elt F) I z = I ((iChunk L t).view.emb z) := fun z => (View.read_apply _ _).trans (cast_eq _ _)
    subst hidx
    have h1 : _ < 32768 := hin (S128.rowMajor.symm ((y gathers_S32768x128_S128x128.axis').cast hn.symm))
    have e : (iChunk L t).view.emb (S128.rowMajor.symm ((y gathers_S32768x128_S128x128.axis').cast hn.symm))
        = ixL ((oChunk L t).view.emb y 0) := by
      funext a; match a with
      | 0 =>
        apply Fin.ext
        rw [iChunk_emb0, idx1_eq]
        exact (oChunk_emb0 L t y).symm
    rw [hr, e] at h1
    show _ = (I (ixL ((oChunk L t).view.emb y 0))).toNat % 32768
    refine Eq.trans ?_ (Nat.mod_eq_of_lt h1).symm
    show BitVec.toNat ((iChunk L t).view.read (Elt F) I _) = _
    rw [hr]
    exact congrArg (fun z => BitVec.toNat (I z)) e
  | 1 =>
    refine (Shape.Gathers.idx_of_ne gathers_S32768x128_S128x128 (SparseCore.rows idx hn hin) y 1 (by decide)).trans ?_
    exact (oChunk_emb1 L t y).symm

end Cert.KernelIdeal.ScGather

end
-- ==== Proof.RegionIdeal.lean ====
/-
  A TensorCore call of the program as a step of @main beside a SparseCore call.  The step is entered with every unscoped
  buffer at a valuation and left with it at another, which has the call's arrays at what the pipeline leaves and agrees with
  the first off them.  The core owes the sequencers their starts across the step; the pipeline's own waits sit at the lowest
  level, so they may be taken all the same.
-/
module

public import proofs.«01_k».proof.Proof.GatherIdeal
public import proofs.«01_k».proof.Proof.Gen.KernelIdeal.Launch
public import Idealize.ShloMosaic.Lib.Pipeline.RegionsLoop

@[expose] public section

noncomputable section

namespace Cert.KernelIdeal.Regions

open Cert.KernelIdeal Cert.KernelIdeal.Gen Cert.KernelIdeal.ScGather

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The pipelines' rounds, inside the program's ghost state. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb
instance EP_landsIn : (EP : Emb (UR sig nD τ) 𝕄).LandsIn (upEmb : UEmb _ 𝕄) := by unfold EP; infer_instance

/-- No call takes tables ahead. -/
abbrev adm : (p : Fin 3) → (pcfgs (F := F) p).Adm := fun p => (cfgs p).toPCfg_adm

/-- A call's proof data, per call and core. -/
abbrev Dats : Type := (p : Fin 3) → (c : Dev nD) → Dat τ (Elt F) (HIx 1) ℕ UU ℕ (Pipeline.pin (pcfgs (F := F)) adm p) c

/-- The waits recorded so far sit at or below the level of SparseCore call `n`. -/
abbrev below (n : ℕ) (c : Dev nD) : Set (SemLoc sig × HIx 1) := {p | (K (F := F)).lev (T c, p.1) p.2 ≤ 8 * SparseCore.Cfg.Blocks.fst (Q := 1) (N := 1) n}

/-- What the core owes before SparseCore call `n`. -/
abbrev owing (n : ℕ) (c : Dev nD) : sProp 𝕄 :=
  iprop(∃ W, ⌜(K (F := F)).WBelow (T c) W (8 * SparseCore.Cfg.Blocks.fst (Q := 1) (N := 1) n)⌝ ∗ owes (T c) ((K (F := F)).Otc c n) W)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable (n : ℕ) (pdats : Dats (F := F)) (p : Fin 3)
  (V Vp : (c : Dev nD) → (b : Ref sig .tc) → Buf (Elt F) ((c : Thread nD τ).loc b))

set_option backward.isDefEq.respectTransparency.types false in
/-- The call as a region from valuation `V` to valuation `Vp`. -/
def reg (kit : Pipeline.LaunchFacts (nD := nD) (τ := τ) cfgs p)
    (hA : ∀ c w, (pdats p c).A w = V c (Pipeline.arrRef (cfgs p).spec w))
    (hq : ∀ c w, (pdats p c).q w = fullShare)
    (hΦ : ∀ c t, (pdats p c).Φ t = Pipeline.scopedRest (cfgs p).spec c)
    (howed : ∀ c t, (pdats p c).owed t = (K (F := F)).Otc c n)
    (hrec : ∀ c t, (pdats p c).recorded t = below (F := F) n c)
    (hbody : ∀ c, BodyObligation (pdats p c) (defs₀ (F := F)) 𝒱₀ none Set.univ)
    (hF : ∀ c w, (pdats p c).arrAt w (cfgs p).N = Vp c (Pipeline.arrRef (cfgs p).spec w))
    (hrest : ∀ c b, b ∉ Finset.univ.image (Pipeline.arrRef (cfgs p).spec) → Vp c b = V c b) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro _ _ _ p c fun w s t => by
    rw [howed]; exact (K (F := F)).mayWait_none _ (Otc_none c n)
  pre c := iprop(unscopedBufs c (V c) ∗ owing n c)
  post c := iprop(unscopedBufs c (Vp c) ∗ owing n c)
  X _ := BI.emp
  Y _ := BI.emp
  Z c := Pipeline.unscopedRest (cfgs p).spec c (V c)
  hentry c := by
    rw [Pipeline.ownSems0_none]
    have hsplit := Pipeline.arrays_of_unscopedBufs (p := p) (pcfgs (F := F)) adm pdats kit.win kit.arr_whole c
      ((pdats p c).share_full fun w => hq c w) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; intro q hq; left; rw [hrec]; exact hW q hq
      rw [howed]; iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) kit.win kit.arr_whole c
      pdats ((pdats p c).share_full fun w => hq c w) (V c) (Vp c) ((pdats p c).arrAt · (cfgs p).N) (hF c) (hrest c)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro q hq
      rcases hW hq with h | ⟨w, s, rfl⟩
      · rw [hrec] at h; exact h
      · show (K (F := F)).lev _ none ≤ _
        simp
    rw [howed]; iexact HO

end Cert.KernelIdeal.Regions

end
-- ==== Proof.FpsCallIdeal.lean ====
/-
  The sampling call, beside the SparseCore call: its body's 1024 trips of one step over the carried distances and the
  carried point, the trip's row written at the trip's number, and the array it leaves.
-/
module

public import proofs.«01_k».proof.Proof.RegionIdeal
public import proofs.«01_k».proof.Proof.Gen.KernelIdeal.Loops
public import proofs.«01_k».proof.Proof.Gen.KernelIdeal.Points
public import Idealize.ShloMosaic.Lib.Pipeline.Value
public import Idealize.ShloMosaic.Lib.Pipeline.ValueKit.Geometry
public import Idealize.ShloMosaic.Lib.Pointwise

@[expose] public section

noncomputable section

namespace Cert.KernelIdeal.FpsCall

open Cert.KernelIdeal Cert.KernelIdeal.Gen Cert.KernelIdeal.ScGather Cert.KernelIdeal.Regions

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- The lane numbers. -/
abbrev lanes : IVec S8x4096 32 := iota .tc S8x4096 32 [1] iota_S8x4096_d1_w32

/-- What is carried: the distances to the chosen points, and the point to choose next. -/
abbrev Carry (F : FTy → Type) := FVec F S8x4096 .f32 × IVec S8x1 32

/-- A coordinate's lanes. -/
abbrev coord (x : Vec F S8x3x4096 .f32) (o : Fin 3 → ℕ) (h : ∀ a, o a + S8x1x4096.size a ≤ S8x3x4096.size a) : Vec F S8x1x4096 .f32 :=
  View.ld x (Rect.unit (s := S8x3x4096) o S8x1x4096.size h)

abbrev c0 (x : Vec F S8x3x4096 .f32) := coord x ![0, 0, 0] inb_S8x3x4096_S8x1x4096_0_0_0
abbrev c1 (x : Vec F S8x3x4096 .f32) := coord x ![0, 1, 0] inb_S8x3x4096_S8x1x4096_0_1_0
abbrev c2 (x : Vec F S8x3x4096 .f32) := coord x ![0, 2, 0] inb_S8x3x4096_S8x1x4096_0_2_0

/-- A trip's effect on what is carried. -/
def next (x : Vec F S8x3x4096 .f32) (a : Carry F) : Carry F :=
  (k0_pay4 a.1 (k0_pay7 (c0 x)) (k0_pay8 (c1 x)) (k0_pay9 (c2 x)) (k0_pay10 lanes a.2 (c0 x)) (k0_pay11 lanes a.2 (c1 x)) (k0_pay12 lanes a.2 (c2 x)),
   k0_pay5 a.1 (k0_pay7 (c0 x)) (k0_pay8 (c1 x)) (k0_pay9 (c2 x)) (k0_pay10 lanes a.2 (c0 x)) (k0_pay11 lanes a.2 (c1 x)) (k0_pay12 lanes a.2 (c2 x)))

/-- A trip's row of the output. -/
def row (x n : Vec F S8x3x4096 .f32) (a : Carry F) : Vec F S1x8x6 .f32 :=
  k0_pay3 (k0_pay6 lanes a.2) (k0_pay10 lanes a.2 (c0 x)) (k0_pay11 lanes a.2 (c1 x)) (k0_pay12 lanes a.2 (c2 x))
    (k0_pay13 lanes a.2 (c0 n)) (k0_pay14 lanes a.2 (c1 n)) (c2 n)

/-- What is carried before trip `k`. -/
def carried (x : Vec F S8x3x4096 .f32) : ℕ → Carry F
  | 0 => (k0_pay1, k0_pay2)
  | k + 1 => next x (carried x k)

theorem trips_eq : k0_t1_loop.trips = 1024 := by decide

theorem off_eq (k : Fin k0_t1_loop.trips) : k0_off1 k = ![k.val, 0, 0] := by
  have hk : k.val < 1024 := trips_eq ▸ k.isLt
  funext a
  unfold k0_off1
  fin_cases a
  · simp [Scf.iv, Scalar.indexCast]
    omega
  · rfl
  · rfl

/-- The rows of the trips before `k`, the last first, each at its trip's place. -/
def pieces (x n : Vec F S8x3x4096 .f32) : ℕ → List (View.Piece (Elt F) S1024x8x6 .f32)
  | 0 => []
  | k + 1 =>
    if h : k < k0_t1_loop.trips then
      ⟨Rect.unit (s := S1024x8x6) (k0_off1 ⟨k, h⟩) S1x8x6.size (k0_off1_inb ⟨k, h⟩), row x n (carried x k)⟩ :: pieces x n k
    else pieces x n k

theorem pieces_succ (x n : Vec F S8x3x4096 .f32) (k : Fin k0_t1_loop.trips) : pieces x n (k.val + 1)
    = ⟨Rect.unit (s := S1024x8x6) (k0_off1 k) S1x8x6.size (k0_off1_inb k), row x n (carried x k.val)⟩ :: pieces x n k.val := by
  rw [pieces]; exact dif_pos k.isLt

/-- The output, from the two inputs. -/
def rows (x n : Vec F S8x3x4096 .f32) : Vec F S1024x8x6 .f32 := fun i =>
  row x n (carried x (i 0).val) (ix3 (0 : Fin 1) (i 1) (i 2) : S1x8x6.Idx)

theorem at_row (k : Fin k0_t1_loop.trips) (t : Fin 1024) (e : k.val = t.val) (b : Fin 8) (j : Fin 6) :
    (Rect.unit (s := S1024x8x6) (k0_off1 k) S1x8x6.size (k0_off1_inb k)).emb (ix3 (0 : Fin 1) b j : S1x8x6.Idx) = (ix3 t b j : S1024x8x6.Idx) := by
  funext a
  apply Fin.ext
  refine (ValueKit.rect_emb_unit_val _ _ _ _ a).trans ?_
  rw [show k0_off1 k a = (![k.val, 0, 0] : Fin 3 → ℕ) a from congrFun (off_eq k) a, e]
  fin_cases a <;> simp [ix3]

theorem off_row (k : Fin k0_t1_loop.trips) (t : Fin 1024) (e : t.val ≠ k.val) (b : Fin 8) (j : Fin 6) :
    (ix3 t b j : S1024x8x6.Idx) ∉ (Rect.unit (s := S1024x8x6) (k0_off1 k) S1x8x6.size (k0_off1_inb k)).set := by
  intro hm
  have := (Rect.mem_set_unit (inb := k0_off1_inb k)).mp hm 0
  rw [show k0_off1 k 0 = k.val from congrFun (off_eq k) 0] at this
  simp [ix3] at this
  omega

/-- The rows of the trips before `k`, over anything, hold row `t`. -/
theorem read_rows (v : View sig .tc .vmem S1024x8x6 .f32) (f : v.ty.Contents (Elt F)) (x n : Vec F S8x3x4096 .f32) (k : ℕ)
    (hk : k ≤ k0_t1_loop.trips) (t : Fin 1024) (ht : t.val < k) (b : Fin 8) (j : Fin 6) :
    v.read (Elt F) (v.writes (Elt F) f (pieces x n k)) (ix3 t b j : S1024x8x6.Idx) = rows x n (ix3 t b j : S1024x8x6.Idx) := by
  induction k with
  | zero => omega
  | succ k ih =>
    rw [pieces_succ x n ⟨k, hk⟩]
    by_cases h : t.val = k
    · rw [← at_row ⟨k, hk⟩ t h.symm b j, View.read_writes_cons_emb, at_row ⟨k, hk⟩ t h.symm b j]
      subst h
      rfl
    · rw [View.writes_cons, View.read_slice_write_of_not_mem _ _ _ _ (by rw [Rect.map_emb_univ]; exact off_row ⟨k, hk⟩ t h b j)]
      exact ih (by omega) (by omega)

theorem read_all (v : View sig .tc .vmem S1024x8x6 .f32) (f : v.ty.Contents (Elt F)) (x n : Vec F S8x3x4096 .f32) :
    v.read (Elt F) (v.writes (Elt F) f (pieces x n k0_t1_loop.trips)) = rows x n := by
  funext i
  obtain ⟨t, b, j, rfl⟩ : ∃ (t : Fin 1024) (b : Fin 8) (j : Fin 6), i = ix3 t b j :=
    ⟨i 0, i 1, i 2, funext fun a => by fin_cases a <;> rfl⟩
  exact read_rows v f x n _ (le_refl _) t (lt_of_lt_of_eq t.isLt trips_eq.symm) b j

/-! ## The body -/

/-- One trip: it leaves the inputs, writes its row and hands on the next state. -/
theorem trip [∀ e, Nonempty (Elt F e)] (c : Dev nD) (arg0 : Memref sig .tc .vmem S8x3x4096 .f32) (harg0 : arg0.IsWhole) (arg1 : Memref sig .tc .vmem S8x3x4096 .f32) (harg1 : arg1.IsWhole)
    (arg2 : Memref sig .tc .vmem S1024x8x6 .f32) (harg2 : arg2.IsWhole) (X0 : BufTy.Contents (Elt F) arg0.view.ty) (X1 : BufTy.Contents (Elt F) arg1.view.ty)
    (f : BufTy.Contents (Elt F) arg2.view.ty) (k : Fin k0_t1_loop.trips) (E : Set ℕ) (a : Carry F) :
    iprop((arg0.view.loc (c : Thread nD τ) ↦[arg0.view.set]{fullShare} X0) ∗ (arg1.view.loc (c : Thread nD τ) ↦[arg1.view.set]{fullShare} X1)
        ∗ (arg2.view.loc (c : Thread nD τ) ↦[arg2.view.set]{fullShare} f))
      ⊢ (wp frame (wpE (defs₀ (F := F)) 𝒱₀ (c : Thread nD τ) none) E (k0_t1_body (F := F) arg0 harg0 arg1 harg1 arg2 harg2 lanes k a)
          (fun y => iprop(⌜y = next (arg0.view.read (Elt F) X0) a⌝ ∗ (arg0.view.loc (c : Thread nD τ) ↦[arg0.view.set]{fullShare} X0)
            ∗ (arg1.view.loc (c : Thread nD τ) ↦[arg1.view.set]{fullShare} X1)
            ∗ (arg2.view.loc (c : Thread nD τ) ↦[arg2.view.set]{fullShare} arg2.view.writes (Elt F) f
                [⟨Rect.unit (s := S1024x8x6) (k0_off1 k) S1x8x6.size (k0_off1_inb k), row (arg0.view.read (Elt F) X0) (arg1.view.read (Elt F) X1) a⟩]))) : sProp 𝕄) := by
  have hk : k.val < 1024 := Nat.lt_of_lt_of_le k.isLt k0_t1_abs.2.1
  unfold k0_t1_body
  iintro ⟨H0, H1, H2⟩
  sl_exec
  sl_step
  isplitr; · ipureintro; rfl
  isplitl [H0]; · iexact H0
  isplitl [H1]; · iexact H1
  iexact H2

set_option warn.classDefReducibility false in
/-- The loop: before trip `k` the rows of the trips before are written, and the state is the carried one. -/
@[sl_loop] def loop [∀ e, Nonempty (Elt F e)] (c : Dev nD) (E : Set ℕ) (arg0 : Memref sig .tc .vmem S8x3x4096 .f32) (harg0 : arg0.IsWhole) (arg1 : Memref sig .tc .vmem S8x3x4096 .f32) (harg1 : arg1.IsWhole)
    (arg2 : Memref sig .tc .vmem S1024x8x6 .f32) (harg2 : arg2.IsWhole) (X0 : BufTy.Contents (Elt F) arg0.view.ty) (X1 : BufTy.Contents (Elt F) arg1.view.ty)
    (f₀ : BufTy.Contents (Elt F) arg2.view.ty) :
    LoopInvTy_k0_t1 (F := F) (HIx 1) ℕ UU ℕ 𝒱₀ c none E arg0 harg0 arg1 harg1 arg2 harg2 lanes (k0_pay1, k0_pay2) where
  inv k a := iprop((arg0.view.loc (c : Thread nD τ) ↦[arg0.view.set]{fullShare} X0) ∗ (arg1.view.loc (c : Thread nD τ) ↦[arg1.view.set]{fullShare} X1)
    ∗ (∃ f, (arg2.view.loc (c : Thread nD τ) ↦[arg2.view.set]{fullShare} f)
        ∗ ⌜f = arg2.view.writes (Elt F) f₀ (pieces (arg0.view.read (Elt F) X0) (arg1.view.read (Elt F) X1) k)⌝)
    ∗ ⌜a = carried (arg0.view.read (Elt F) X0) k⌝)
  step k a := by
    iintro ⟨H0, H1, ⟨%f, H2, %hf⟩, %ha⟩
    subst ha
    iapply (wp_wand_r Idealize.ShloMosaic.frame (wpE (defs₀ (F := F)) 𝒱₀ (c : Thread nD τ) none) E)
    isplitl [H0 H1 H2]
    · iapply (trip c arg0 harg0 arg1 harg1 arg2 harg2 X0 X1 f k E (carried (arg0.view.read (Elt F) X0) k.val))
      isplitl [H0]; · iexact H0
      isplitl [H1]; · iexact H1
      iexact H2
    · iintro %y ⟨%hy, H0, H1, H2⟩
      isplitl [H0]; · iexact H0
      isplitl [H1]; · iexact H1
      isplitl [H2]
      · iexists _; isplitl [H2]; · iexact H2
        ipureintro; rw [hf, pieces_succ, ← View.writes_append]; rfl
      ipureintro; rw [hy]; rfl

/-- The body at any staging buffers: the inputs stay, the result's buffer holds the rows. -/
theorem body_triple [∀ e, Nonempty (Elt F e)] (c : Dev nD) (M0 : Memref sig .tc .vmem S8x3x4096 .f32) (h0 : M0.IsWhole)
    (M1 : Memref sig .tc .vmem S8x3x4096 .f32) (h1 : M1.IsWhole) (M2 : Memref sig .tc .vmem S1024x8x6 .f32) (h2 : M2.IsWhole)
    (d0 d1 : Vec F S8x3x4096 .f32) (Q : PUnit → sProp 𝕄) :
    iprop(owns (c : Thread nD τ) M0 fullShare d0 ∗ owns (c : Thread nD τ) M1 fullShare d1 ∗ (∃ d, owns (c : Thread nD τ) M2 fullShare d)
        ∗ (iprop(owns (c : Thread nD τ) M0 fullShare d0 ∗ owns (c : Thread nD τ) M1 fullShare d1
            ∗ owns (c : Thread nD τ) M2 fullShare (rows d0 d1)) -∗ Q ⟨⟩))
      ⊢ wp frame (wpE (defs₀ (F := F)) 𝒱₀ c none) Set.univ (cc0__fps_body M0 h0 M1 h1 M2 h2) Q := by
  rw [cc0__fps_body_eq_skeleton]
  unfold owns
  iintro ⟨⟨%f0, %e0, H0⟩, ⟨%f1, %e1, H1⟩, ⟨%d, %f2, -, H2⟩, Hk⟩
  unfold cc0__fps_body_skel
  sl_exec!
  sl_step
  iapply Hk
  isplitl [H0]; · iexists f0; isplitr; · ipureintro; exact e0
                  iexact H0
  isplitl [H1]; · iexists f1; isplitr; · ipureintro; exact e1
                  iexact H1
  iexists _; isplitr; swap; · iexact H2
  ipureintro
  rw [← e0, ← e1]
  exact read_all _ _ _ _

/-! ## The proof data from a valuation -/

variable (V : (c : Dev nD) → (b : Ref sig .tc) → Buf (Elt F) ((c : Thread nD τ).loc b))

/-- Input window `w`'s block at point `t`. -/
abbrev inBlk (c : Dev nD) (w : Fin 3) (t : Fin cfg0.N) : ((cfg0.win w).xblock (cfg0.grid.coords t)).Idx → Elt F (cfg0.win w).elt :=
  ((cfg0.win w).blk t).view.read (Elt F) (V c (Pipeline.arrRef spec0 w))

/-- The arrays at the valuation; after the body the inputs' buffers hold their blocks and the result's the rows. -/
def dat (c : Dev nD) : Dat τ (Elt F) (HIx 1) ℕ UU ℕ cfg0 c where
  A w := V c (Pipeline.arrRef spec0 w)
  after w t := match w with
    | ⟨0, _⟩ => inBlk V c 0 t
    | ⟨1, _⟩ => inBlk V c 1 t
    | ⟨2, _⟩ => rows (inBlk V c 0 t) (inBlk V c 1 t)
  Φ _ := Pipeline.scopedRest spec0 c
  q _ := fullShare
  owed _ := (K (F := F)).Otc c 0
  recorded _ := below (F := F) 0 c

theorem before_0 (c : Dev nD) (t : Fin cfg0.N) (d : (cfg0.win 0).block.Idx → Elt F (cfg0.win 0).elt) : (dat V c).before 0 t d = inBlk V c 0 t :=
  Dat.before_in_eq_fetched (dat V c) 0 rfl (fun _ => rfl) (fun _ _ _ => rfl) (fun _ => rfl) t d
theorem before_1 (c : Dev nD) (t : Fin cfg0.N) (d : (cfg0.win 1).block.Idx → Elt F (cfg0.win 1).elt) : (dat V c).before 1 t d = inBlk V c 1 t :=
  Dat.before_in_eq_fetched (dat V c) 1 rfl (fun _ => rfl) (fun _ _ _ => rfl) (fun _ => rfl) t d

theorem body_obligation [∀ e, Nonempty (Elt F e)] (c : Dev nD) : BodyObligation (dat V c) (defs₀ (F := F)) 𝒱₀ none Set.univ := fun t => by
  rw [bigSep_W0, bigSep_W0]
  rw [show (dat V c).Φ t.castSucc = Pipeline.scopedRest spec0 c from rfl, show (dat V c).Φ t.succ = Pipeline.scopedRest spec0 c from rfl,
    show (dat V c).owesAt none t.succ = (dat V c).owesAt none t.castSucc from rfl]
  iintro ⟨HΦ, Howes, ⟨%d0, H0⟩, ⟨%d1, H1⟩, ⟨%d2, H2⟩⟩
  rw [before_0, before_1]
  iapply (body_triple c _ (hstage0_0 0) _ (hstage0_1 0)
    _ (hstage0_2 0) (inBlk V c 0 t) (inBlk V c 1 t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## The array the call leaves -/

theorem index_0 : ∀ (t : Fin grid0.N) (a : Fin 3), win0_0.index t a = 0 := by decide
theorem index_1 : ∀ (t : Fin grid0.N) (a : Fin 3), win0_1.index t a = 0 := by decide
theorem index_2 : ∀ (t : Fin grid0.N) (a : Fin 3), win0_2.index t a = 0 := by decide

theorem inBlk_0 (c : Dev nD) (t : Fin cfg0.N) : inBlk V c 0 t = V c main_v0 := by
  funext y
  refine congrArg (V c main_v0) (funext fun a => Fin.ext ?_)
  exact win0_0.rect_emb_val_of_index_zero t a (index_0 t a) y

theorem inBlk_1 (c : Dev nD) (t : Fin cfg0.N) : inBlk V c 1 t = V c main_v1 := by
  funext y
  refine congrArg (V c main_v1) (funext fun a => Fin.ext ?_)
  exact win0_1.rect_emb_val_of_index_zero t a (index_1 t a) y

theorem final (c : Dev nD) : (dat V c).arrAt 2 cfg0.N = rows (V c main_v0) (V c main_v1) := by
  refine (dat V c).arrAt_eq_of_cover 2 (rows (V c main_v0) (V c main_v1)) (fun t _ => ?_) fun i => ?_
  · funext y
    show rows (inBlk V c 0 t) (inBlk V c 1 t) y = rows (V c main_v0) (V c main_v1) (((cfg0.win 2).blk t).view.emb y)
    rw [inBlk_0, inBlk_1]
    refine congrArg _ (funext fun a => Fin.ext ?_)
    exact (win0_2.rect_emb_val_of_index_zero t a (index_2 t a) y).symm
  · refine ⟨⟨0, by decide⟩, flush0_2 _, ?_⟩
    have h := View.emb_mem_set ((cfg0.win 2).blk ⟨0, by decide⟩).view i
    refine Eq.subst (motive := fun z => z ∈ _) (funext fun a => Fin.ext ?_) h
    exact win0_2.rect_emb_val_of_index_zero _ a (index_2 _ a) i

end Cert.KernelIdeal.FpsCall

end
-- ==== Proof.SamplePay.lean ====
/-
  What a trip of the sampling kernel computes, read at an element over the extended reals: the chosen point's coordinates
  by masked sums, the distances to it, the first of the farthest points.
-/
module

public import proofs.«01_k».proof.Proof.FpsCallIdeal
public import proofs.«01_k».proof.Proof.SampleSpec

@[expose] public section

noncomputable section

namespace Cert.KernelIdeal.FpsPay

open Cert.KernelIdeal Cert.KernelIdeal.Gen Cert.KernelIdeal.FpsCall Cert.SampleSpec Idealize.ShloMosaic

/-- A masked sum over the lanes takes the one lane the mask names. -/
theorem sum_pick (f : Fin 4096 → EReal) (p : Fin 4096) :
    ∑ i : Fin 4096, Scalar.select (IntOp.cmpi .eq (BitVec.ofNat 32 i.val) (BitVec.ofNat 32 p.val)) (f i) 0 = f p := by
  rw [Finset.sum_eq_single p]
  · simp [IntOp.cmpi, Scalar.select]
  · intro i _ hi
    have : BitVec.ofNat 32 i.val ≠ BitVec.ofNat 32 p.val := fun h => hi (Fin.ext (word_inj (by omega) (by omega) h))
    simp [IntOp.cmpi, Scalar.select, beq_eq_false_iff_ne.2 this]
  · intro h; exact absurd (Finset.mem_univ p) h

variable (a : IVec S8x1 32) (v : Vec Ideal S8x1x4096 .f32) (b : Fin 8) (p : Fin 4096) (ha : a (ix2 b (0 : Fin 1)) = BitVec.ofNat 32 p.val)

include ha

theorem pay10 : k0_pay10 (F := Ideal) lanes a v (ix2 b (0 : Fin 1)) = v (ix3 b (0 : Fin 1) p) := by
  rw [← sum_pick (fun i => v (ix3 b (0 : Fin 1) i)) p, ← ha]
  pointwise [k0_pay10, k0_pay6, k0_pay7]

theorem pay11 : k0_pay11 (F := Ideal) lanes a v (ix2 b (0 : Fin 1)) = v (ix3 b (0 : Fin 1) p) := by
  rw [← sum_pick (fun i => v (ix3 b (0 : Fin 1) i)) p, ← ha]
  pointwise [k0_pay11, k0_pay6, k0_pay8]

theorem pay12 : k0_pay12 (F := Ideal) lanes a v (ix2 b (0 : Fin 1)) = v (ix3 b (0 : Fin 1) p) := by
  rw [← sum_pick (fun i => v (ix3 b (0 : Fin 1) i)) p, ← ha]
  pointwise [k0_pay12, k0_pay6, k0_pay9]

theorem pay13 : k0_pay13 (F := Ideal) lanes a v (ix2 b (0 : Fin 1)) = v (ix3 b (0 : Fin 1) p) := by
  rw [← sum_pick (fun i => v (ix3 b (0 : Fin 1) i)) p, ← ha]
  pointwise [k0_pay13, k0_pay6]

theorem pay14 : k0_pay14 (F := Ideal) lanes a v (ix2 b (0 : Fin 1)) = v (ix3 b (0 : Fin 1) p) := by
  rw [← sum_pick (fun i => v (ix3 b (0 : Fin 1) i)) p, ← ha]
  pointwise [k0_pay14, k0_pay6]

theorem pay6_sum : ∑ x : Fin 4096, Scalar.select (k0_pay6 lanes a (ix2 b x)) (v (ix3 b (0 : Fin 1) x)) (0 : EReal) = v (ix3 b (0 : Fin 1) p) := by
  rw [← sum_pick (fun i => v (ix3 b (0 : Fin 1) i)) p, ← ha]
  refine Finset.sum_congr rfl fun i _ => ?_
  pointwise [k0_pay6]

omit ha

theorem pay4 (d x y z : FVec Ideal S8x4096 .f32) (p q r : FVec Ideal S8x1 .f32) (b : Fin 8) (i : Fin 4096) :
    k0_pay4 (F := Ideal) d x y z p q r (ix2 b i)
      = min (d (ix2 b i)) ((x (ix2 b i) - p (ix2 b (0 : Fin 1))) * (x (ix2 b i) - p (ix2 b (0 : Fin 1)))
        + (y (ix2 b i) - q (ix2 b (0 : Fin 1))) * (y (ix2 b i) - q (ix2 b (0 : Fin 1)))
        + (z (ix2 b i) - r (ix2 b (0 : Fin 1))) * (z (ix2 b i) - r (ix2 b (0 : Fin 1)))) := by
  pointwise [k0_pay4]

theorem bot_bits : Ideal.ofBits .f32 0xFF800000#32 = (⊥ : EReal) := by
  simp [Ideal.ofBits, Ideal.ieee]

theorem pay5 (d x y z : FVec Ideal S8x4096 .f32) (p q r : FVec Ideal S8x1 .f32) (b : Fin 8) :
    k0_pay5 (F := Ideal) d x y z p q r (ix2 b (0 : Fin 1))
      = BitVec.ofNat 32 (first fun i => k0_pay4 (F := Ideal) d x y z p q r (ix2 b i)).val := by
  rw [← kernel_first _ (Ideal.ofBits .f32 0xFF800000#32) bot_bits]
  pointwise [k0_pay5]

theorem c0_apply (x : Vec Ideal S8x3x4096 .f32) (b : Fin 8) (i : Fin 4096) : c0 x (ix3 b (0 : Fin 1) i) = x (ix3 b (0 : Fin 3) i) := by
  refine congrArg x (funext fun a => Fin.ext ((ValueKit.rect_emb_unit_val _ _ _ _ a).trans ?_))
  fin_cases a <;> simp [ix3]
theorem c1_apply (x : Vec Ideal S8x3x4096 .f32) (b : Fin 8) (i : Fin 4096) : c1 x (ix3 b (0 : Fin 1) i) = x (ix3 b (1 : Fin 3) i) := by
  refine congrArg x (funext fun a => Fin.ext ((ValueKit.rect_emb_unit_val _ _ _ _ a).trans ?_))
  fin_cases a <;> simp [ix3]
theorem c2_apply (x : Vec Ideal S8x3x4096 .f32) (b : Fin 8) (i : Fin 4096) : c2 x (ix3 b (0 : Fin 1) i) = x (ix3 b (2 : Fin 3) i) := by
  refine congrArg x (funext fun a => Fin.ext ((ValueKit.rect_emb_unit_val _ _ _ _ a).trans ?_))
  fin_cases a <;> simp [ix3]

theorem pay7 (b : Fin 8) (i : Fin 4096) : k0_pay7 (F := Ideal) v (ix2 b i) = v (ix3 b (0 : Fin 1) i) := by
  pointwise [k0_pay7]
theorem pay8 (b : Fin 8) (i : Fin 4096) : k0_pay8 (F := Ideal) v (ix2 b i) = v (ix3 b (0 : Fin 1) i) := by
  pointwise [k0_pay8]
theorem pay9 (b : Fin 8) (i : Fin 4096) : k0_pay9 (F := Ideal) v (ix2 b i) = v (ix3 b (0 : Fin 1) i) := by
  pointwise [k0_pay9]

/-- The starting distance. -/
abbrev big : EReal := Ideal.ofBits .f32 0x501502F9#32

/-- Batch `b`'s points. -/
abbrev pts (x : Vec Ideal S8x3x4096 .f32) (b : Fin 8) : Fin 4096 → Fin 3 → EReal := fun i e => x (ix3 b e i)

/-- What is carried is the specification's state. -/
theorem carried_eq (x : Vec Ideal S8x3x4096 .f32) (b : Fin 8) (k : ℕ) :
    (∀ i : Fin 4096, (carried x k).1 (ix2 b i) = (state big (pts x b) k).1 i)
      ∧ (carried x k).2 (ix2 b (0 : Fin 1)) = BitVec.ofNat 32 (state big (pts x b) k).2.val := by
  induction k with
  | zero => exact ⟨fun _ => rfl, rfl⟩
  | succ k ih =>
    have h4 : ∀ i : Fin 4096, (next x (carried x k)).1 (ix2 b i) = (state big (pts x b) (k + 1)).1 i := fun i => by
      unfold next
      dsimp only
      rw [pay4, pay7, pay8, pay9, pay10 _ _ _ _ ih.2, pay11 _ _ _ _ ih.2, pay12 _ _ _ _ ih.2, ih.1]
      rw [c0_apply, c0_apply, c1_apply, c1_apply, c2_apply, c2_apply]
      rfl
    refine ⟨h4, ?_⟩
    show (next x (carried x k)).2 (ix2 b (0 : Fin 1)) = _
    unfold next
    dsimp only
    rw [pay5]
    exact congrArg (fun f => BitVec.ofNat 32 (first f).val) (funext h4)

theorem pay3 (mk : IVec S8x4096 1) (p q r s t : FVec Ideal S8x1 .f32) (v : Vec Ideal S8x1x4096 .f32) (b : Fin 8) :
    (k0_pay3 (F := Ideal) mk p q r s t v (ix3 (0 : Fin 1) b (0 : Fin 6)) = p (ix2 b (0 : Fin 1)))
    ∧ (k0_pay3 (F := Ideal) mk p q r s t v (ix3 (0 : Fin 1) b (1 : Fin 6)) = q (ix2 b (0 : Fin 1)))
    ∧ (k0_pay3 (F := Ideal) mk p q r s t v (ix3 (0 : Fin 1) b (2 : Fin 6)) = r (ix2 b (0 : Fin 1)))
    ∧ (k0_pay3 (F := Ideal) mk p q r s t v (ix3 (0 : Fin 1) b (3 : Fin 6)) = s (ix2 b (0 : Fin 1)))
    ∧ (k0_pay3 (F := Ideal) mk p q r s t v (ix3 (0 : Fin 1) b (4 : Fin 6)) = t (ix2 b (0 : Fin 1)))
    ∧ (k0_pay3 (F := Ideal) mk p q r s t v (ix3 (0 : Fin 1) b (5 : Fin 6)) = ∑ x : Fin 4096, Scalar.select (mk (ix2 b x)) (v (ix3 b (0 : Fin 1) x)) (0 : EReal)) := by
  refine ⟨?_, ?_, ?_, ?_, ?_, ?_⟩ <;> pointwise [k0_pay3]

/-- A row of the output: the chosen point's coordinates, then its normal's. -/
theorem row_eq (x n : Vec Ideal S8x3x4096 .f32) (k : ℕ) (b : Fin 8) (e : Fin 3) :
    row x n (carried x k) (ix3 (0 : Fin 1) b (⟨e.val, by omega⟩ : Fin 6)) = x (ix3 b e (state big (pts x b) k).2)
      ∧ row x n (carried x k) (ix3 (0 : Fin 1) b (⟨3 + e.val, by omega⟩ : Fin 6)) = n (ix3 b e (state big (pts x b) k).2) := by
  have h := (carried_eq x b k).2
  obtain ⟨h0, h1, h2, h3, h4, h5⟩ := pay3 (k0_pay6 lanes (carried x k).2) (k0_pay10 lanes (carried x k).2 (c0 x)) (k0_pay11 lanes (carried x k).2 (c1 x))
    (k0_pay12 lanes (carried x k).2 (c2 x)) (k0_pay13 lanes (carried x k).2 (c0 n)) (k0_pay14 lanes (carried x k).2 (c1 n)) (c2 n) b
  rw [pay10 _ _ _ _ h, c0_apply] at h0
  rw [pay11 _ _ _ _ h, c1_apply] at h1
  rw [pay12 _ _ _ _ h, c2_apply] at h2
  rw [pay13 _ _ _ _ h, c0_apply] at h3
  rw [pay14 _ _ _ _ h, c1_apply] at h4
  rw [pay6_sum _ _ _ _ h, c2_apply] at h5
  fin_cases e
  · exact ⟨h0, h3⟩
  · exact ⟨h1, h4⟩
  · exact ⟨h2, h5⟩

end Cert.KernelIdeal.FpsPay

end
-- ==== Proof.GatherTileIdeal.lean ====
/-
  The SparseCore gather, one task's run: from its shares of the table and of the list and its rows of the output, to the
  same with the rows holding the table rows the list names.
-/
module

public import proofs.«01_k».proof.Proof.GatherIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.ScGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole main_v9_scv : Memref sig Kind.scVector Space.hbm S32768x128 EltTy.f32)
local notation "iV" => (Memref.whole main_v10_scv : Memref sig Kind.scVector Space.hbm S262144 EltTy.i32)
local notation "oV" => (Memref.whole main_v11_scv : Memref sig Kind.scVector Space.hbm S262144x128 EltTy.f32)
local notation "sV" => (Memref.whole cc2_scratch0 : Memref sig Kind.scVector Space.vmem S128 EltTy.i32)
local notation "rV" => (Memref.whole cc2_scratch1 : Memref sig Kind.scVector Space.vmem S128x128 EltTy.f32)

section Tile

variable (d : Dev nD) (L : grid2.Coords) (q : PosShare TreeShare)
  (X : Buf (Elt F) (xLoc d)) (I : Buf (Elt F) (iLoc d))

abbrev thr (d : Dev nD) (L : grid2.Coords) : Thread nD τ := V d (cV L) (jV L)

omit [FloatOps F] in
theorem pts_xV (f : Buf (Elt F) (xLoc d)) : ((xV).view.loc (thr d L) ↦{q} f : sProp 𝕄) = xLoc d ↦{q} f := rfl
omit [FloatOps F] in
theorem pts_iV (f : Buf (Elt F) (iLoc d)) : ((iV).view.loc (thr d L) ↦{q} f : sProp 𝕄) = iLoc d ↦{q} f := rfl
omit [FloatOps F] in
theorem pts_oV (J : Finset S262144x128.Idx) (f : Buf (Elt F) (oLoc d)) :
    ((oV).view.loc (thr d L) ↦[J]{fullShare} f : sProp 𝕄) = oLoc d ↦[J]{fullShare} f := rfl
omit [FloatOps F] in
theorem pts_sV (f : Buf (Elt F) ((thr d L).loc cc2_scratch0)) :
    ((sV).view.loc (thr d L) ↦{fullShare} f : sProp 𝕄) = (thr d L).loc cc2_scratch0 ↦{fullShare} f := rfl
omit [FloatOps F] in
theorem pts_rV (f : Buf (Elt F) ((thr d L).loc cc2_scratch1)) :
    ((rV).view.loc (thr d L) ↦{fullShare} f : sProp 𝕄) = (thr d L).loc cc2_scratch1 ↦{fullShare} f := rfl

abbrev cell (d : Dev nD) (L : grid2.Coords) (s : DmaSems sig S_) : GSem nD τ sig := (thr d L, .dma s.sem)

omit [FloatOps F] in
/-- The three semaphores of the task are among its own. -/
theorem ownSems0_V :
    (ownSems0 (thr d L) : sProp 𝕄)
      = iprop(semVal (cell d L cc2_scratch2) 0 ∗ semVal (cell d L cc2_scoped0) 0 ∗ semVal (cell d L cc2_scoped1) 0
          ∗ bigSep ((((ownCells (thr d L)).erase (cell d L cc2_scratch2)).erase (cell d L cc2_scoped0)).erase (cell d L cc2_scoped1)) fun g => semVal g 0) := by
  unfold SparseCore.Cfg.ownSems0
  rw [SparseCore.bigSep_erase' ((mem_ownCells (g := cell d L cc2_scratch2)).mpr ⟨rfl, by
      show (SemLoc.dma cc2_scratch2.sem : SemLoc sig).isScoped .scVector = true; decide⟩),
    SparseCore.bigSep_erase' (Finset.mem_erase.mpr ⟨by simp [cell]; decide, (mem_ownCells (g := cell d L cc2_scoped0)).mpr ⟨rfl, by
      show (SemLoc.dma cc2_scoped0.sem : SemLoc sig).isScoped .scVector = true; decide⟩⟩),
    SparseCore.bigSep_erase' (Finset.mem_erase.mpr ⟨by simp [cell]; decide, Finset.mem_erase.mpr ⟨by simp [cell]; decide,
      (mem_ownCells (g := cell d L cc2_scoped1)).mpr ⟨rfl, by show (SemLoc.dma cc2_scoped1.sem : SemLoc sig).isScoped .scVector = true; decide⟩⟩⟩)]

omit [FloatOps F] in
/-- The two scratch buffers are among the task's own. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
/-- Every word of the list names a row of the table. -/
def InRows (I : S262144.Idx → BitVec 32) : Prop := ∀ j, (I j).toNat < 32768

/-- The trips' invariant: after `k` of them the first `128 k` of the task's rows hold what they should. -/
def inv (O : CellTallies nD τ sig (HIx 1)) (W : Waits sig (HIx 1)) (k : ℕ) (_ : PUnit) : sProp 𝕄 :=
  iprop(Transfers.MayWaits (thr d L) (default : HIx 1) O
    ∗ ((xV).view.loc (thr d L) ↦{q} X) ∗ ((iV).view.loc (thr d L) ↦{q} I)
    ∗ (∃ f, ⌜∀ x ∈ ownRows (wNo L), (x 0).val < 8192 * wNo L + 128 * k → f x = gathered X I x⌝
        ∗ (oV).view.loc (thr d L) ↦[ownRows (wNo L)]{fullShare} f)
    ∗ (∃ f, (sV).view.loc (thr d L) ↦{fullShare} f) ∗ (∃ f, (rV).view.loc (thr d L) ↦{fullShare} f)
    ∗ semVal (cell d L cc2_scratch2) 0 ∗ semVal (cell d L cc2_scoped0) 0 ∗ semVal (cell d L cc2_scoped1) 0
    ∗ ∃ W', ⌜∀ p ∈ W', p ∈ W ∨ p.2 = none⌝ ∗ owes (thr d L) O W')

set_option maxHeartbeats 4000000 in
/-- One trip keeps the invariant. -/
theorem trip (hI : InRows I) (O : CellTallies nD τ sig (HIx 1)) (W : Waits sig (HIx 1)) (t : Fin k2_t1_loop.trips) (u : PUnit) :
    inv d L q X I O W t.val u
      ⊢ wp frame (wpE (defs₀ (F := F)) 𝒱₀ (thr d L) none) Set.univ
          (k2_t1_body L xV (Memref.isWhole_whole _) iV (Memref.isWhole_whole _) oV (Memref.isWhole_whole _)
            sV (Memref.isWhole_whole _) rV (Memref.isWhole_whole _) cc2_scratch2 cc2_scoped0 cc2_scoped1 t ⟨⟩)
          fun u' => inv d L q X I O W (t.val + 1) u' := by
  unfold inv k2_t1_body
  iintro ⟨#Hmw, Hx, Hi, ⟨%fo, %hfo, Ho⟩, ⟨%fs, Hs⟩, ⟨%fr, Hr⟩, HsemA, HsemB, HsemC, %W', %hW', HO⟩
  sl_exec
  have hidx : (sV).view.read (Elt F) (View.write (Elt F) (sV).view fs ((iChunk L t).view.read (Elt F) I) Finset.univ)
      = (iChunk L t).view.read (Elt F) I := by
    rw [View.write_whole_univ]
    simp only [Memref.view_whole, View.read_whole]
  have hin : ∀ x, ((sV).view.read (Elt F) (View.write (Elt F) (sV).view fs (trip.sl.dma0 d L I t) Finset.univ) x).toNat
      < S32768x128.size gathers_S32768x128_S128x128.axis := by
    intro x
    rw [show (sV).view.read (Elt F) (View.write (Elt F) (sV).view fs (trip.sl.dma0 d L I t) Finset.univ)
      = (iChunk L t).view.read (Elt F) I from hidx]
    rw [show (iChunk L t).view.read (Elt F) I x = I ((iChunk L t).view.emb x) from (View.read_apply _ _).trans (cast_eq _ _)]
    exact hI _
  ihave Hxs := (pointsTo_split_subset (q := q) (f := X) (S := Finset.univ) (Finset.subset_univ (xAll).view.set)).1 $$ Hx
  icases Hxs with ⟨Hxs, Hxr⟩
  have hrs : (rV).view.set = Finset.univ := View.set_whole _
  have hss : (sV).view.set = Finset.univ := View.set_whole _
  ihave Hr2 := (Entails.of_eq (show ((rV).view.loc (thr d L) ↦{fullShare} fr : sProp 𝕄)
      = (rV).view.loc (thr d L) ↦[(rV).view.set]{fullShare} fr by rw [hrs])) $$ Hr
  ihave Hs2 := (Entails.of_eq (show ((sV).view.loc (thr d L) ↦{fullShare} View.write (Elt F) (sV).view fs (trip.sl.dma0 d L I t) Finset.univ : sProp 𝕄)
      = (sV).view.loc (thr d L) ↦[(sV).view.set]{fullShare} View.write (Elt F) (sV).view fs (trip.sl.dma0 d L I t) Finset.univ
      by rw [hss])) $$ Hs
  have hN : ∀ h : S32768x128.Gathers 0 S128x128, ∑ j, ((rV).slice (S128x128.rowRect h.axis' j) (S128x128.stride_rowRect h.axis' j)).view.dmaCredit
      = (rV).view.dmaCredit := fun h => SparseCore.sum_rowCredit_eq_dmaCredit _ _ (fun _ => rfl)
  iapply (SparseCore.wp_indirectGatherLocal countersEmb 𝒱₀ (thr d L) none (hg := gathers_S32768x128_S128x128) (default : HIx 1)
      (rV).view.dmaCredit (hN _) (by decide) hin) $$ [Hxs Hr2 Hs2 HsemA]
  · isplitl [Hxs]; · iexact Hxs
    isplitl [Hr2]; · iexact Hr2
    isplitl [Hs2]; · iexact Hs2
    iexact HsemA
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr3, Hxs, Hs3⟩, HsemA, HO⟩
  ihave Hx := (pointsTo_split_subset (q := q) (f := X) (S := Finset.univ) (Finset.subset_univ (xAll).view.set)).2 $$ [Hxs Hxr]
  · isplitl [Hxs] <;> iassumption
  ihave Hr4 := (Entails.of_eq (show ((rV).view.loc (thr d L) ↦[(rV).view.set]{fullShare} _ : sProp 𝕄)
      = (rV).view.loc (thr d L) ↦{fullShare} _ by rw [hrs])) $$ Hr3
  ihave Hs4 := (Entails.of_eq (show ((sV).view.loc (thr d L) ↦[(sV).view.set]{fullShare} _ : sProp 𝕄)
      = (sV).view.loc (thr d L) ↦{fullShare} _ by rw [hss])) $$ Hs3
  -- the chunk of the output, out of the task's rows
  ihave Hos := (pointsTo_split_subset (q := fullShare) (f := fo) (oChunk_subset L t)).1 $$ Ho
  icases Hos with ⟨Hoc, Hor⟩
  ihave Hoc := (Entails.of_eq (show (oLoc d ↦[(oChunk L t).view.set]{fullShare} fo : sProp 𝕄)
      = (oChunk L t).view.loc (thr d L) ↦[(oChunk L t).view.set]{fullShare} fo from rfl)) $$ Hoc
  sl_exec
  sl_step
  -- what was copied out is what should stand there
  have hpay : ∀ y, trip.sl.dma0_1 d L X I t fs fr hin y = gathered X I ((oChunk L t).view.emb y) := by
    intro y
    refine Eq.trans ?_ (payload_eq L t X I (by decide) _ hidx hin y)
    show (rV).view.read (Elt F) (View.write (Elt F) (rV).view fr _ Finset.univ) y = _
    rw [View.write_whole_univ]
    simp only [Memref.view_whole, View.read_whole]
    rfl
  have hnew : ∀ x ∈ (oChunk L t).view.set, (oChunk L t).view.writes (Elt F) fo [⟨Rect.whole S128x128, trip.sl.dma0_1 d L X I t fs fr hin⟩] x
      = (fun x => if x ∈ (oChunk L t).view.set then gathered X I x else fo x) x := by
    intro x hx
    simp only [hx, if_true]
    obtain ⟨y, -, rfl⟩ := Finset.mem_map.mp hx
    rw [← View.write_univ_eq_writes_whole]
    refine (View.write_emb_of_mem _ _ (Finset.mem_univ y)).trans ?_
    exact (cast_eq _ _).trans (hpay y)
  have hold : ∀ x ∈ ownRows (wNo L) \ (oChunk L t).view.set, fo x
      = (fun x => if x ∈ (oChunk L t).view.set then gathered X I x else fo x) x := by
    intro x hx
    simp only [(Finset.mem_sdiff.mp hx).2, if_false]
  isplitr; · iexact Hmw
  isplitl [Hx]; · iexact Hx
  isplitl [Hi]; · iexact Hi
  isplitl [Hoc Hor]
  · iexists (fun x => if x ∈ (oChunk L t).view.set then gathered X I x else fo x)
    isplitr
    · ipureintro
      intro x hx hlt
      by_cases hc : x ∈ (oChunk L t).view.set
      · simp only [hc, if_true]
      · simp only [hc, if_false]
        refine hfo x hx ?_
        have h1 := mt (mem_oChunk L t x).mpr hc
        have h2 := mem_ownRows.mp hx
        omega
    · iapply (pointsTo_split_subset (ℓ := oLoc d) (q := fullShare) (oChunk_subset L t)).2
      isplitl [Hoc]
      · iapply (Entails.of_eq (pointsTo_congr (ℓ := oLoc d) (q := fullShare) hnew)); iexact Hoc
      · iapply (Entails.of_eq (pointsTo_congr (ℓ := oLoc d) (q := fullShare) hold)); iexact Hor
  isplitl [Hs4]; · iexists _; iexact Hs4
  isplitl [Hr4]; · iexists _; iexact Hr4
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The task: its shares and its rows in, the same with the rows holding what they should out. -/
theorem tile_body (hF : (K (F := F)).Facts) (hI : InRows I) (fo : Buf (Elt F) (oLoc d)) (O : CellTallies nD τ sig (HIx 1)) (W : Waits sig (HIx 1)) (hO : ∀ g, O g none = 0) :
    iprop((levAts (K (F := F)).L (K (F := F)).lev : sProp 𝕄) ∗ emp
        ∗ ((xLoc d ↦{q} X) ∗ (iLoc d ↦{q} I) ∗ oLoc d ↦[ownRows (wNo L)]{fullShare} fo)
        ∗ scopedBufs (thr d L) ∗ scopedSems0 (thr d L) ∗ (owes (thr d L) O W : sProp 𝕄))
      ⊢ wp frame (wpE (defs₀ (F := F)) 𝒱₀ (thr d L) none) Set.univ
          (cc2_gather_k L xV (Memref.isWhole_whole _) iV (Memref.isWhole_whole _) oV (Memref.isWhole_whole _)
            sV (Memref.isWhole_whole _) rV (Memref.isWhole_whole _) cc2_scratch2 cc2_scoped0 cc2_scoped1)
          fun _ => iprop(((xLoc d ↦{q} X) ∗ (iLoc d ↦{q} I) ∗ oLoc d ↦[ownRows (wNo L)]{fullShare} gathered X I)
            ∗ scopedBufs (thr d L) ∗ scopedSems0 (thr d L)
            ∗ ∃ W', ⌜∀ p ∈ W', p ∈ W ∨ p.2 = none⌝ ∗ owes (thr d L) O W') := by
  simp only [cc2_gather_k_eq_skeleton]; unfold cc2_gather_k_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv d L q X I O W) $$ [Hmw Hx Hi Ho Hs Hr HsemA HsemB HsemC HO]
  case region =>
    intro t u
    exact trip d L q X I hI O W t u
  · unfold inv
    isplitl [Hmw]; · iexact Hmw
    isplitl [Hx]; · iexact Hx
    isplitl [Hi]; · iexact Hi
    isplitl [Ho]
    · iexists fo; isplitr
      · ipureintro; intro x hx hlt
        have := mem_ownRows.mp hx
        omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hx, Hi, ⟨%f, %hf, Ho⟩, ⟨%fs', Hs⟩, ⟨%fr', Hr⟩, HsemA, HsemB, HsemC, %W', %hW', HO⟩
  sl_step
  have hall : ∀ x ∈ ownRows (wNo L), f x = gathered X I x := by
    intro x hx
    refine hf x hx ?_
    have := mem_ownRows.mp hx
    have : Scf.trips k2_t1_loop.lb k2_t1_loop.ub k2_t1_loop.st = 64 := trips_eq
    omega
  isplitl [Hx Hi Ho]
  · isplitl [Hx]; · iexact Hx
    isplitl [Hi]; · iexact Hi
    iapply (Entails.of_eq (pointsTo_congr (ℓ := oLoc d) (q := fullShare) hall)); iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; exact hW'

end Tile

end Cert.KernelIdeal.ScGather

end
-- ==== Proof.GatherCallIdeal.lean ====
/-
  The SparseCore call as a step of @main: what it takes and brings back, how that is dealt to the tasks, and each task's
  obligation.  The call takes the table, the list and the output whole and leaves the gathered rows.
-/
module

public import proofs.«01_k».proof.Proof.GatherTileIdeal

@[expose] public section

noncomputable section

namespace Cert.KernelIdeal.ScGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ
local notation "xV" => (Memref.whole main_v9_scv : Memref sig Kind.scVector Space.hbm S32768x128 EltTy.f32)
local notation "iV" => (Memref.whole main_v10_scv : Memref sig Kind.scVector Space.hbm S262144 EltTy.i32)
local notation "oV" => (Memref.whole main_v11_scv : Memref sig Kind.scVector Space.hbm S262144x128 EltTy.f32)
local notation "sV" => (Memref.whole cc2_scratch0 : Memref sig Kind.scVector Space.vmem S128 EltTy.i32)
local notation "rV" => (Memref.whole cc2_scratch1 : Memref sig Kind.scVector Space.vmem S128x128 EltTy.f32)

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What a task is handed -/

/-- The number of the task of core `c`, subcore `i`, as one of 32. -/
def taskNo (c : Fin 2) (i : Fin 16) : Fin 32 := ⟨2 * i.val + c.val, by omega⟩

/-- The pairs (core, subcore) against the 32 task numbers. -/
def taskEquiv : Fin 2 × Fin 16 ≃ Fin 32 where
  toFun p := taskNo p.1 p.2
  invFun w := (⟨w.val % 2, by omega⟩, ⟨w.val / 2, by omega⟩)
  left_inv p := by ext <;> simp [taskNo] <;> omega
  right_inv w := by ext; simp [taskNo]; omega

/-- The share of the table and of the list that task `w` holds. -/
abbrev taskShare (w : Fin 32) : PosShare TreeShare := pieceOf fullShare 32 (by omega) w

section Call

variable (X : (d : Dev nD) → Buf (Elt F) (xLoc d)) (I : (d : Dev nD) → Buf (Elt F) (iLoc d)) (fo : (d : Dev nD) → Buf (Elt F) (oLoc d))

/-- Task `w`'s part: its shares of the table and of the list and its rows of the output, the rows at `g`. -/
def part (d : Dev nD) (g : Buf (Elt F) (oLoc d)) (w : Fin 32) : sProp 𝕄 :=
  iprop((xLoc d ↦{taskShare w} X d) ∗ (iLoc d ↦{taskShare w} I d) ∗ oLoc d ↦[ownRows w.val]{fullShare} g)

instance part_storable (d : Dev nD) (g : Buf (Elt F) (oLoc d)) (w : Fin 32) :
    BI.Storable (upEmb : UEmb _ 𝕄) (part X I d g w) := by unfold part; infer_instance

theorem rows_disjoint (a b : Fin 32) (hab : a ≠ b) : Disjoint (ownRows a.val) (ownRows b.val) := by
  rw [Finset.disjoint_left]
  intro x h h'
  exact hab (Fin.ext ((mem_ownRows.mp h).symm.trans (mem_ownRows.mp h')))

theorem rows_cover : ((Finset.univ : Finset (Fin 32)).biUnion fun w => ownRows w.val) = Finset.univ := by
  refine Finset.eq_univ_of_forall fun x => ?_
  have hx : (x 0).val < 262144 := (x 0).isLt
  exact Finset.mem_biUnion.mpr ⟨⟨(x 0).val / 8192, by omega⟩, Finset.mem_univ _, mem_ownRows.mpr rfl⟩

/-- The tasks' rows are the whole output. -/
theorem rows_whole (d : Dev nD) (g : Buf (Elt F) (oLoc d)) :
    (oLoc d ↦{fullShare} g : sProp 𝕄) = bigSep Finset.univ fun w : Fin 32 => oLoc d ↦[ownRows w.val]{fullShare} g := by
  have h : (oLoc d ↦[(Finset.univ : Finset (Fin 32)).biUnion fun w => ownRows w.val]{fullShare} g : sProp 𝕄)
      = bigSep Finset.univ fun w : Fin 32 => oLoc d ↦[ownRows w.val]{fullShare} g :=
    pointsTo_biUnion _ _ fun a _ b _ hab => rows_disjoint a b hab
  rw [rows_cover] at h
  exact h

/-- The 32 parts are the table, the list and the output whole. -/
theorem parts_eq (d : Dev nD) (g : Buf (Elt F) (oLoc d)) :
    (bigSep Finset.univ fun c : Fin 2 => bigSep Finset.univ fun i : Fin 16 => part X I d g (taskNo c i) : sProp 𝕄)
      = iprop((xLoc d ↦{fullShare} X d) ∗ (iLoc d ↦{fullShare} I d) ∗ oLoc d ↦{fullShare} g) := by
  rw [← bigSep_univ_prod (fun p : Fin 2 × Fin 16 => part X I d g (taskNo p.1 p.2))]
  rw [show (fun p : Fin 2 × Fin 16 => part X I d g (taskNo p.1 p.2)) = fun p => part X I d g (taskEquiv p) from rfl,
    ← bigSep_univ_equiv taskEquiv (fun w => part X I d g w)]
  unfold part
  rw [bigSep_sep', bigSep_sep', ← pointsTo_piecesOf, ← pointsTo_piecesOf, ← rows_whole]

/-- The one call takes the table, the list and the output; each task its part; the rows come back gathered. -/
def P : (K (F := F)).Pay (nD := nD) (Val := Elt F) (Name := ℕ) (U := UU) where
  st := fun q d c => match q with
    | 0 => bigSep Finset.univ fun i : Fin 16 => part X I d (fo d) (taskNo (Fin.cast nCore_zero c) i)
  dn := fun q d c => match q with
    | 0 => bigSep Finset.univ fun i : Fin 16 => part X I d (gathered (X d) (I d)) (taskNo (Fin.cast nCore_zero c) i)
  go := fun q d c i => match q with
    | 0 => part X I d (fo d) (taskNo (Fin.cast nCore_zero c) (Fin.cast nSub_zero i))
  td := fun q d c i => match q with
    | 0 => part X I d (gathered (X d) (I d)) (taskNo (Fin.cast nCore_zero c) (Fin.cast nSub_zero i))
  x := fun _ _ => iprop(emp)

instance P_storable : (P X I fo).IsStorable where
  st q d c := match q with
    | 0 => (inferInstance : BI.Storable (upEmb : UEmb _ 𝕄)
      (bigSep Finset.univ fun i : Fin 16 => part X I d (fo d) (taskNo (Fin.cast nCore_zero c) i)))
  dn q d c := match q with
    | 0 => (inferInstance : BI.Storable (upEmb : UEmb _ 𝕄)
      (bigSep Finset.univ fun i : Fin 16 => part X I d (gathered (X d) (I d)) (taskNo (Fin.cast nCore_zero c) i)))
  go q d c i := match q with
    | 0 => part_storable X I d (fo d) (taskNo (Fin.cast nCore_zero c) (Fin.cast nSub_zero i))
  td q d c i := match q with
    | 0 => part_storable X I d (gathered (X d) (I d)) (taskNo (Fin.cast nCore_zero c) (Fin.cast nSub_zero i))

/-! ## The task's obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_k (coordsV c s)
          xV (Memref.isWhole_whole _) iV (Memref.isWhole_whole _) oV (Memref.isWhole_whole _)
          sV (Memref.isWhole_whole _) rV (Memref.isWhole_whole _) cc2_scratch2 cc2_scoped0 cc2_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d, InRows (I d)) : (K (F := F)).TileObl (D (F := F)) 𝒱 (P X I fo) v₀ 0 := by
  intro d c i O W hO _ _
  simp only [show (P X I fo).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body d (coordsV ⟨_, hci.1⟩ ⟨_, hci.2⟩) _ (X d) (I d) facts (hI d) (fo d) O W hO).trans (wp_mono frame _ _ fun _ => obl_post)

theorem vecSplit : (K (F := F)).VecSplit' (P X I fo) 0 := by
  intro d c
  show (bigSep Finset.univ fun i : Fin 16 => part X I d (fo d) (taskNo (Fin.cast nCore_zero c) i)) ⊢ |={Set.univ}=> iprop(
      (bigSep Finset.univ fun i : Fin 16 => part X I d (fo d) (taskNo (Fin.cast nCore_zero c) i))
      ∗ ((bigSep Finset.univ fun i : Fin 16 => part X I d (gathered (X d) (I d)) (taskNo (Fin.cast nCore_zero c) i))
          -∗ (bigSep Finset.univ fun i : Fin 16 => part X I d (gathered (X d) (I d)) (taskNo (Fin.cast nCore_zero c) i))))
  iintro H; imodintro
  isplitl [H]; · iexact H
  iintro H; iexact H

theorem st0_eq (d : Dev nD) : (bigSep Finset.univ fun c : Fin ((K (F := F)).nCore 0) => (P X I fo).st 0 d c)
    = iprop((xLoc d ↦{fullShare} X d) ∗ (iLoc d ↦{fullShare} I d) ∗ oLoc d ↦{fullShare} fo d) := parts_eq X I d (fo d)
theorem dn0_eq (d : Dev nD) : (bigSep Finset.univ fun c : Fin ((K (F := F)).nCore 0) => (P X I fo).dn 0 d c)
    = iprop((xLoc d ↦{fullShare} X d) ∗ (iLoc d ↦{fullShare} I d) ∗ oLoc d ↦{fullShare} gathered (X d) (I d)) :=
  parts_eq X I d (gathered (X d) (I d))

theorem bigSep_emp' {J : Type} (s : Finset J) : (bigSep s fun _ => iprop(emp)) = (iprop(emp) : sProp 𝕄) := bigSep_emp_const s

end Call

end Cert.KernelIdeal.ScGather

end
-- ==== Proof.GCallIdeal.lean ====
/-
  The table call: block b of its result is the product of block b of the joined points with the weights.  The body
  at one grid point, and the array the call leaves.
-/
module

public import proofs.«01_k».proof.Proof.RegionIdeal
public import proofs.«01_k».proof.Proof.Gen.KernelIdeal.Points
public import Idealize.ShloMosaic.Lib.Pipeline.FrameBody
public import Idealize.ShloMosaic.Lib.Pipeline.Value
public import Idealize.ShloMosaic.Lib.VecWindow

@[expose] public section

noncomputable section

namespace Cert.KernelIdeal.GCall

open Cert.KernelIdeal Cert.KernelIdeal.Gen Cert.KernelIdeal.ScGather Cert.KernelIdeal.Regions

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- The body at any staging buffers: the inputs stay, the result's buffer holds the product. -/
theorem body_triple [∀ e, Nonempty (Elt F e)] (c : Dev nD) (i : grid1.Coords) (M0 : Memref sig .tc .vmem S1x4096x67 .f32) (h0 : M0.IsWhole)
    (M1 : Memref sig .tc .vmem S67x128 .f32) (h1 : M1.IsWhole) (M2 : Memref sig .tc .vmem S1x4096x128 .f32) (h2 : M2.IsWhole)
    (d0 : Vec F S1x4096x67 .f32) (d1 : Vec F S67x128 .f32) (Q : PUnit → sProp 𝕄) :
    iprop(owns (c : Thread nD τ) M0 fullShare d0 ∗ owns (c : Thread nD τ) M1 fullShare d1 ∗ (∃ d, owns (c : Thread nD τ) M2 fullShare d)
        ∗ (iprop(owns (c : Thread nD τ) M0 fullShare d0 ∗ owns (c : Thread nD τ) M1 fullShare d1
            ∗ owns (c : Thread nD τ) M2 fullShare (k1_pay1 d0 d1)) -∗ Q ⟨⟩))
      ⊢ wp frame (wpE (defs₀ (F := F)) 𝒱₀ c none) Set.univ (cc1__g_body i M0 h0 M1 h1 M2 h2) Q := by
  rw [cc1__g_body_eq_skeleton]
  unfold owns
  iintro ⟨⟨%f0, %e0, H0⟩, ⟨%f1, %e1, H1⟩, ⟨%d, %f2, -, H2⟩, Hk⟩
  unfold cc1__g_body_skel
  sl_exec!
  sl_step
  iapply Hk
  isplitl [H0]; · iexists f0; isplitr; · ipureintro; exact e0
                  iexact H0
  isplitl [H1]; · iexists f1; isplitr; · ipureintro; exact e1
                  iexact H1
  iexists _; isplitr; swap; · iexact H2
  ipureintro
  refine (View.read_writes_full _ _ _ _ _).trans ?_
  rw [← e0, ← e1]
  exact congrArg₂ k1_pay1 (View.readAt_full _ _ _) (View.readAt_full _ _ _)

/-! ## The proof data from a valuation -/

variable (V : (c : Dev nD) → (b : Ref sig .tc) → Buf (Elt F) ((c : Thread nD τ).loc b))

/-- Input window `w`'s block at point `t`. -/
abbrev inBlk (c : Dev nD) (w : Fin 3) (t : Fin cfg1.N) : ((cfg1.win w).xblock (cfg1.grid.coords t)).Idx → Elt F (cfg1.win w).elt :=
  ((cfg1.win w).blk t).view.read (Elt F) (V c (Pipeline.arrRef spec1 w))

/-- The arrays at the valuation; after the body the inputs' buffers hold their blocks and the result's the product. -/
def dat (c : Dev nD) : Dat τ (Elt F) (HIx 1) ℕ UU ℕ cfg1 c where
  A w := V c (Pipeline.arrRef spec1 w)
  after w t := match w with
    | ⟨0, _⟩ => inBlk V c 0 t
    | ⟨1, _⟩ => inBlk V c 1 t
    | ⟨2, _⟩ => k1_pay1 (inBlk V c 0 t) (inBlk V c 1 t)
  Φ _ := Pipeline.scopedRest spec1 c
  q _ := fullShare
  owed _ := (K (F := F)).Otc c 0
  recorded _ := below (F := F) 0 c

theorem before_0 (c : Dev nD) (t : Fin cfg1.N) (d : (cfg1.win 0).block.Idx → Elt F (cfg1.win 0).elt) : (dat V c).before 0 t d = inBlk V c 0 t :=
  Dat.before_in_eq_fetched (dat V c) 0 rfl (fun _ => rfl) (fun _ _ _ => rfl) (fun _ => rfl) t d
theorem before_1 (c : Dev nD) (t : Fin cfg1.N) (d : (cfg1.win 1).block.Idx → Elt F (cfg1.win 1).elt) : (dat V c).before 1 t d = inBlk V c 1 t :=
  Dat.before_in_eq_fetched (dat V c) 1 rfl (fun _ => rfl) (fun _ _ _ => rfl) (fun _ => rfl) t d

theorem body_obligation [∀ e, Nonempty (Elt F e)] (c : Dev nD) : BodyObligation (dat V c) (defs₀ (F := F)) 𝒱₀ none Set.univ := fun t => by
  rw [bigSep_W1, bigSep_W1]
  rw [show (dat V c).Φ t.castSucc = Pipeline.scopedRest spec1 c from rfl, show (dat V c).Φ t.succ = Pipeline.scopedRest spec1 c from rfl,
    show (dat V c).owesAt none t.succ = (dat V c).owesAt none t.castSucc from rfl]
  iintro ⟨HΦ, Howes, ⟨%d0, H0⟩, ⟨%d1, H1⟩, ⟨%d2, H2⟩⟩
  rw [before_0, before_1]
  iapply (body_triple c (grid1.coords t) _ (hstage1_0 ((cfg1.slots t 0).cast nbuf1_0)) _ (hstage1_1 ((cfg1.slots t 1).cast nbuf1_1))
    _ (hstage1_2 ((cfg1.slots t 2).cast nbuf1_2)) (inBlk V c 0 t) (inBlk V c 1 t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## The array the call leaves -/

/-- Row `y` of block `b` of the joined points. -/
def blkA (A : S8x4096x67.Idx → Elt F .f32) (b : S8x4096x128.Coord 0) : S1x4096x67.Idx → Elt F .f32 :=
  fun y => A (fun a => match a with | 0 => b | 1 => y 1 | 2 => y 2)

/-- The array the call leaves: at block `b` the body's product. -/
def out (A : S8x4096x67.Idx → Elt F .f32) (B : S67x128.Idx → Elt F .f32) : S8x4096x128.Idx → Elt F .f32 :=
  fun x => k1_pay1 (blkA A (x 0)) B (fun a => match a with | 0 => (0 : Fin 1) | 1 => x 1 | 2 => x 2)

theorem index_0 : ∀ (t : Fin grid1.N) (a : Fin 3), win1_0.index t a = (![t.val, 0, 0] : Fin 3 → ℕ) a := by decide
theorem index_1 : ∀ (t : Fin grid1.N) (a : Fin 2), win1_1.index t a = 0 := by decide
theorem index_2 : ∀ (t : Fin grid1.N) (a : Fin 3), win1_2.index t a = (![t.val, 0, 0] : Fin 3 → ℕ) a := by decide

theorem emb_2 (t : Fin cfg1.N) (y : S1x4096x128.Idx) (a : Fin 3) :
    (((cfg1.win 2).blk t).view.emb y a).val = (![t.val, (y 1).val, (y 2).val] : Fin 3 → ℕ) a := by
  refine ((win1_2.rect_emb_val t y a).trans ?_)
  rw [index_2]
  have : (y 0).val = 0 := by have := (y 0).isLt; simpa using this
  fin_cases a <;> simp [this]

theorem inBlk_0 (c : Dev nD) (t : Fin cfg1.N) (b : S8x4096x128.Coord 0) (hb : b.val = t.val) :
    inBlk V c 0 t = blkA (V c main_v6) b := by
  funext y
  refine congrArg (V c main_v6) (funext fun a => Fin.ext ?_)
  refine ((win1_0.rect_emb_val t y a).trans ?_)
  rw [index_0]
  have h0 : (y 0).val = 0 := Nat.lt_one_iff.1 (y 0).isLt
  match a with
  | 0 => show t.val * 1 + (y 0).val = b.val; omega
  | 1 => show 0 * 4096 + (y 1).val = (y 1).val; omega
  | 2 => show 0 * 67 + (y 2).val = (y 2).val; omega

theorem inBlk_1 (c : Dev nD) (t : Fin cfg1.N) : inBlk V c 1 t = V c main_v7 := by
  funext y
  refine congrArg (V c main_v7) (funext fun a => Fin.ext ?_)
  exact win1_1.rect_emb_val_of_index_zero t a (index_1 t a) y

theorem final (c : Dev nD) : (dat V c).arrAt 2 cfg1.N = out (V c main_v6) (V c main_v7) := by
  refine (dat V c).arrAt_eq_of_cover 2 (out (V c main_v6) (V c main_v7)) (fun t _ => ?_) fun i => ?_
  · funext y
    show k1_pay1 (inBlk V c 0 t) (inBlk V c 1 t) y = out (V c main_v6) (V c main_v7) (((cfg1.win 2).blk t).view.emb y)
    rw [inBlk_1, inBlk_0 V c t (((cfg1.win 2).blk t).view.emb y 0) (emb_2 t y 0)]
    unfold out
    refine congrArg _ (funext fun a => Fin.ext ?_)
    match a with
    | 0 => exact Nat.lt_one_iff.1 (y 0).isLt
    | 1 => exact (emb_2 t y 1).symm
    | 2 => exact (emb_2 t y 2).symm
  · refine ⟨⟨(i 0).val, ?_⟩, flush1_2 _, ?_⟩
    · exact lt_of_lt_of_eq (i 0).isLt N_1.symm
    · have h := View.emb_mem_set ((cfg1.win 2).blk ⟨(i 0).val, lt_of_lt_of_eq (i 0).isLt N_1.symm⟩).view
        (fun a => match a with | 0 => (0 : Fin 1) | 1 => i 1 | 2 => i 2)
      refine Eq.subst (motive := fun z => z ∈ _) (funext fun a => Fin.ext ?_) h
      refine (emb_2 _ _ a).trans ?_
      match a with
      | 0 => rfl
      | 1 => rfl
      | 2 => rfl

end Cert.KernelIdeal.GCall

end
-- ==== Proof.MlpCallIdeal.lean ====
/-
  The layers call: on each tile of 128 centres, the three layers on the centres' gathered rows and the maximum over
  the neighbours.  The body at one grid point, and the array the call leaves.
-/
module

public import proofs.«01_k».proof.Proof.RegionIdeal
public import proofs.«01_k».proof.Proof.Gen.KernelIdeal.Points
public import Idealize.ShloMosaic.Lib.Pipeline.FrameBody
public import Idealize.ShloMosaic.Lib.Pipeline.Value
public import Idealize.ShloMosaic.Lib.VecWindow

@[expose] public section

noncomputable section

namespace Cert.KernelIdeal.MlpCall

open Cert.KernelIdeal Cert.KernelIdeal.Gen Cert.KernelIdeal.ScGather Cert.KernelIdeal.Regions

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- What the body computes of its ten inputs. -/
@[irreducible] def tile (d0 : Vec F S1x1x4096x128 .f32) (d1 : Vec F S1x128x3 .f32) (d2 : Vec F S1x128x3 .f32) (d3 : Vec F S3x128 .f32) (d4 : Vec F S3x128 .f32) (d5 : Vec F S1x128 .f32) (d6 : Vec F S128x128 .f32) (d7 : Vec F S1x128 .f32) (d8 : Vec F S128x256 .f32) (d9 : Vec F S1x256 .f32) : Vec F S1x128x256 .f32 := k3_pay1 (k3_pay2 d0 d1 d2 d4 d3 d5 d6 d7) d8 d9

/-- The body at any staging buffers: the inputs stay, the result's buffer holds the tile computed of them. -/
theorem body_triple [∀ e, Nonempty (Elt F e)] (c : Dev nD) (i : grid3.Coords) (M0 : Memref sig .tc .vmem S1x1x4096x128 .f32) (h0 : M0.IsWhole) (M1 : Memref sig .tc .vmem S1x128x3 .f32) (h1 : M1.IsWhole) (M2 : Memref sig .tc .vmem S1x128x3 .f32) (h2 : M2.IsWhole) (M3 : Memref sig .tc .vmem S3x128 .f32) (h3 : M3.IsWhole) (M4 : Memref sig .tc .vmem S3x128 .f32) (h4 : M4.IsWhole) (M5 : Memref sig .tc .vmem S1x128 .f32) (h5 : M5.IsWhole) (M6 : Memref sig .tc .vmem S128x128 .f32) (h6 : M6.IsWhole) (M7 : Memref sig .tc .vmem S1x128 .f32) (h7 : M7.IsWhole) (M8 : Memref sig .tc .vmem S128x256 .f32) (h8 : M8.IsWhole) (M9 : Memref sig .tc .vmem S1x256 .f32) (h9 : M9.IsWhole) (M10 : Memref sig .tc .vmem S1x128x256 .f32) (h10 : M10.IsWhole)
    (d0 : Vec F S1x1x4096x128 .f32) (d1 : Vec F S1x128x3 .f32) (d2 : Vec F S1x128x3 .f32) (d3 : Vec F S3x128 .f32) (d4 : Vec F S3x128 .f32) (d5 : Vec F S1x128 .f32) (d6 : Vec F S128x128 .f32) (d7 : Vec F S1x128 .f32) (d8 : Vec F S128x256 .f32) (d9 : Vec F S1x256 .f32) (Q : PUnit → sProp 𝕄) :
    iprop(owns (c : Thread nD τ) M0 fullShare d0 ∗ owns (c : Thread nD τ) M1 fullShare d1 ∗ owns (c : Thread nD τ) M2 fullShare d2 ∗ owns (c : Thread nD τ) M3 fullShare d3 ∗ owns (c : Thread nD τ) M4 fullShare d4 ∗ owns (c : Thread nD τ) M5 fullShare d5 ∗ owns (c : Thread nD τ) M6 fullShare d6 ∗ owns (c : Thread nD τ) M7 fullShare d7 ∗ owns (c : Thread nD τ) M8 fullShare d8 ∗ owns (c : Thread nD τ) M9 fullShare d9 ∗ (∃ d, owns (c : Thread nD τ) M10 fullShare d)
        ∗ (iprop(owns (c : Thread nD τ) M0 fullShare d0 ∗ owns (c : Thread nD τ) M1 fullShare d1 ∗ owns (c : Thread nD τ) M2 fullShare d2 ∗ owns (c : Thread nD τ) M3 fullShare d3 ∗ owns (c : Thread nD τ) M4 fullShare d4 ∗ owns (c : Thread nD τ) M5 fullShare d5 ∗ owns (c : Thread nD τ) M6 fullShare d6 ∗ owns (c : Thread nD τ) M7 fullShare d7 ∗ owns (c : Thread nD τ) M8 fullShare d8 ∗ owns (c : Thread nD τ) M9 fullShare d9
            ∗ owns (c : Thread nD τ) M10 fullShare (tile d0 d1 d2 d3 d4 d5 d6 d7 d8 d9)) -∗ Q ⟨⟩))
      ⊢ wp frame (wpE (defs₀ (F := F)) 𝒱₀ c none) Set.univ (cc3__mlp_body i M0 h0 M1 h1 M2 h2 M3 h3 M4 h4 M5 h5 M6 h6 M7 h7 M8 h8 M9 h9 M10 h10) Q := by
  rw [cc3__mlp_body_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d, %f10, -, H10⟩, Hk⟩
  unfold cc3__mlp_body_skel
  rw [k3_part1_eq_skeleton]
  unfold k3_part1_skel
  sl_exec!
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  iexists _; isplitr; swap; · iexact H10
  ipureintro
  refine (View.read_writes_full _ _ _ _ _).trans ?_
  unfold tile
  rw [← e0, ← e1, ← e2, ← e3, ← e4, ← e5, ← e6, ← e7, ← e8, ← e9]
  have p : ∀ {a0 b0 a1 b1 a2 b2 a3 b3 a4 b4 a5 b5 a6 b6 a7 b7 a8 b8 a9 b9}, a0 = b0 → a1 = b1 → a2 = b2 → a3 = b3 → a4 = b4 → a5 = b5 → a6 = b6 → a7 = b7 → a8 = b8 → a9 = b9 →
      k3_pay1 (F := F) (k3_pay2 a0 a1 a2 a4 a3 a5 a6 a7) a8 a9 = k3_pay1 (k3_pay2 b0 b1 b2 b4 b3 b5 b6 b7) b8 b9 := by
    rintro _ _ _ _ _ _ _ _ _ _ _ _ _ _ _ _ _ _ _ _ rfl rfl rfl rfl rfl rfl rfl rfl rfl rfl ; rfl
  exact p (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _)

/-! ## The proof data from a valuation -/

variable (V : (c : Dev nD) → (b : Ref sig .tc) → Buf (Elt F) ((c : Thread nD τ).loc b))

/-- Input window `w`'s block at point `t`. -/
abbrev inBlk (c : Dev nD) (w : Fin 11) (t : Fin cfg3.N) : ((cfg3.win w).xblock (cfg3.grid.coords t)).Idx → Elt F (cfg3.win w).elt :=
  ((cfg3.win w).blk t).view.read (Elt F) (V c (Pipeline.arrRef spec3 w))

/-- The arrays at the valuation; after the body the inputs' buffers hold their blocks and the result's the tile. -/
def dat (c : Dev nD) : Dat τ (Elt F) (HIx 1) ℕ UU ℕ cfg3 c where
  A w := V c (Pipeline.arrRef spec3 w)
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => inBlk V c 5 t
    | ⟨6, _⟩ => inBlk V c 6 t
    | ⟨7, _⟩ => inBlk V c 7 t
    | ⟨8, _⟩ => inBlk V c 8 t
    | ⟨9, _⟩ => inBlk V c 9 t
    | ⟨10, _⟩ => tile (inBlk V c 0 t) (inBlk V c 1 t) (inBlk V c 2 t) (inBlk V c 3 t) (inBlk V c 4 t) (inBlk V c 5 t) (inBlk V c 6 t) (inBlk V c 7 t) (inBlk V c 8 t) (inBlk V c 9 t)
  Φ _ := Pipeline.scopedRest spec3 c
  q _ := fullShare
  owed _ := (K (F := F)).Otc c 1
  recorded _ := below (F := F) 1 c

theorem before_0 (c : Dev nD) (t : Fin cfg3.N) (d : (cfg3.win 0).block.Idx → Elt F (cfg3.win 0).elt) : (dat V c).before 0 t d = inBlk V c 0 t :=
  Dat.before_in_eq_fetched (dat V c) 0 rfl (fun _ => rfl) (fun _ _ _ => rfl) (fun _ => rfl) t d
theorem before_1 (c : Dev nD) (t : Fin cfg3.N) (d : (cfg3.win 1).block.Idx → Elt F (cfg3.win 1).elt) : (dat V c).before 1 t d = inBlk V c 1 t :=
  Dat.before_in_eq_fetched (dat V c) 1 rfl (fun _ => rfl) (fun _ _ _ => rfl) (fun _ => rfl) t d
theorem before_2 (c : Dev nD) (t : Fin cfg3.N) (d : (cfg3.win 2).block.Idx → Elt F (cfg3.win 2).elt) : (dat V c).before 2 t d = inBlk V c 2 t :=
  Dat.before_in_eq_fetched (dat V c) 2 rfl (fun _ => rfl) (fun _ _ _ => rfl) (fun _ => rfl) t d
theorem before_3 (c : Dev nD) (t : Fin cfg3.N) (d : (cfg3.win 3).block.Idx → Elt F (cfg3.win 3).elt) : (dat V c).before 3 t d = inBlk V c 3 t :=
  Dat.before_in_eq_fetched (dat V c) 3 rfl (fun _ => rfl) (fun _ _ _ => rfl) (fun _ => rfl) t d
theorem before_4 (c : Dev nD) (t : Fin cfg3.N) (d : (cfg3.win 4).block.Idx → Elt F (cfg3.win 4).elt) : (dat V c).before 4 t d = inBlk V c 4 t :=
  Dat.before_in_eq_fetched (dat V c) 4 rfl (fun _ => rfl) (fun _ _ _ => rfl) (fun _ => rfl) t d
theorem before_5 (c : Dev nD) (t : Fin cfg3.N) (d : (cfg3.win 5).block.Idx → Elt F (cfg3.win 5).elt) : (dat V c).before 5 t d = inBlk V c 5 t :=
  Dat.before_in_eq_fetched (dat V c) 5 rfl (fun _ => rfl) (fun _ _ _ => rfl) (fun _ => rfl) t d
theorem before_6 (c : Dev nD) (t : Fin cfg3.N) (d : (cfg3.win 6).block.Idx → Elt F (cfg3.win 6).elt) : (dat V c).before 6 t d = inBlk V c 6 t :=
  Dat.before_in_eq_fetched (dat V c) 6 rfl (fun _ => rfl) (fun _ _ _ => rfl) (fun _ => rfl) t d
theorem before_7 (c : Dev nD) (t : Fin cfg3.N) (d : (cfg3.win 7).block.Idx → Elt F (cfg3.win 7).elt) : (dat V c).before 7 t d = inBlk V c 7 t :=
  Dat.before_in_eq_fetched (dat V c) 7 rfl (fun _ => rfl) (fun _ _ _ => rfl) (fun _ => rfl) t d
theorem before_8 (c : Dev nD) (t : Fin cfg3.N) (d : (cfg3.win 8).block.Idx → Elt F (cfg3.win 8).elt) : (dat V c).before 8 t d = inBlk V c 8 t :=
  Dat.before_in_eq_fetched (dat V c) 8 rfl (fun _ => rfl) (fun _ _ _ => rfl) (fun _ => rfl) t d
theorem before_9 (c : Dev nD) (t : Fin cfg3.N) (d : (cfg3.win 9).block.Idx → Elt F (cfg3.win 9).elt) : (dat V c).before 9 t d = inBlk V c 9 t :=
  Dat.before_in_eq_fetched (dat V c) 9 rfl (fun _ => rfl) (fun _ _ _ => rfl) (fun _ => rfl) t d

theorem after_10 (c : Dev nD) (t : Fin cfg3.N) : (dat V c).after 10 t = tile (inBlk V c 0 t) (inBlk V c 1 t) (inBlk V c 2 t) (inBlk V c 3 t) (inBlk V c 4 t) (inBlk V c 5 t) (inBlk V c 6 t) (inBlk V c 7 t) (inBlk V c 8 t) (inBlk V c 9 t) := by
  rfl

set_option maxRecDepth 16384 in
theorem body_obligation [∀ e, Nonempty (Elt F e)] (c : Dev nD) : BodyObligation (dat V c) (defs₀ (F := F)) 𝒱₀ none Set.univ := fun t => by
  rw [bigSep_W3, bigSep_W3]
  rw [show (dat V c).Φ t.castSucc = Pipeline.scopedRest spec3 c from rfl, show (dat V c).Φ t.succ = Pipeline.scopedRest spec3 c from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0, before_1, before_2, before_3, before_4, before_5, before_6, before_7, before_8, before_9, after_10]
  iapply (body_triple c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (hstage3_6 ((cfg3.slots t 6).cast nbuf3_6)) _ (hstage3_7 ((cfg3.slots t 7).cast nbuf3_7)) _ (hstage3_8 ((cfg3.slots t 8).cast nbuf3_8)) _ (hstage3_9 ((cfg3.slots t 9).cast nbuf3_9)) _ (hstage3_10 ((cfg3.slots t 10).cast nbuf3_10))
    (inBlk V c 0 t) (inBlk V c 1 t) (inBlk V c 2 t) (inBlk V c 3 t) (inBlk V c 4 t) (inBlk V c 5 t) (inBlk V c 6 t) (inBlk V c 7 t) (inBlk V c 8 t) (inBlk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The array the call leaves -/

/-- The gathered rows of tile `q` of batch `b`. -/
def blkR (X : S8x8x4096x128.Idx → Elt F .f32) (b q : Fin 8) : S1x1x4096x128.Idx → Elt F .f32 :=
  fun y => X (fun a => match a with | 0 => b | 1 => q | 2 => y 2 | 3 => y 3)

/-- Centre `s` of tile `q`. -/
def cen (q : Fin 8) (s : Fin 128) : Fin 1024 := ⟨q.val * 128 + s.val, by omega⟩

/-- The centres of tile `q` of batch `b`. -/
def blkC (X : S8x1024x3.Idx → Elt F .f32) (b q : Fin 8) : S1x128x3.Idx → Elt F .f32 :=
  fun y => X (fun a => match a with | 0 => b | 1 => cen q (y 1) | 2 => y 2)

/-- The tile of a centre and its number there. -/
def tq (s : Fin 1024) : Fin 8 := ⟨s.val / 128, by omega⟩
def tr (s : Fin 1024) : Fin 128 := ⟨s.val % 128, by omega⟩

/-- The array the call leaves: at each tile what the body computes of its blocks. -/
def out (A0 : S8x8x4096x128.Idx → Elt F .f32) (A1 : S8x1024x3.Idx → Elt F .f32) (A2 : S8x1024x3.Idx → Elt F .f32) (A3 : S3x128.Idx → Elt F .f32) (A4 : S3x128.Idx → Elt F .f32) (A5 : S1x128.Idx → Elt F .f32) (A6 : S128x128.Idx → Elt F .f32) (A7 : S1x128.Idx → Elt F .f32) (A8 : S128x256.Idx → Elt F .f32) (A9 : S1x256.Idx → Elt F .f32) : S8x1024x256.Idx → Elt F .f32 :=
  fun x => tile (blkR A0 (x 0) (tq (x 1))) (blkC A1 (x 0) (tq (x 1))) (blkC A2 (x 0) (tq (x 1))) A3 A4 A5 A6 A7 A8 A9
    (fun a => match a with | 0 => (0 : Fin 1) | 1 => tr (x 1) | 2 => x 2)

theorem index_0 : ∀ (t : Fin grid3.N) (a : Fin 4), win3_0.index t a = (![t.val / 8, t.val % 8, 0, 0] : Fin 4 → ℕ) a := by decide +kernel
theorem index_1 : ∀ (t : Fin grid3.N) (a : Fin 3), win3_1.index t a = (![t.val / 8, t.val % 8, 0] : Fin 3 → ℕ) a := by decide +kernel
theorem index_2 : ∀ (t : Fin grid3.N) (a : Fin 3), win3_2.index t a = (![t.val / 8, t.val % 8, 0] : Fin 3 → ℕ) a := by decide +kernel
theorem index_10 : ∀ (t : Fin grid3.N) (a : Fin 3), win3_10.index t a = (![t.val / 8, t.val % 8, 0] : Fin 3 → ℕ) a := by decide +kernel
theorem index_3 : ∀ (t : Fin grid3.N) (a : Fin 2), win3_3.index t a = 0 := by decide +kernel
theorem index_4 : ∀ (t : Fin grid3.N) (a : Fin 2), win3_4.index t a = 0 := by decide +kernel
theorem index_5 : ∀ (t : Fin grid3.N) (a : Fin 2), win3_5.index t a = 0 := by decide +kernel
theorem index_6 : ∀ (t : Fin grid3.N) (a : Fin 2), win3_6.index t a = 0 := by decide +kernel
theorem index_7 : ∀ (t : Fin grid3.N) (a : Fin 2), win3_7.index t a = 0 := by decide +kernel
theorem index_8 : ∀ (t : Fin grid3.N) (a : Fin 2), win3_8.index t a = 0 := by decide +kernel
theorem index_9 : ∀ (t : Fin grid3.N) (a : Fin 2), win3_9.index t a = 0 := by decide +kernel

theorem emb_10 (t : Fin cfg3.N) (y : S1x128x256.Idx) (a : Fin 3) :
    (((cfg3.win 10).blk t).view.emb y a).val = (![t.val / 8, t.val % 8 * 128 + (y 1).val, (y 2).val] : Fin 3 → ℕ) a := by
  refine ((win3_10.rect_emb_val t y a).trans ?_)
  rw [index_10]
  have h0 : (y 0).val = 0 := Nat.lt_one_iff.1 (y 0).isLt
  match a with
  | 0 => show t.val / 8 * 1 + (y 0).val = t.val / 8; omega
  | 1 => rfl
  | 2 => show 0 * 256 + (y 2).val = (y 2).val; omega

theorem inBlk_0 (c : Dev nD) (t : Fin cfg3.N) (b q : Fin 8) (hb : b.val = t.val / 8) (hq : q.val = t.val % 8) :
    inBlk V c 0 t = blkR (V c main_v12) b q := by
  funext y
  refine congrArg (V c main_v12) (funext fun a => Fin.ext ?_)
  refine ((win3_0.rect_emb_val t y a).trans ?_)
  rw [index_0]
  have h0 : (y 0).val = 0 := Nat.lt_one_iff.1 (y 0).isLt
  have h1 : (y 1).val = 0 := Nat.lt_one_iff.1 (y 1).isLt
  match a with
  | 0 => show t.val / 8 * 1 + (y 0).val = b.val; omega
  | 1 => show t.val % 8 * 1 + (y 1).val = q.val; omega
  | 2 => show 0 * 4096 + (y 2).val = (y 2).val; omega
  | 3 => show 0 * 128 + (y 3).val = (y 3).val; omega

theorem inBlk_1 (c : Dev nD) (t : Fin cfg3.N) (b q : Fin 8) (hb : b.val = t.val / 8) (hq : q.val = t.val % 8) :
    inBlk V c 1 t = blkC (V c main_v4) b q := by
  funext y
  refine congrArg (V c main_v4) (funext fun a => Fin.ext ?_)
  refine ((win3_1.rect_emb_val t y a).trans ?_)
  rw [index_1]
  have h0 : (y 0).val = 0 := Nat.lt_one_iff.1 (y 0).isLt
  match a with
  | 0 => show t.val / 8 * 1 + (y 0).val = b.val; omega
  | 1 => show t.val % 8 * 128 + (y 1).val = q.val * 128 + (y 1).val; omega
  | 2 => show 0 * 3 + (y 2).val = (y 2).val; omega

theorem inBlk_2 (c : Dev nD) (t : Fin cfg3.N) (b q : Fin 8) (hb : b.val = t.val / 8) (hq : q.val = t.val % 8) :
    inBlk V c 2 t = blkC (V c main_v5) b q := by
  funext y
  refine congrArg (V c main_v5) (funext fun a => Fin.ext ?_)
  refine ((win3_2.rect_emb_val t y a).trans ?_)
  rw [index_2]
  have h0 : (y 0).val = 0 := Nat.lt_one_iff.1 (y 0).isLt
  match a with
  | 0 => show t.val / 8 * 1 + (y 0).val = b.val; omega
  | 1 => show t.val % 8 * 128 + (y 1).val = q.val * 128 + (y 1).val; omega
  | 2 => show 0 * 3 + (y 2).val = (y 2).val; omega

theorem inBlk_3 (c : Dev nD) (t : Fin cfg3.N) : inBlk V c 3 t = V c main_v13 := by
  funext y
  refine congrArg (V c main_v13) (funext fun a => Fin.ext ?_)
  exact win3_3.rect_emb_val_of_index_zero t a (index_3 t a) y

theorem inBlk_4 (c : Dev nD) (t : Fin cfg3.N) : inBlk V c 4 t = V c main_v14 := by
  funext y
  refine congrArg (V c main_v14) (funext fun a => Fin.ext ?_)
  exact win3_4.rect_emb_val_of_index_zero t a (index_4 t a) y

theorem inBlk_5 (c : Dev nD) (t : Fin cfg3.N) : inBlk V c 5 t = V c main_v15 := by
  funext y
  refine congrArg (V c main_v15) (funext fun a => Fin.ext ?_)
  exact win3_5.rect_emb_val_of_index_zero t a (index_5 t a) y

theorem inBlk_6 (c : Dev nD) (t : Fin cfg3.N) : inBlk V c 6 t = V c main_arg6 := by
  funext y
  refine congrArg (V c main_arg6) (funext fun a => Fin.ext ?_)
  exact win3_6.rect_emb_val_of_index_zero t a (index_6 t a) y

theorem inBlk_7 (c : Dev nD) (t : Fin cfg3.N) : inBlk V c 7 t = V c main_v16 := by
  funext y
  refine congrArg (V c main_v16) (funext fun a => Fin.ext ?_)
  exact win3_7.rect_emb_val_of_index_zero t a (index_7 t a) y

theorem inBlk_8 (c : Dev nD) (t : Fin cfg3.N) : inBlk V c 8 t = V c main_arg8 := by
  funext y
  refine congrArg (V c main_arg8) (funext fun a => Fin.ext ?_)
  exact win3_8.rect_emb_val_of_index_zero t a (index_8 t a) y

theorem inBlk_9 (c : Dev nD) (t : Fin cfg3.N) : inBlk V c 9 t = V c main_v17 := by
  funext y
  refine congrArg (V c main_v17) (funext fun a => Fin.ext ?_)
  exact win3_9.rect_emb_val_of_index_zero t a (index_9 t a) y

set_option maxRecDepth 16384 in
theorem final (c : Dev nD) : (dat V c).arrAt 10 cfg3.N = out (V c main_v12) (V c main_v4) (V c main_v5) (V c main_v13) (V c main_v14) (V c main_v15) (V c main_arg6) (V c main_v16) (V c main_arg8) (V c main_v17) := by
  refine (dat V c).arrAt_eq_of_cover 10 (out (V c main_v12) (V c main_v4) (V c main_v5) (V c main_v13) (V c main_v14) (V c main_v15) (V c main_arg6) (V c main_v16) (V c main_arg8) (V c main_v17)) (fun t _ => ?_) fun i => ?_
  · funext y
    have e0 := emb_10 t y 0
    have e1 := emb_10 t y 1
    have e2 := emb_10 t y 2
    have ht : t.val < 64 := lt_of_lt_of_eq t.isLt N_3
    have hy : (y 1).val < 128 := (y 1).isLt
    refine (congrFun (after_10 V c t) y).trans ?_
    show _ = out (V c main_v12) (V c main_v4) (V c main_v5) (V c main_v13) (V c main_v14) (V c main_v15) (V c main_arg6) (V c main_v16) (V c main_arg8) (V c main_v17) (((cfg3.win 10).blk t).view.emb y)
    generalize ((cfg3.win 10).blk t).view.emb y = x at e0 e1 e2 ⊢
    have e0' : (x 0).val = t.val / 8 := e0
    have e1' : (x 1).val = t.val % 8 * 128 + (y 1).val := e1
    have hq : (tq (x 1)).val = t.val % 8 := by show (x 1).val / 128 = _; omega
    rw [inBlk_3, inBlk_4, inBlk_5, inBlk_6, inBlk_7, inBlk_8, inBlk_9, inBlk_0 V c t (x 0) (tq (x 1)) e0 hq, inBlk_1 V c t (x 0) (tq (x 1)) e0 hq, inBlk_2 V c t (x 0) (tq (x 1)) e0 hq]
    unfold out
    refine congrArg _ (funext fun a => Fin.ext ?_)
    match a with
    | 0 => exact Nat.lt_one_iff.1 (y 0).isLt
    | 1 => show (y 1).val = (x 1).val % 128; omega
    | 2 => exact e2.symm
  · have h0 : (i 0).val < 8 := (i 0).isLt
    have h1 : (i 1).val < 1024 := (i 1).isLt
    have ht : (i 0).val * 8 + (i 1).val / 128 < cfg3.N := lt_of_lt_of_eq (by omega : _ < 64) N_3.symm
    refine ⟨⟨(i 0).val * 8 + (i 1).val / 128, ht⟩, flush3_10 _, ?_⟩
    have h := View.emb_mem_set ((cfg3.win 10).blk ⟨(i 0).val * 8 + (i 1).val / 128, ht⟩).view
      (fun a => match a with | 0 => (0 : Fin 1) | 1 => tr (i 1) | 2 => i 2)
    refine Eq.subst (motive := fun z => z ∈ _) (funext fun a => Fin.ext ?_) h
    refine (emb_10 _ _ a).trans ?_
    match a with
    | 0 => show ((i 0).val * 8 + (i 1).val / 128) / 8 = (i 0).val; omega
    | 1 => show ((i 0).val * 8 + (i 1).val / 128) % 8 * 128 + (i 1).val % 128 = (i 1).val; omega
    | 2 => rfl

end Cert.KernelIdeal.MlpCall

end
-- ==== Proof.MainIdeal.lean ====
/-
  The program's run: @main on the TensorCore, step by step.  The state between the steps is one valuation of the core's
  unscoped buffers: a host operation rewrites its result, a TensorCore call its result array, the SparseCore call the rows.
-/
module

public import proofs.«01_k».proof.Proof.GatherCallIdeal
public import proofs.«01_k».proof.Proof.FpsCallIdeal
public import proofs.«01_k».proof.Proof.GCallIdeal
public import proofs.«01_k».proof.Proof.MlpCallIdeal

@[expose] public section

noncomputable section

namespace Cert.KernelIdeal.Run

open Cert.KernelIdeal Cert.KernelIdeal.Gen Cert.KernelIdeal.ScGather Cert.KernelIdeal.Regions

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within devRef_ne_of_ne)
open Idealize.ShloMosaic.Pipeline (Dat BodyObligation ucRefs unscopedBufs_held cellsGhost toksInit)

variable {F : FTy → Type} [FloatOps F]

local notation "𝕄" => MT nD τ sig (HIx 1) (Elt F) ℕ UU ℕ

/-- A buffer of the core, as a device's. -/
abbrev dr (b : Ref sig .tc) : DevRef τ sig := Proc.devRef .tc b

/-! ## The host operations -/

abbrev opa : HloOp τ sig (Elt F) := StableHlo.unary main_arg0 main_v0 ((transpose S8x3x4096 [0, 2, 1] · transposes_S8x4096x3_S8x3x4096_0_2_1) : (⟨S8x4096x3, .f32⟩ : BufTy).Contents (Elt F) → (⟨S8x3x4096, .f32⟩ : BufTy).Contents (Elt F))
abbrev opb : HloOp τ sig (Elt F) := StableHlo.unary main_arg1 main_v1 ((transpose S8x3x4096 [0, 2, 1] · transposes_S8x4096x3_S8x3x4096_0_2_1) : (⟨S8x4096x3, .f32⟩ : BufTy).Contents (Elt F) → (⟨S8x3x4096, .f32⟩ : BufTy).Contents (Elt F))
abbrev opc : HloOp τ sig (Elt F) := StableHlo.unary main_v2 main_v3 ((transpose S8x1024x6 [1, 0, 2] · transposes_S1024x8x6_S8x1024x6_1_0_2) : (⟨S1024x8x6, .f32⟩ : BufTy).Contents (Elt F) → (⟨S8x1024x6, .f32⟩ : BufTy).Contents (Elt F))
abbrev opd : HloOp τ sig (Elt F) := StableHlo.unary main_v3 main_v4 ((extractStridedSlice S8x1024x3 ![0, 0, 0] · slices_S8x1024x6_S8x1024x3_0_0_0) : (⟨S8x1024x6, .f32⟩ : BufTy).Contents (Elt F) → (⟨S8x1024x3, .f32⟩ : BufTy).Contents (Elt F))
abbrev ope : HloOp τ sig (Elt F) := StableHlo.unary main_v3 main_v5 ((extractStridedSlice S8x1024x3 ![0, 0, 3] · slices_S8x1024x6_S8x1024x3_0_0_3) : (⟨S8x1024x6, .f32⟩ : BufTy).Contents (Elt F) → (⟨S8x1024x3, .f32⟩ : BufTy).Contents (Elt F))
abbrev op0 : HloOp τ sig (Elt F) := StableHlo.binary main_arg0 main_arg3 main_v6 ((fun a b => concatenate S8x4096x67 2 [⟨S8x4096x3, a⟩, ⟨S8x4096x64, b⟩] concatenates_S8x4096x3_S8x4096x64_S8x4096x67_d2) : (⟨S8x4096x3, .f32⟩ : BufTy).Contents (Elt F) → (⟨S8x4096x64, .f32⟩ : BufTy).Contents (Elt F) → (⟨S8x4096x67, .f32⟩ : BufTy).Contents (Elt F))
abbrev op1 : HloOp τ sig (Elt F) := StableHlo.unary main_arg4 main_v7 ((extractStridedSlice S67x128 ![0, 0] · slices_S70x128_S67x128_0_0) : (⟨S70x128, .f32⟩ : BufTy).Contents (Elt F) → (⟨S67x128, .f32⟩ : BufTy).Contents (Elt F))
abbrev op3 : HloOp τ sig (Elt F) := StableHlo.reshape main_v8 main_v9 (rfl : (.f32 : EltTy) = .f32) shapeCasts_S8x4096x128_S32768x128
abbrev op4 : HloOp τ sig (Elt F) := StableHlo.reshape main_arg2 main_v10 (rfl : (.i32 : EltTy) = .i32) shapeCasts_S8x8x32x128_S262144
abbrev op6 : HloOp τ sig (Elt F) := StableHlo.reshape main_v11 main_v12 (rfl : (.f32 : EltTy) = .f32) shapeCasts_S262144x128_S8x8x4096x128
abbrev op7 : HloOp τ sig (Elt F) := StableHlo.unary main_arg4 main_v13 ((extractStridedSlice S3x128 ![0, 0] · slices_S70x128_S3x128_0_0) : (⟨S70x128, .f32⟩ : BufTy).Contents (Elt F) → (⟨S3x128, .f32⟩ : BufTy).Contents (Elt F))
abbrev op8 : HloOp τ sig (Elt F) := StableHlo.unary main_arg4 main_v14 ((extractStridedSlice S3x128 ![67, 0] · slices_S70x128_S3x128_67_0) : (⟨S70x128, .f32⟩ : BufTy).Contents (Elt F) → (⟨S3x128, .f32⟩ : BufTy).Contents (Elt F))
abbrev op9 : HloOp τ sig (Elt F) := StableHlo.reshape main_arg5 main_v15 (rfl : (.f32 : EltTy) = .f32) shapeCasts_S128_S1x128
abbrev op10 : HloOp τ sig (Elt F) := StableHlo.reshape main_arg7 main_v16 (rfl : (.f32 : EltTy) = .f32) shapeCasts_S128_S1x128
abbrev op11 : HloOp τ sig (Elt F) := StableHlo.reshape main_arg9 main_v17 (rfl : (.f32 : EltTy) = .f32) shapeCasts_S256_S1x256
abbrev op13 : HloOp τ sig (Elt F) := StableHlo.unary main_v18 main_v19 ((transpose S8x256x1024 [0, 2, 1] · transposes_S8x1024x256_S8x256x1024_0_2_1) : (⟨S8x1024x256, .f32⟩ : BufTy).Contents (Elt F) → (⟨S8x256x1024, .f32⟩ : BufTy).Contents (Elt F))

/-! ## The valuations between the steps -/

variable (m : (ℓ : Loc nD τ sig) → Buf (Elt F) ℓ) (ρ : Dev nD → PrngReg)

/-- At launch; before the sampling call; after it; its two results cut out. -/
def W0 (d : Dev nD) : Valuation τ sig (Elt F) := fun b => m (d, b)
def Wa (d : Dev nD) : Valuation τ sig (Elt F) := (opb (F := F)).result ((opa (F := F)).result (W0 m d))
def Wb (d : Dev nD) : Valuation τ sig (Elt F) :=
  Function.update (Wa m d) (dr main_v2) (FpsCall.rows (Wa m d (dr main_v0)) (Wa m d (dr main_v1)))
def Wc (d : Dev nD) : Valuation τ sig (Elt F) := (ope (F := F)).result ((opd (F := F)).result ((opc (F := F)).result (Wb m d)))
/-- Before the table's call; after it. -/
def W2 (d : Dev nD) : Valuation τ sig (Elt F) := (op1 (F := F)).result ((op0 (F := F)).result (Wc m d))
def W3 (d : Dev nD) : Valuation τ sig (Elt F) :=
  Function.update (W2 m d) (dr main_v8) (GCall.out (W2 m d (dr main_v6)) (W2 m d (dr main_v7)))
/-- Before the SparseCore call; after it. -/
def W5 (d : Dev nD) : Valuation τ sig (Elt F) := (op4 (F := F)).result ((op3 (F := F)).result (W3 m d))
def W6 (d : Dev nD) : Valuation τ sig (Elt F) :=
  Function.update (W5 m d) (dr main_v11) (gathered (W5 m d (dr main_v9)) (W5 m d (dr main_v10)))
/-- Before the last TensorCore call; after it; at the end. -/
def W12 (d : Dev nD) : Valuation τ sig (Elt F) :=
  (op11 (F := F)).result ((op10 (F := F)).result ((op9 (F := F)).result ((op8 (F := F)).result ((op7 (F := F)).result ((op6 (F := F)).result (W6 m d))))))
def W13 (d : Dev nD) : Valuation τ sig (Elt F) :=
  Function.update (W12 m d) (dr main_v18) (MlpCall.out (W12 m d (dr main_v12)) (W12 m d (dr main_v4)) (W12 m d (dr main_v5))
    (W12 m d (dr main_v13)) (W12 m d (dr main_v14)) (W12 m d (dr main_v15)) (W12 m d (dr main_arg6)) (W12 m d (dr main_v16))
    (W12 m d (dr main_arg8)) (W12 m d (dr main_v17)))
def W14 (d : Dev nD) : Valuation τ sig (Elt F) := (op13 (F := F)).result (W13 m d)

/-- A valuation at the core's buffers. -/
abbrev onTc (W : Dev nD → Valuation τ sig (Elt F)) (c : Dev nD) (b : Ref sig .tc) : Buf (Elt F) ((c : Thread nD τ).loc b) := W c (dr b)

theorem Wb_self (d : Dev nD) : onTc (Wb m) d main_v2 = FpsCall.rows (onTc (Wa m) d main_v0) (onTc (Wa m) d main_v1) :=
  Function.update_self (dr main_v2) _ (Wa m d)
theorem Wb_of (d : Dev nD) {b : Ref sig .tc} (h : b ≠ main_v2) : onTc (Wb m) d b = onTc (Wa m) d b :=
  Function.update_of_ne (devRef_ne_of_ne h) _ (Wa m d)
theorem W3_self (d : Dev nD) : onTc (W3 m) d main_v8 = GCall.out (onTc (W2 m) d main_v6) (onTc (W2 m) d main_v7) :=
  Function.update_self (dr main_v8) _ (W2 m d)
theorem W3_of (d : Dev nD) {b : Ref sig .tc} (h : b ≠ main_v8) : onTc (W3 m) d b = onTc (W2 m) d b :=
  Function.update_of_ne (devRef_ne_of_ne h) _ (W2 m d)
theorem W6_self (d : Dev nD) : onTc (W6 m) d main_v11 = gathered (onTc (W5 m) d main_v9) (onTc (W5 m) d main_v10) :=
  Function.update_self (dr main_v11) _ (W5 m d)
theorem W6_of (d : Dev nD) {b : Ref sig .tc} (h : b ≠ main_v11) : onTc (W6 m) d b = onTc (W5 m) d b :=
  Function.update_of_ne (devRef_ne_of_ne h) _ (W5 m d)
theorem W13_self (d : Dev nD) : onTc (W13 m) d main_v18 = MlpCall.out (onTc (W12 m) d main_v12) (onTc (W12 m) d main_v4) (onTc (W12 m) d main_v5)
    (onTc (W12 m) d main_v13) (onTc (W12 m) d main_v14) (onTc (W12 m) d main_v15) (onTc (W12 m) d main_arg6) (onTc (W12 m) d main_v16)
    (onTc (W12 m) d main_arg8) (onTc (W12 m) d main_v17) :=
  Function.update_self (dr main_v18) _ (W12 m d)
theorem W13_of (d : Dev nD) {b : Ref sig .tc} (h : b ≠ main_v18) : onTc (W13 m) d b = onTc (W12 m) d b :=
  Function.update_of_ne (devRef_ne_of_ne h) _ (W12 m d)

/-! ## The three calls as regions -/

/-- The proof data of the three calls. -/
def dats : Dats (F := F) := fun p c => match p with
  | 0 => FpsCall.dat (onTc (Wa m)) c
  | 1 => GCall.dat (onTc (W2 m)) c
  | 2 => MlpCall.dat (onTc (W12 m)) c

set_option maxRecDepth 16384 in
def regF [∀ e, Nonempty (Elt F e)] : Pipeline.RegionSeg (pcfgs (F := F)) adm (dats m) none defs₀ 𝒱₀ (K (F := F)).L (K (F := F)).lev 0 :=
  reg 0 (dats m) 0 (onTc (Wa m)) (onTc (Wb m)) launch0 (fun _ _ => rfl) (fun _ _ => rfl) (fun _ _ => rfl) (fun _ _ => rfl) (fun _ _ => rfl)
    (fun c => FpsCall.body_obligation (onTc (Wa m)) c)
    (fun c w => match w with
      | 0 => ((FpsCall.dat (onTc (Wa m)) c).arrAt_in 0 rfl _).trans (Wb_of m c (b := main_v0) (by decide)).symm
      | 1 => ((FpsCall.dat (onTc (Wa m)) c).arrAt_in 1 rfl _).trans (Wb_of m c (b := main_v1) (by decide)).symm
      | 2 => (FpsCall.final (onTc (Wa m)) c).trans (Wb_self m c).symm)
    (fun c b hb => Wb_of m c fun e => hb (Finset.mem_image.mpr ⟨2, Finset.mem_univ _, e.symm⟩))

set_option maxRecDepth 16384 in
def regG [∀ e, Nonempty (Elt F e)] : Pipeline.RegionSeg (pcfgs (F := F)) adm (dats m) none defs₀ 𝒱₀ (K (F := F)).L (K (F := F)).lev 1 :=
  reg 0 (dats m) 1 (onTc (W2 m)) (onTc (W3 m)) launch1 (fun _ _ => rfl) (fun _ _ => rfl) (fun _ _ => rfl) (fun _ _ => rfl) (fun _ _ => rfl)
    (fun c => GCall.body_obligation (onTc (W2 m)) c)
    (fun c w => match w with
      | 0 => ((GCall.dat (onTc (W2 m)) c).arrAt_in 0 rfl _).trans (W3_of m c (b := main_v6) (by decide)).symm
      | 1 => ((GCall.dat (onTc (W2 m)) c).arrAt_in 1 rfl _).trans (W3_of m c (b := main_v7) (by decide)).symm
      | 2 => (GCall.final (onTc (W2 m)) c).trans (W3_self m c).symm)
    (fun c b hb => W3_of m c fun e => hb (Finset.mem_image.mpr ⟨2, Finset.mem_univ _, e.symm⟩))

set_option maxRecDepth 16384 in
def regM [∀ e, Nonempty (Elt F e)] : Pipeline.RegionSeg (pcfgs (F := F)) adm (dats m) none defs₀ 𝒱₀ (K (F := F)).L (K (F := F)).lev 2 :=
  reg 1 (dats m) 2 (onTc (W12 m)) (onTc (W13 m)) launch3 (fun _ _ => rfl) (fun _ _ => rfl) (fun _ _ => rfl) (fun _ _ => rfl) (fun _ _ => rfl)
    (fun c => MlpCall.body_obligation (onTc (W12 m)) c)
    (fun c w => match w with
      | 0 => ((MlpCall.dat (onTc (W12 m)) c).arrAt_in 0 rfl _).trans (W13_of m c (b := main_v12) (by decide)).symm
      | 1 => ((MlpCall.dat (onTc (W12 m)) c).arrAt_in 1 rfl _).trans (W13_of m c (b := main_v4) (by decide)).symm
      | 2 => ((MlpCall.dat (onTc (W12 m)) c).arrAt_in 2 rfl _).trans (W13_of m c (b := main_v5) (by decide)).symm
      | 3 => ((MlpCall.dat (onTc (W12 m)) c).arrAt_in 3 rfl _).trans (W13_of m c (b := main_v13) (by decide)).symm
      | 4 => ((MlpCall.dat (onTc (W12 m)) c).arrAt_in 4 rfl _).trans (W13_of m c (b := main_v14) (by decide)).symm
      | 5 => ((MlpCall.dat (onTc (W12 m)) c).arrAt_in 5 rfl _).trans (W13_of m c (b := main_v15) (by decide)).symm
      | 6 => ((MlpCall.dat (onTc (W12 m)) c).arrAt_in 6 rfl _).trans (W13_of m c (b := main_arg6) (by decide)).symm
      | 7 => ((MlpCall.dat (onTc (W12 m)) c).arrAt_in 7 rfl _).trans (W13_of m c (b := main_v16) (by decide)).symm
      | 8 => ((MlpCall.dat (onTc (W12 m)) c).arrAt_in 8 rfl _).trans (W13_of m c (b := main_arg8) (by decide)).symm
      | 9 => ((MlpCall.dat (onTc (W12 m)) c).arrAt_in 9 rfl _).trans (W13_of m c (b := main_v17) (by decide)).symm
      | 10 => (MlpCall.final (onTc (W12 m)) c).trans (W13_self m c).symm)
    (fun c b hb => W13_of m c fun e => hb (Finset.mem_image.mpr ⟨10, Finset.mem_univ _, e.symm⟩))

/-- A call's ghost state on a device. -/
abbrev ghost (p : Fin 3) (d : Dev nD) : sProp 𝕄 :=
  iprop(cellsGhost (Pipeline.pin (pcfgs (F := F)) adm) EP p d ∗ toksInit (Pipeline.pin (pcfgs (F := F)) adm) EP p d)

/-- A region as one step of @main beside the SparseCore call. -/
theorem region_step [∀ e, Nonempty (Elt F e)] {p : Fin 3} (pd : Dats (F := F))
    (R : Pipeline.RegionSeg (pcfgs (F := F)) adm pd none defs₀ 𝒱₀ (K (F := F)).L (K (F := F)).lev p) (d : Dev nD) (Q : PUnit → sProp 𝕄) :
    iprop(boundary (T d) ∗ R.pre d ∗ levAts (K (F := F)).L (K (F := F)).lev ∗ ghost p d ∗ (iprop(boundary (T d) ∗ R.post d) -∗ Q ⟨⟩))
      ⊢ wp frame (wpE ((K (F := F)).defs (D (F := F))) 𝒱 (T d) none) Set.univ
          (Prog.lift (.customCall (SparseCore.inner (Pipeline.entry p)) ())) Q := by
  iintro ⟨Hb, Hpre, Hlev, ⟨Hg, Ht⟩, Hk⟩
  iapply ((K (F := F)).wp_liftProg (D (F := F)) 𝒱 (T d) Set.univ none (Prog.lift (.customCall (Pipeline.entry p) ())) Q)
  iapply (R.wp pcfgs adm pd none cellOf_inj EP defs₀ 𝒱₀ (K (F := F)).L (K (F := F)).lev d none (fun _ h => nomatch h) .ret Q)
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-! ## The launch's own ghost state -/

def u₀ : UU := (initOf (K (F := F)).hsCells (K (F := F)).hsToks, (initOf (Pipeline.cells cfgs cellOf_inj) (Pipeline.launchToks cfgs cellOf_inj), 1))

theorem ownU_split (a : UH) (b : UR sig nD τ) : (ownU ((a, (b, 1)) : UU) : sProp 𝕄) ⊢ iprop(BI.own (EH a) ∗ BI.own (EP (F := F) b)) := by
  refine (ownU_pair a (b, (1 : Counters))).trans (sep_mono_right ?_)
  exact (own_pair_emb (embR : Emb (UR sig nD τ × Counters) 𝕄) b (1 : Counters)).trans sep_elim_left

/-- What the launch hands @main on a device: the three calls' ghost state. -/
abbrev G (d : Dev nD) : sProp 𝕄 := iprop(ghost 0 d ∗ ghost 1 d ∗ ghost 2 d)

theorem bigSep_three (Φ : Fin 3 → sProp 𝕄) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- Three and three, paired one by one. -/
theorem sep_deal (a b c x y z : sProp 𝕄) : iprop((a ∗ b ∗ c) ∗ (x ∗ y ∗ z)) ⊢ iprop((a ∗ x) ∗ (b ∗ y) ∗ (c ∗ z)) := by
  iintro ⟨⟨Ha, Hb, Hc⟩, Hx, Hy, Hz⟩
  isplitl [Ha Hx]
  · isplitl [Ha] <;> iassumption
  isplitl [Hb Hy]
  · isplitl [Hb] <;> iassumption
  isplitl [Hc] <;> iassumption

theorem deal : iprop((bigSep Finset.univ fun d : Dev nD => bigSep Finset.univ fun p : Fin 3 => cellsGhost (Pipeline.pin (pcfgs (F := F)) adm) EP p d)
      ∗ bigSep Finset.univ fun d : Dev nD => bigSep Finset.univ fun p : Fin 3 => toksInit (Pipeline.pin (pcfgs (F := F)) adm) EP p d)
    ⊢ (bigSep Finset.univ fun d : Dev nD => G d : sProp 𝕄) := by
  rw [← bigSep_sep']
  refine bigSep_mono fun d _ => ?_
  rw [bigSep_three, bigSep_three]
  exact sep_deal _ _ _ _ _ _

theorem hu₀ (X : (d : Dev nD) → Buf (Elt F) (xLoc d)) (I : (d : Dev nD) → Buf (Elt F) (iLoc d)) (fo : (d : Dev nD) → Buf (Elt F) (oLoc d)) :
    (ownU (u₀ (F := F)) : sProp 𝕄)
      ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X I fo).x q thr) := by
  unfold u₀
  iintro Hu
  ihave H := (ownU_split (F := F) _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · iapply (deal (F := F)); isplitl [Hg] <;> iassumption
  rw [show (bigSep Finset.univ fun thr : Thread nD τ => bigSep Finset.univ fun q : Fin 1 => (P X I fo).x q thr) = bigSep Finset.univ fun _ => iprop(emp) from
    bigSep_congr fun _ _ => bigSep_univ_of_subsingleton (0 : Fin 1), bigSep_emp']
  iempintro

/-! ## @main on the TensorCore -/

/-- The core's unscoped buffers at a valuation. -/
abbrev hold (d : Dev nD) (W : Valuation τ sig (Elt F)) : sProp 𝕄 := held (T d) (ucRefs τ sig) W

theorem mem_uc {b : Ref sig .tc} (h : b.isScoped = false) : dr b ∈ ucRefs τ sig :=
  Finset.mem_filter.mpr ⟨StableHlo.devRef_mem_tcRefs _, fun h' => Bool.false_ne_true (h.symm.trans h')⟩

theorem hSa : (opa (F := F)).bufs ⊆ ucRefs τ sig := by
  show ({dr main_arg0, dr main_v0} : Finset (DevRef τ sig)) ⊆ _
  simp only [Finset.insert_subset_iff, Finset.singleton_subset_iff]
  exact ⟨mem_uc rfl, mem_uc rfl⟩

theorem hSb : (opb (F := F)).bufs ⊆ ucRefs τ sig := by
  show ({dr main_arg1, dr main_v1} : Finset (DevRef τ sig)) ⊆ _
  simp only [Finset.insert_subset_iff, Finset.singleton_subset_iff]
  exact ⟨mem_uc rfl, mem_uc rfl⟩

theorem hSc : (opc (F := F)).bufs ⊆ ucRefs τ sig := by
  show ({dr main_v2, dr main_v3} : Finset (DevRef τ sig)) ⊆ _
  simp only [Finset.insert_subset_iff, Finset.singleton_subset_iff]
  exact ⟨mem_uc rfl, mem_uc rfl⟩

theorem hSd : (opd (F := F)).bufs ⊆ ucRefs τ sig := by
  show ({dr main_v3, dr main_v4} : Finset (DevRef τ sig)) ⊆ _
  simp only [Finset.insert_subset_iff, Finset.singleton_subset_iff]
  exact ⟨mem_uc rfl, mem_uc rfl⟩

theorem hSe : (ope (F := F)).bufs ⊆ ucRefs τ sig := by
  show ({dr main_v3, dr main_v5} : Finset (DevRef τ sig)) ⊆ _
  simp only [Finset.insert_subset_iff, Finset.singleton_subset_iff]
  exact ⟨mem_uc rfl, mem_uc rfl⟩

theorem hS0 : (op0 (F := F)).bufs ⊆ ucRefs τ sig := by
  show ({dr main_arg0, dr main_arg3, dr main_v6} : Finset (DevRef τ sig)) ⊆ _
  simp only [Finset.insert_subset_iff, Finset.singleton_subset_iff]
  exact ⟨mem_uc rfl, mem_uc rfl, mem_uc rfl⟩

theorem hS1 : (op1 (F := F)).bufs ⊆ ucRefs τ sig := by
  show ({dr main_arg4, dr main_v7} : Finset (DevRef τ sig)) ⊆ _
  simp only [Finset.insert_subset_iff, Finset.singleton_subset_iff]
  exact ⟨mem_uc rfl, mem_uc rfl⟩

theorem hS3 : (op3 (F := F)).bufs ⊆ ucRefs τ sig := by
  show ({dr main_v8, dr main_v9} : Finset (DevRef τ sig)) ⊆ _
  simp only [Finset.insert_subset_iff, Finset.singleton_subset_iff]
  exact ⟨mem_uc rfl, mem_uc rfl⟩

theorem hS4 : (op4 (F := F)).bufs ⊆ ucRefs τ sig := by
  show ({dr main_arg2, dr main_v10} : Finset (DevRef τ sig)) ⊆ _
  simp only [Finset.insert_subset_iff, Finset.singleton_subset_iff]
  exact ⟨mem_uc rfl, mem_uc rfl⟩

theorem hS6 : (op6 (F := F)).bufs ⊆ ucRefs τ sig := by
  show ({dr main_v11, dr main_v12} : Finset (DevRef τ sig)) ⊆ _
  simp only [Finset.insert_subset_iff, Finset.singleton_subset_iff]
  exact ⟨mem_uc rfl, mem_uc rfl⟩

theorem hS7 : (op7 (F := F)).bufs ⊆ ucRefs τ sig := by
  show ({dr main_arg4, dr main_v13} : Finset (DevRef τ sig)) ⊆ _
  simp only [Finset.insert_subset_iff, Finset.singleton_subset_iff]
  exact ⟨mem_uc rfl, mem_uc rfl⟩

theorem hS8 : (op8 (F := F)).bufs ⊆ ucRefs τ sig := by
  show ({dr main_arg4, dr main_v14} : Finset (DevRef τ sig)) ⊆ _
  simp only [Finset.insert_subset_iff, Finset.singleton_subset_iff]
  exact ⟨mem_uc rfl, mem_uc rfl⟩

theorem hS9 : (op9 (F := F)).bufs ⊆ ucRefs τ sig := by
  show ({dr main_arg5, dr main_v15} : Finset (DevRef τ sig)) ⊆ _
  simp only [Finset.insert_subset_iff, Finset.singleton_subset_iff]
  exact ⟨mem_uc rfl, mem_uc rfl⟩

theorem hS10 : (op10 (F := F)).bufs ⊆ ucRefs τ sig := by
  show ({dr main_arg7, dr main_v16} : Finset (DevRef τ sig)) ⊆ _
  simp only [Finset.insert_subset_iff, Finset.singleton_subset_iff]
  exact ⟨mem_uc rfl, mem_uc rfl⟩

theorem hS11 : (op11 (F := F)).bufs ⊆ ucRefs τ sig := by
  show ({dr main_arg9, dr main_v17} : Finset (DevRef τ sig)) ⊆ _
  simp only [Finset.insert_subset_iff, Finset.singleton_subset_iff]
  exact ⟨mem_uc rfl, mem_uc rfl⟩

theorem hS13 : (op13 (F := F)).bufs ⊆ ucRefs τ sig := by
  show ({dr main_v18, dr main_v19} : Finset (DevRef τ sig)) ⊆ _
  simp only [Finset.insert_subset_iff, Finset.singleton_subset_iff]
  exact ⟨mem_uc rfl, mem_uc rfl⟩

/-- The three buffers of the SparseCore call. -/
abbrev callRefs : Finset (DevRef τ sig) := {dr main_v9, dr main_v10, dr main_v11}

theorem held_call (d : Dev nD) (W : Valuation τ sig (Elt F)) :
    (held (T d) callRefs W : sProp 𝕄)
      = iprop((xLoc d ↦{fullShare} W (dr main_v9)) ∗ (iLoc d ↦{fullShare} W (dr main_v10)) ∗ oLoc d ↦{fullShare} W (dr main_v11)) := by
  unfold held callRefs
  rw [SparseCore.bigSep_insert' (by decide), SparseCore.bigSep_insert' (by decide), bigSep_singleton]

theorem call_sub : callRefs ⊆ ucRefs τ sig := by
  unfold callRefs
  simp only [Finset.insert_subset_iff, Finset.singleton_subset_iff]
  exact ⟨mem_uc rfl, mem_uc rfl, mem_uc rfl⟩

/-- Before the call: its three buffers apart. -/
theorem hold_split (d : Dev nD) : (hold d (W5 m d) : sProp 𝕄)
    = iprop(((xLoc d ↦{fullShare} onTc (W5 m) d main_v9) ∗ (iLoc d ↦{fullShare} onTc (W5 m) d main_v10) ∗ oLoc d ↦{fullShare} onTc (W5 m) d main_v11)
        ∗ held (T d) (ucRefs τ sig \ callRefs) (W5 m d)) := by
  unfold hold
  rw [StableHlo.held_sub_split (T d) call_sub, held_call]

/-- After it: together again, the output at the gathered rows. -/
theorem hold_join (d : Dev nD) : (hold d (W6 m d) : sProp 𝕄)
    = iprop(((xLoc d ↦{fullShare} onTc (W5 m) d main_v9) ∗ (iLoc d ↦{fullShare} onTc (W5 m) d main_v10)
          ∗ oLoc d ↦{fullShare} gathered (onTc (W5 m) d main_v9) (onTc (W5 m) d main_v10))
        ∗ held (T d) (ucRefs τ sig \ callRefs) (W5 m d)) := by
  have h3 : W6 m d (dr main_v9) = W5 m d (dr main_v9) := W6_of m d (b := main_v9) (by decide)
  have h4 : W6 m d (dr main_v10) = W5 m d (dr main_v10) := W6_of m d (b := main_v10) (by decide)
  have h5 : W6 m d (dr main_v11) = gathered (onTc (W5 m) d main_v9) (onTc (W5 m) d main_v10) := W6_self m d
  have hr : ∀ b ∈ ucRefs τ sig \ callRefs, W6 m d b = W5 m d b := fun b hb =>
    Function.update_of_ne (fun e : b = dr main_v11 => (Finset.mem_sdiff.mp hb).2 (by rw [e]; decide)) _ (W5 m d)
  unfold hold
  rw [StableHlo.held_sub_split (T d) call_sub, held_call, h3, h4, h5, StableHlo.held_congr (T d) hr]

/-- What the proof asks of the launch memory: every entry of the list names a row of the table. -/
def PreOK : Prop := ∀ d : Dev nD, InRows (onTc (W5 m) d main_v10)

/-- What the core holds towards SparseCore call `n` besides what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n : ℕ) : ((K (F := F)).tcSt EH d n : sProp 𝕄) = iprop(owing n d ∗ tcRest d n) := rfl

theorem hmain [∀ e, Nonempty (Elt F e)] (κ : GSem nD τ sig → ℕ) (d : Dev nD) :
    iprop((K (F := F)).ctx EH (P (fun d => onTc (W5 m) d main_v9) (fun d => onTc (W5 m) d main_v10) (fun d => onTc (W5 m) d main_v11)) κ
        ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ hold d (W14 m d) ∗ (K (F := F)).tcEnd d) := by
  unfold SparseCore.Cfg.tcRes SparseCore.Cfg.tcEnd
  rw [show (unscopedBufs d (fun b => m ((SparseCore.T d).loc b)) : sProp 𝕄) = hold d (W0 m d) from unscopedBufs_held d (W0 m d)]
  simp only [main, wp_bind, wp_pure]
  iintro ⟨#Hctx, Hst, ⟨Hb, Hheld, Hts, -⟩, Hg0, Hg1, Hg2⟩
  iapply (wp_hlo_within 𝒱 (SparseCore.T d) none Set.univ (op := opa) (S := ucRefs τ sig) hSa (V := W0 m d)) $$ [Hb Hheld]
  · isplitl [Hb] <;> iassumption
  iintro ⟨Hb, Hheld⟩
  rw [wp_ret]; imodintro
  iapply (wp_hlo_within 𝒱 (SparseCore.T d) none Set.univ (op := opb) (S := ucRefs τ sig) hSb (V := (opa (F := F)).result (W0 m d))) $$ [Hb Hheld]
  · isplitl [Hb] <;> iassumption
  iintro ⟨Hb, Hheld⟩
  rw [wp_ret]; imodintro
  ihave Hub := (Entails.of_eq (show (hold d ((opb (F := F)).result ((opa (F := F)).result (W0 m d))) : sProp 𝕄) = unscopedBufs d (onTc (Wa m) d) from (unscopedBufs_held d (Wa m d)).symm)) $$ Hheld
  ihave Hlev := (SparseCore.Cfg.ctx_levAts (K := K (F := F)) κ) $$ Hctx
  ihave Hst' := (Entails.of_eq (show ((K (F := F)).tcSt EH d 0 : sProp 𝕄) = iprop(owing 0 d ∗ tcRest d 0) from tcSt_eq d 0)) $$ Hst
  icases Hst' with ⟨HO, Hst⟩
  iapply (region_step (dats m) (regF m) d _) $$ [Hb Hub Hlev HO Hg0 Hst Hts Hg1 Hg2]
  isplitl [Hb]; · iexact Hb
  isplitl [Hub HO]
  · iapply (Entails.of_eq (show (iprop(unscopedBufs d (onTc (Wa m) d) ∗ owing 0 d) : sProp 𝕄) = (regF m).pre d from rfl))
    isplitl [Hub]; · iexact Hub
    iexact HO
  isplitl [Hlev]; · iexact Hlev
  isplitl [Hg0]; · iexact Hg0
  iintro ⟨Hb, Hp⟩
  ihave Hp' := (Entails.of_eq (show (regF m).post d = (iprop(unscopedBufs d (onTc (Wb m) d) ∗ owing 0 d) : sProp 𝕄) from rfl)) $$ Hp
  icases Hp' with ⟨Hub, HO⟩
  ihave Hheld := (Entails.of_eq (show (unscopedBufs d (onTc (Wb m) d) : sProp 𝕄) = hold d (Wb m d) from unscopedBufs_held d (Wb m d))) $$ Hub
  iapply (wp_hlo_within 𝒱 (SparseCore.T d) none Set.univ (op := opc) (S := ucRefs τ sig) hSc (V := Wb m d)) $$ [Hb Hheld]
  · isplitl [Hb] <;> iassumption
  iintro ⟨Hb, Hheld⟩
  rw [wp_ret]; imodintro
  iapply (wp_hlo_within 𝒱 (SparseCore.T d) none Set.univ (op := opd) (S := ucRefs τ sig) hSd (V := (opc (F := F)).result (Wb m d))) $$ [Hb Hheld]
  · isplitl [Hb] <;> iassumption
  iintro ⟨Hb, Hheld⟩
  rw [wp_ret]; imodintro
  iapply (wp_hlo_within 𝒱 (SparseCore.T d) none Set.univ (op := ope) (S := ucRefs τ sig) hSe (V := (opd (F := F)).result ((opc (F := F)).result (Wb m d)))) $$ [Hb Hheld]
  · isplitl [Hb] <;> iassumption
  iintro ⟨Hb, Hheld⟩
  rw [wp_ret]; imodintro
  ihave Hheld := (Entails.of_eq (show (hold d ((ope (F := F)).result ((opd (F := F)).result ((opc (F := F)).result (Wb m d)))) : sProp 𝕄) = hold d (Wc m d) from rfl)) $$ Hheld
  iapply (wp_hlo_within 𝒱 (SparseCore.T d) none Set.univ (op := op0) (S := ucRefs τ sig) hS0 (V := Wc m d)) $$ [Hb Hheld]
  · isplitl [Hb] <;> iassumption
  iintro ⟨Hb, Hheld⟩
  rw [wp_ret]; imodintro
  iapply (wp_hlo_within 𝒱 (SparseCore.T d) none Set.univ (op := op1) (S := ucRefs τ sig) hS1 (V := (op0 (F := F)).result (Wc m d))) $$ [Hb Hheld]
  · isplitl [Hb] <;> iassumption
  iintro ⟨Hb, Hheld⟩
  rw [wp_ret]; imodintro
  ihave Hub := (Entails.of_eq (show (hold d ((op1 (F := F)).result ((op0 (F := F)).result (Wc m d))) : sProp 𝕄) = unscopedBufs d (onTc (W2 m) d) from (unscopedBufs_held d (W2 m d)).symm)) $$ Hheld
  ihave Hlev := (SparseCore.Cfg.ctx_levAts (K := K (F := F)) κ) $$ Hctx
  iapply (region_step (dats m) (regG m) d _) $$ [Hb Hub Hlev HO Hg1 Hst Hts Hg2]
  isplitl [Hb]; · iexact Hb
  isplitl [Hub HO]
  · iapply (Entails.of_eq (show (iprop(unscopedBufs d (onTc (W2 m) d) ∗ owing 0 d) : sProp 𝕄) = (regG m).pre d from rfl))
    isplitl [Hub]; · iexact Hub
    iexact HO
  isplitl [Hlev]; · iexact Hlev
  isplitl [Hg1]; · iexact Hg1
  iintro ⟨Hb, Hp⟩
  ihave Hp' := (Entails.of_eq (show (regG m).post d = (iprop(unscopedBufs d (onTc (W3 m) d) ∗ owing 0 d) : sProp 𝕄) from rfl)) $$ Hp
  icases Hp' with ⟨Hub, HO⟩
  ihave Hheld := (Entails.of_eq (show (unscopedBufs d (onTc (W3 m) d) : sProp 𝕄) = hold d (W3 m d) from unscopedBufs_held d (W3 m d))) $$ Hub
  iapply (wp_hlo_within 𝒱 (SparseCore.T d) none Set.univ (op := op3) (S := ucRefs τ sig) hS3 (V := W3 m d)) $$ [Hb Hheld]
  · isplitl [Hb] <;> iassumption
  iintro ⟨Hb, Hheld⟩
  rw [wp_ret]; imodintro
  iapply (wp_hlo_within 𝒱 (SparseCore.T d) none Set.univ (op := op4) (S := ucRefs τ sig) hS4 (V := (op3 (F := F)).result (W3 m d))) $$ [Hb Hheld]
  · isplitl [Hb] <;> iassumption
  iintro ⟨Hb, Hheld⟩
  rw [wp_ret]; imodintro
  ihave Hh := (Entails.of_eq (show (hold d ((op4 (F := F)).result ((op3 (F := F)).result (W3 m d))) : sProp 𝕄) = _ from hold_split m d)) $$ Hheld
  icases Hh with ⟨⟨Hx, Hi, Ho⟩, Hrest⟩
  iapply ((K (F := F)).wp_run (D (F := F)) 𝒱 (EH := EH)
    (P := P (fun d => onTc (W5 m) d main_v9) (fun d => onTc (W5 m) d main_v10) (fun d => onTc (W5 m) d main_v11)) κ d 0) $$ [HO Hst Hx Hi Ho Hrest Hb Hts Hg2]
  isplitr; · iexact Hctx
  isplitl [HO Hst]
  · iapply (Entails.of_eq (tcSt_eq d 0).symm)
    isplitl [HO]; · iexact HO
    iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq (fun d => onTc (W5 m) d main_v9) (fun d => onTc (W5 m) d main_v10) (fun d => onTc (W5 m) d main_v11) d)) $$ Hdn
  ihave Hheld := (Entails.of_eq (hold_join m d).symm) $$ [Hdn' Hrest]
  · isplitl [Hdn'] <;> iassumption
  iapply (wp_hlo_within 𝒱 (SparseCore.T d) none Set.univ (op := op6) (S := ucRefs τ sig) hS6 (V := W6 m d)) $$ [Hb Hheld]
  · isplitl [Hb] <;> iassumption
  iintro ⟨Hb, Hheld⟩
  rw [wp_ret]; imodintro
  iapply (wp_hlo_within 𝒱 (SparseCore.T d) none Set.univ (op := op7) (S := ucRefs τ sig) hS7 (V := (op6 (F := F)).result (W6 m d))) $$ [Hb Hheld]
  · isplitl [Hb] <;> iassumption
  iintro ⟨Hb, Hheld⟩
  rw [wp_ret]; imodintro
  iapply (wp_hlo_within 𝒱 (SparseCore.T d) none Set.univ (op := op8) (S := ucRefs τ sig) hS8 (V := (op7 (F := F)).result ((op6 (F := F)).result (W6 m d)))) $$ [Hb Hheld]
  · isplitl [Hb] <;> iassumption
  iintro ⟨Hb, Hheld⟩
  rw [wp_ret]; imodintro
  iapply (wp_hlo_within 𝒱 (SparseCore.T d) none Set.univ (op := op9) (S := ucRefs τ sig) hS9 (V := (op8 (F := F)).result ((op7 (F := F)).result ((op6 (F := F)).result (W6 m d))))) $$ [Hb Hheld]
  · isplitl [Hb] <;> iassumption
  iintro ⟨Hb, Hheld⟩
  rw [wp_ret]; imodintro
  iapply (wp_hlo_within 𝒱 (SparseCore.T d) none Set.univ (op := op10) (S := ucRefs τ sig) hS10 (V := (op9 (F := F)).result ((op8 (F := F)).result ((op7 (F := F)).result ((op6 (F := F)).result (W6 m d)))))) $$ [Hb Hheld]
  · isplitl [Hb] <;> iassumption
  iintro ⟨Hb, Hheld⟩
  rw [wp_ret]; imodintro
  iapply (wp_hlo_within 𝒱 (SparseCore.T d) none Set.univ (op := op11) (S := ucRefs τ sig) hS11 (V := (op10 (F := F)).result ((op9 (F := F)).result ((op8 (F := F)).result ((op7 (F := F)).result ((op6 (F := F)).result (W6 m d))))))) $$ [Hb Hheld]
  · isplitl [Hb] <;> iassumption
  iintro ⟨Hb, Hheld⟩
  rw [wp_ret]; imodintro
  ihave Hub := (Entails.of_eq (show (hold d ((op11 (F := F)).result ((op10 (F := F)).result ((op9 (F := F)).result ((op8 (F := F)).result ((op7 (F := F)).result ((op6 (F := F)).result (W6 m d))))))) : sProp 𝕄) = unscopedBufs d (onTc (W12 m) d) from (unscopedBufs_held d (W12 m d)).symm)) $$ Hheld
  ihave Hlev := (SparseCore.Cfg.ctx_levAts (K := K (F := F)) κ) $$ Hctx
  ihave Hst' := (Entails.of_eq (show ((K (F := F)).tcSt EH d ((0 : Fin 1).val + 1) : sProp 𝕄) = iprop(owing 1 d ∗ tcRest d 1) from tcSt_eq d 1)) $$ Hst
  icases Hst' with ⟨HO, Hst⟩
  iapply (region_step (dats m) (regM m) d _) $$ [Hb Hub Hlev HO Hg2 Hst Hts]
  isplitl [Hb]; · iexact Hb
  isplitl [Hub HO]
  · iapply (Entails.of_eq (show (iprop(unscopedBufs d (onTc (W12 m) d) ∗ owing 1 d) : sProp 𝕄) = (regM m).pre d from rfl))
    isplitl [Hub]; · iexact Hub
    iexact HO
  isplitl [Hlev]; · iexact Hlev
  isplitl [Hg2]; · iexact Hg2
  iintro ⟨Hb, Hp⟩
  ihave Hp' := (Entails.of_eq (show (regM m).post d = (iprop(unscopedBufs d (onTc (W13 m) d) ∗ owing 1 d) : sProp 𝕄) from rfl)) $$ Hp
  icases Hp' with ⟨Hub, HO⟩
  ihave Hheld := (Entails.of_eq (show (unscopedBufs d (onTc (W13 m) d) : sProp 𝕄) = hold d (W13 m d) from unscopedBufs_held d (W13 m d))) $$ Hub
  iapply (wp_hlo_within 𝒱 (SparseCore.T d) none Set.univ (op := op13) (S := ucRefs τ sig) hS13 (V := W13 m d)) $$ [Hb Hheld]
  · isplitl [Hb] <;> iassumption
  iintro ⟨Hb, Hheld⟩
  rw [wp_ret]; imodintro
  imodintro
  isplitl [HO Hst]
  · iapply (Entails.of_eq (tcSt_eq d 1).symm)
    isplitl [HO]; · iexact HO
    iexact Hst
  isplitl [Hheld]; · iexact Hheld
  isplitl [Hb] <;> iassumption

/-! ## The program's run -/

/-- What the claims read of device `d`'s final state. -/
def fq (d : Dev nD) (s' : Phys nD τ sig (Elt F)) : Prop := ∀ b ∈ ucRefs τ sig, s'.mem.mem (d, b) = W14 m d b

theorem hfin (d : Dev nD) (s' : Phys nD τ sig (Elt F)) : iprop(hold d (W14 m d) ∗ SI s') ⊢ (⌜fq m d s'⌝ : sProp 𝕄) := by
  unfold hold held
  iintro ⟨H, HSI⟩
  ihave %h := (SI_pointsTo_bufs_agree (qs := fun _ => fullShare) (ucRefs τ sig)) $$ [HSI H]
  · isplitl [HSI]; · iexact HSI
    iexact H
  ipureintro
  exact h

def QC : PUnit × MemSt nD τ sig (Elt F) → Prop := fun r =>
  (∀ (d : Dev nD), ∀ b ∈ ucRefs τ sig, r.2.mem (d, b) = W14 m d b) ∧ r.2.sem = fun _ => 0

/-- The run: it ends, every array at the last valuation, every semaphore back at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH)
    (P := P (fun d => onTc (W5 m) d main_v9) (fun d => onTc (W5 m) d main_v10) (fun d => onTc (W5 m) d main_v11)) (A := ∅) facts v₀
    (fun q hq => match q with | 0 => nomatch hq)
    (fun q _ => match q with | 0 => tileObl _ _ _ hpre)
    (fun q _ => match q with | 0 => SparseCore.Cfg.VecSplit.of_plain (vecSplit _ _ _))
    m ρ main (fun d => G d) (fun d => hold d (W14 m d)) (u₀ (F := F)) (sep_elim_left.trans (hu₀ _ _ _)) (hmain m ρ) (fq m) (hfin m) (QC m)
    (fun _ h hz => ⟨h, hz⟩)

end Cert.KernelIdeal.Run

end
-- ==== Proof.EndsIdeal.lean ====
/-
  The last valuation, read: an array no step writes is as it was at the launch, and each step's result is its operation of the
  arrays before it.
-/
module

public import proofs.«01_k».proof.Proof.MainIdeal

@[expose] public section

noncomputable section

namespace Cert.KernelIdeal.Run

open Cert.KernelIdeal Cert.KernelIdeal.Gen Cert.KernelIdeal.ScGather Cert.KernelIdeal.Regions

open Idealize.ShloMosaic
open Idealize.ShloMosaic.TcCoe
open Idealize.ShloMosaic.StableHlo (unary_result unary_result_ne binary_result binary_result_ne reshape_result reshape_result_ne)

variable {F : FTy → Type} [FloatOps F] (m : (ℓ : Loc nD τ sig) → Buf (Elt F) ℓ) (d : Dev nD)

/-! ## Arrays a stretch of the steps does not write -/

theorem Wa_of {b : Ref sig .tc} (h : b ∉ [main_v0, main_v1]) : onTc (Wa m) d b = m (d, dr b) := by
  simp only [List.mem_cons, List.not_mem_nil, or_false, not_or] at h
  exact (unary_result_ne _ _ _ _ _ _ h.2).trans (unary_result_ne _ _ _ _ _ _ h.1)

theorem Wc_of {b : Ref sig .tc} (h : b ∉ [main_v0, main_v1, main_v2, main_v3, main_v4, main_v5]) : onTc (Wc m) d b = m (d, dr b) := by
  simp only [List.mem_cons, List.not_mem_nil, or_false, not_or] at h
  obtain ⟨h0, h1, h2, h3, h4, h5⟩ := h
  refine (unary_result_ne _ _ _ _ _ _ h5).trans ((unary_result_ne _ _ _ _ _ _ h4).trans ((unary_result_ne _ _ _ _ _ _ h3).trans
    ((Wb_of m d h2).trans (Wa_of m d ?_))))
  simp only [List.mem_cons, List.not_mem_nil, or_false, not_or]
  exact ⟨h0, h1⟩

theorem W2_c {b : Ref sig .tc} (h : b ∉ [main_v6, main_v7]) : onTc (W2 m) d b = onTc (Wc m) d b := by
  simp only [List.mem_cons, List.not_mem_nil, or_false, not_or] at h
  exact (unary_result_ne _ _ _ _ _ _ h.2).trans (binary_result_ne _ _ _ _ _ _ _ _ h.1)

theorem W2_of {b : Ref sig .tc} (h : b ∉ [main_v0, main_v1, main_v2, main_v3, main_v4, main_v5, main_v6, main_v7]) : onTc (W2 m) d b = m (d, dr b) := by
  refine (W2_c m d fun h' => h ?_).trans (Wc_of m d fun h' => h ?_)
  all_goals simp only [List.mem_cons, List.not_mem_nil, or_false] at h' ⊢; tauto

theorem W5_of {b : Ref sig .tc} (h : b ∉ [main_v8, main_v9, main_v10]) : onTc (W5 m) d b = onTc (W2 m) d b := by
  simp only [List.mem_cons, List.not_mem_nil, or_false, not_or] at h
  exact (reshape_result_ne _ _ _ _ _ _ _ h.2.2).trans ((reshape_result_ne _ _ _ _ _ _ _ h.2.1).trans (W3_of m d h.1))

theorem W12_of {b : Ref sig .tc} (h : b ∉ [main_v12, main_v13, main_v14, main_v15, main_v16, main_v17]) : onTc (W12 m) d b = onTc (W6 m) d b := by
  simp only [List.mem_cons, List.not_mem_nil, or_false, not_or] at h
  obtain ⟨h6, h7, h8, h9, h10, h11⟩ := h
  exact (reshape_result_ne _ _ _ _ _ _ _ h11).trans ((reshape_result_ne _ _ _ _ _ _ _ h10).trans ((reshape_result_ne _ _ _ _ _ _ _ h9).trans
    ((unary_result_ne _ _ _ _ _ _ h8).trans ((unary_result_ne _ _ _ _ _ _ h7).trans (reshape_result_ne _ _ _ _ _ _ _ h6)))))

/-- The two results of the sampling, before the last call and at the end. -/
theorem W12_c {b : Ref sig .tc} (h : b ∉ [main_v6, main_v7, main_v8, main_v9, main_v10, main_v11, main_v12, main_v13, main_v14, main_v15, main_v16, main_v17]) :
    onTc (W12 m) d b = onTc (Wc m) d b := by
  refine (W12_of m d fun h' => h ?_).trans ((W6_of m d fun h' => h ?_).trans ((W5_of m d fun h' => h ?_).trans (W2_c m d fun h' => h ?_)))
  all_goals simp only [List.mem_cons, List.not_mem_nil, or_false] at h' ⊢; tauto

theorem W14_c {b : Ref sig .tc} (h : b ∉ [main_v6, main_v7, main_v8, main_v9, main_v10, main_v11, main_v12, main_v13, main_v14, main_v15, main_v16, main_v17])
    (h18 : b ≠ main_v18) (h19 : b ≠ main_v19) : onTc (W14 m) d b = onTc (Wc m) d b :=
  (unary_result_ne _ _ _ _ _ _ h19).trans ((W13_of m d h18).trans (W12_c m d h))

/-- An argument, before the last call and at the end. -/
theorem W12_arg {b : Ref sig .tc} (h : b ∉ [main_v0, main_v1, main_v2, main_v3, main_v4, main_v5, main_v6, main_v7, main_v8, main_v9, main_v10, main_v11, main_v12, main_v13, main_v14, main_v15, main_v16, main_v17]) :
    onTc (W12 m) d b = m (d, dr b) := by
  refine (W12_of m d fun h' => h ?_).trans ((W6_of m d fun h' => h ?_).trans ((W5_of m d fun h' => h ?_).trans (W2_of m d fun h' => h ?_)))
  all_goals simp only [List.mem_cons, List.not_mem_nil, or_false] at h' ⊢; tauto

theorem W14_arg {b : Ref sig .tc} (h : b ∉ [main_v0, main_v1, main_v2, main_v3, main_v4, main_v5, main_v6, main_v7, main_v8, main_v9, main_v10, main_v11, main_v12, main_v13, main_v14, main_v15, main_v16, main_v17])
    (h12 : b ≠ main_v18) (h13 : b ≠ main_v19) : onTc (W14 m) d b = m (d, dr b) :=
  (unary_result_ne _ _ _ _ _ _ h13).trans ((W13_of m d h12).trans (W12_arg m d h))

/-! ## Each step's result -/

/-- The sampled rows, the batch first. -/
def table (x n : S8x4096x3.Idx → Elt F .f32) : S8x1024x6.Idx → Elt F .f32 :=
  transpose S8x1024x6 [1, 0, 2] (FpsCall.rows (transpose S8x3x4096 [0, 2, 1] x transposes_S8x4096x3_S8x3x4096_0_2_1)
    (transpose S8x3x4096 [0, 2, 1] n transposes_S8x4096x3_S8x3x4096_0_2_1)) transposes_S1024x8x6_S8x1024x6_1_0_2

/-- The sampled points, and their normals. -/
def points (x n : S8x4096x3.Idx → Elt F .f32) : S8x1024x3.Idx → Elt F .f32 :=
  extractStridedSlice S8x1024x3 ![0, 0, 0] (table x n) slices_S8x1024x6_S8x1024x3_0_0_0
def normals (x n : S8x4096x3.Idx → Elt F .f32) : S8x1024x3.Idx → Elt F .f32 :=
  extractStridedSlice S8x1024x3 ![0, 0, 3] (table x n) slices_S8x1024x6_S8x1024x3_0_0_3

theorem Wa_v0 : onTc (Wa m) d main_v0 = transpose S8x3x4096 [0, 2, 1] (m (d, dr main_arg0)) transposes_S8x4096x3_S8x3x4096_0_2_1 :=
  (unary_result_ne _ _ _ _ _ _ (show main_v0 ≠ main_v1 by decide)).trans (unary_result _ _ _ _ _ _)

theorem Wa_v1 : onTc (Wa m) d main_v1 = transpose S8x3x4096 [0, 2, 1] (m (d, dr main_arg1)) transposes_S8x4096x3_S8x3x4096_0_2_1 :=
  (unary_result _ _ _ _ _ _).trans (congrArg (fun x => transpose S8x3x4096 [0, 2, 1] x transposes_S8x4096x3_S8x3x4096_0_2_1)
    (unary_result_ne _ _ _ _ _ _ (show main_arg1 ≠ main_v0 by decide)))

theorem opc_v3 : (opc (F := F)).result (Wb m d) (dr main_v3) = table (m (d, dr main_arg0)) (m (d, dr main_arg1)) := by
  have e : onTc (Wb m) d main_v2 = FpsCall.rows (transpose S8x3x4096 [0, 2, 1] (m (d, dr main_arg0)) transposes_S8x4096x3_S8x3x4096_0_2_1)
      (transpose S8x3x4096 [0, 2, 1] (m (d, dr main_arg1)) transposes_S8x4096x3_S8x3x4096_0_2_1) := by rw [Wb_self, Wa_v0, Wa_v1]
  unfold table
  rw [← e]
  exact unary_result _ _ _ _ _ _

theorem Wc_v4 : onTc (Wc m) d main_v4 = points (m (d, dr main_arg0)) (m (d, dr main_arg1)) := by
  have e : onTc (Wc m) d main_v4 = extractStridedSlice S8x1024x3 ![0, 0, 0] ((opc (F := F)).result (Wb m d) (dr main_v3)) slices_S8x1024x6_S8x1024x3_0_0_0 :=
    (unary_result_ne _ _ _ _ _ _ (show main_v4 ≠ main_v5 by decide)).trans (unary_result _ _ _ _ _ _)
  unfold points
  rw [e, opc_v3]

theorem Wc_v5 : onTc (Wc m) d main_v5 = normals (m (d, dr main_arg0)) (m (d, dr main_arg1)) := by
  have e : onTc (Wc m) d main_v5 = extractStridedSlice S8x1024x3 ![0, 0, 3] ((opd (F := F)).result ((opc (F := F)).result (Wb m d)) (dr main_v3)) slices_S8x1024x6_S8x1024x3_0_0_3 :=
    unary_result _ _ _ _ _ _
  have e' : (opd (F := F)).result ((opc (F := F)).result (Wb m d)) (dr main_v3) = (opc (F := F)).result (Wb m d) (dr main_v3) :=
    unary_result_ne _ _ _ _ _ _ (show main_v3 ≠ main_v4 by decide)
  unfold normals
  rw [e, e', opc_v3]

theorem W2_v6 : onTc (W2 m) d main_v6
    = concatenate S8x4096x67 2 [⟨S8x4096x3, m (d, dr main_arg0)⟩, ⟨S8x4096x64, m (d, dr main_arg3)⟩] concatenates_S8x4096x3_S8x4096x64_S8x4096x67_d2 := by
  refine (unary_result_ne _ _ _ _ _ _ (show main_v6 ≠ main_v7 by decide)).trans ((binary_result _ _ _ _ _ _ _ _).trans ?_)
  rw [show Wc m d (dr main_arg0) = m (d, dr main_arg0) from Wc_of m d (by decide), show Wc m d (dr main_arg3) = m (d, dr main_arg3) from Wc_of m d (by decide)]

theorem W2_v7 : onTc (W2 m) d main_v7 = extractStridedSlice S67x128 ![0, 0] (m (d, dr main_arg4)) slices_S70x128_S67x128_0_0 :=
  (unary_result _ _ _ _ _ _).trans (congrArg (fun x => extractStridedSlice S67x128 ![0, 0] x slices_S70x128_S67x128_0_0)
    ((binary_result_ne _ _ _ _ _ _ _ _ (show main_arg4 ≠ main_v6 by decide)).trans (Wc_of m d (by decide))))

theorem W5_v9 : onTc (W5 m) d main_v9 = shapeCast S32768x128 (GCall.out (onTc (W2 m) d main_v6) (onTc (W2 m) d main_v7)) shapeCasts_S8x4096x128_S32768x128 :=
  (reshape_result_ne _ _ _ _ _ _ _ (show main_v9 ≠ main_v10 by decide)).trans ((reshape_result _ _ _ _ _ _ _).trans
    (congrArg (fun x => shapeCast S32768x128 x shapeCasts_S8x4096x128_S32768x128) (W3_self m d)))

theorem W5_v10 : onTc (W5 m) d main_v10 = shapeCast S262144 (m (d, dr main_arg2)) shapeCasts_S8x8x32x128_S262144 :=
  (reshape_result _ _ _ _ _ _ _).trans (congrArg (fun x => shapeCast S262144 x shapeCasts_S8x8x32x128_S262144)
    ((reshape_result_ne _ _ _ _ _ _ _ (show main_arg2 ≠ main_v9 by decide)).trans ((W3_of m d (show main_arg2 ≠ main_v8 by decide)).trans
      (W2_of m d (show main_arg2 ∉ [main_v0, main_v1, main_v2, main_v3, main_v4, main_v5, main_v6, main_v7] by decide)))))

theorem W6_arg {b : Ref sig .tc} (h : b ∉ [main_v0, main_v1, main_v2, main_v3, main_v4, main_v5, main_v6, main_v7, main_v8, main_v9, main_v10, main_v11]) : onTc (W6 m) d b = m (d, dr b) := by
  refine (W6_of m d fun h' => h ?_).trans ((W5_of m d fun h' => h ?_).trans (W2_of m d fun h' => h ?_))
  all_goals simp only [List.mem_cons, List.not_mem_nil, or_false] at h' ⊢; tauto

theorem W12_v12 : onTc (W12 m) d main_v12
    = shapeCast S8x8x4096x128 (gathered (onTc (W5 m) d main_v9) (onTc (W5 m) d main_v10)) shapeCasts_S262144x128_S8x8x4096x128 :=
  (reshape_result_ne _ _ _ _ _ _ _ (show main_v12 ≠ main_v17 by decide)).trans ((reshape_result_ne _ _ _ _ _ _ _ (show main_v12 ≠ main_v16 by decide)).trans
    ((reshape_result_ne _ _ _ _ _ _ _ (show main_v12 ≠ main_v15 by decide)).trans ((unary_result_ne _ _ _ _ _ _ (show main_v12 ≠ main_v14 by decide)).trans
      ((unary_result_ne _ _ _ _ _ _ (show main_v12 ≠ main_v13 by decide)).trans ((reshape_result _ _ _ _ _ _ _).trans
        (congrArg (fun x => shapeCast S8x8x4096x128 x shapeCasts_S262144x128_S8x8x4096x128) (W6_self m d)))))))

theorem W12_v13 : onTc (W12 m) d main_v13 = extractStridedSlice S3x128 ![0, 0] (m (d, dr main_arg4)) slices_S70x128_S3x128_0_0 :=
  (reshape_result_ne _ _ _ _ _ _ _ (show main_v13 ≠ main_v17 by decide)).trans ((reshape_result_ne _ _ _ _ _ _ _ (show main_v13 ≠ main_v16 by decide)).trans
    ((reshape_result_ne _ _ _ _ _ _ _ (show main_v13 ≠ main_v15 by decide)).trans ((unary_result_ne _ _ _ _ _ _ (show main_v13 ≠ main_v14 by decide)).trans
      ((unary_result _ _ _ _ _ _).trans (congrArg (fun x => extractStridedSlice S3x128 ![0, 0] x slices_S70x128_S3x128_0_0)
        ((reshape_result_ne _ _ _ _ _ _ _ (show main_arg4 ≠ main_v12 by decide)).trans (W6_arg m d (by decide))))))))

theorem W12_v14 : onTc (W12 m) d main_v14 = extractStridedSlice S3x128 ![67, 0] (m (d, dr main_arg4)) slices_S70x128_S3x128_67_0 :=
  (reshape_result_ne _ _ _ _ _ _ _ (show main_v14 ≠ main_v17 by decide)).trans ((reshape_result_ne _ _ _ _ _ _ _ (show main_v14 ≠ main_v16 by decide)).trans
    ((reshape_result_ne _ _ _ _ _ _ _ (show main_v14 ≠ main_v15 by decide)).trans
      ((unary_result _ _ _ _ _ _).trans (congrArg (fun x => extractStridedSlice S3x128 ![67, 0] x slices_S70x128_S3x128_67_0)
        ((unary_result_ne _ _ _ _ _ _ (show main_arg4 ≠ main_v13 by decide)).trans
          ((reshape_result_ne _ _ _ _ _ _ _ (show main_arg4 ≠ main_v12 by decide)).trans (W6_arg m d (by decide))))))))

theorem W12_v15 : onTc (W12 m) d main_v15 = shapeCast S1x128 (m (d, dr main_arg5)) shapeCasts_S128_S1x128 :=
  (reshape_result_ne _ _ _ _ _ _ _ (show main_v15 ≠ main_v17 by decide)).trans ((reshape_result_ne _ _ _ _ _ _ _ (show main_v15 ≠ main_v16 by decide)).trans
    ((reshape_result _ _ _ _ _ _ _).trans (congrArg (fun x => shapeCast S1x128 x shapeCasts_S128_S1x128)
      ((unary_result_ne _ _ _ _ _ _ (show main_arg5 ≠ main_v14 by decide)).trans ((unary_result_ne _ _ _ _ _ _ (show main_arg5 ≠ main_v13 by decide)).trans
        ((reshape_result_ne _ _ _ _ _ _ _ (show main_arg5 ≠ main_v12 by decide)).trans (W6_arg m d (by decide))))))))

theorem W12_v16 : onTc (W12 m) d main_v16 = shapeCast S1x128 (m (d, dr main_arg7)) shapeCasts_S128_S1x128 :=
  (reshape_result_ne _ _ _ _ _ _ _ (show main_v16 ≠ main_v17 by decide)).trans
    ((reshape_result _ _ _ _ _ _ _).trans (congrArg (fun x => shapeCast S1x128 x shapeCasts_S128_S1x128)
      ((reshape_result_ne _ _ _ _ _ _ _ (show main_arg7 ≠ main_v15 by decide)).trans
      ((unary_result_ne _ _ _ _ _ _ (show main_arg7 ≠ main_v14 by decide)).trans ((unary_result_ne _ _ _ _ _ _ (show main_arg7 ≠ main_v13 by decide)).trans
        ((reshape_result_ne _ _ _ _ _ _ _ (show main_arg7 ≠ main_v12 by decide)).trans (W6_arg m d (by decide))))))))

theorem W12_v17 : onTc (W12 m) d main_v17 = shapeCast S1x256 (m (d, dr main_arg9)) shapeCasts_S256_S1x256 :=
  (reshape_result _ _ _ _ _ _ _).trans (congrArg (fun x => shapeCast S1x256 x shapeCasts_S256_S1x256)
    ((reshape_result_ne _ _ _ _ _ _ _ (show main_arg9 ≠ main_v16 by decide)).trans ((reshape_result_ne _ _ _ _ _ _ _ (show main_arg9 ≠ main_v15 by decide)).trans
      ((unary_result_ne _ _ _ _ _ _ (show main_arg9 ≠ main_v14 by decide)).trans ((unary_result_ne _ _ _ _ _ _ (show main_arg9 ≠ main_v13 by decide)).trans
        ((reshape_result_ne _ _ _ _ _ _ _ (show main_arg9 ≠ main_v12 by decide)).trans (W6_arg m d (by decide))))))))

theorem W14_v19 : onTc (W14 m) d main_v19 = transpose S8x256x1024 [0, 2, 1] (onTc (W13 m) d main_v18) transposes_S8x1024x256_S8x256x1024_0_2_1 :=
  unary_result _ _ _ _ _ _

/-- The rows gathered: of the table the table call makes, by the neighbour list. -/
def rows (a2 : S8x8x32x128.Idx → BitVec 32) (a3 : S8x4096x3.Idx → Elt F .f32) (a4 : S8x4096x64.Idx → Elt F .f32) (a5 : S70x128.Idx → Elt F .f32) :
    S8x8x4096x128.Idx → Elt F .f32 :=
  shapeCast S8x8x4096x128 (gathered (shapeCast S32768x128 (GCall.out
      (concatenate S8x4096x67 2 [⟨S8x4096x3, a3⟩, ⟨S8x4096x64, a4⟩] concatenates_S8x4096x3_S8x4096x64_S8x4096x67_d2)
      (extractStridedSlice S67x128 ![0, 0] a5 slices_S70x128_S67x128_0_0)) shapeCasts_S8x4096x128_S32768x128)
    (shapeCast S262144 a2 shapeCasts_S8x8x32x128_S262144)) shapeCasts_S262144x128_S8x8x4096x128

/-- The program's result, of its arguments. -/
def result (a0 a1 : S8x1024x3.Idx → Elt F .f32) (a2 : S8x8x32x128.Idx → BitVec 32) (a3 : S8x4096x3.Idx → Elt F .f32) (a4 : S8x4096x64.Idx → Elt F .f32)
    (a5 : S70x128.Idx → Elt F .f32) (a6 : S128.Idx → Elt F .f32) (a7 : S128x128.Idx → Elt F .f32) (a8 : S128.Idx → Elt F .f32)
    (a9 : S128x256.Idx → Elt F .f32) (a10 : S256.Idx → Elt F .f32) : S8x256x1024.Idx → Elt F .f32 :=
  transpose S8x256x1024 [0, 2, 1] (MlpCall.out (rows a2 a3 a4 a5) a0 a1
    (extractStridedSlice S3x128 ![0, 0] a5 slices_S70x128_S3x128_0_0) (extractStridedSlice S3x128 ![67, 0] a5 slices_S70x128_S3x128_67_0)
    (shapeCast S1x128 a6 shapeCasts_S128_S1x128) a7 (shapeCast S1x128 a8 shapeCasts_S128_S1x128) a9 (shapeCast S1x256 a10 shapeCasts_S256_S1x256))
    transposes_S8x1024x256_S8x256x1024_0_2_1

theorem rows_eq : onTc (W12 m) d main_v12 = rows (m (d, dr main_arg2)) (m (d, dr main_arg0)) (m (d, dr main_arg3)) (m (d, dr main_arg4)) := by
  rw [W12_v12, W5_v9, W5_v10, W2_v6, W2_v7]; rfl

theorem result_eq : onTc (W14 m) d main_v19 = result (onTc (Wc m) d main_v4) (onTc (Wc m) d main_v5) (m (d, dr main_arg2)) (m (d, dr main_arg0))
    (m (d, dr main_arg3)) (m (d, dr main_arg4)) (m (d, dr main_arg5)) (m (d, dr main_arg6)) (m (d, dr main_arg7)) (m (d, dr main_arg8)) (m (d, dr main_arg9)) := by
  rw [W14_v19, W13_self, rows_eq, W12_v13, W12_v14, W12_v15, W12_v16, W12_v17,
    W12_c m d (b := main_v4) (by decide), W12_c m d (b := main_v5) (by decide), W12_arg m d (b := main_arg6) (by decide), W12_arg m d (b := main_arg8) (by decide)]
  rfl

/-- Every array of the device's core ends as the last valuation has it. -/
theorem end_of {r : PUnit × MemSt nD τ sig (Elt F)} (h : QC m r) {b : Ref sig .tc} (hb : b.isScoped = false) :
    r.2.mem ((d.tc : Thread nD τ).loc b) = onTc (W14 m) d b := h.1 d (dr b) (mem_uc hb)

end Cert.KernelIdeal.Run

end
-- ==== Proof.SampleEq.lean ====
/-
  The sampling kernel's table and the reference's sampling hold the same elements: each is the sampled point's coordinate or
  its normal's.
-/
module

public import proofs.«01_k».proof.Proof.SampleRefState
public import proofs.«01_k».proof.Proof.SamplePay
public import proofs.«01_k».proof.Proof.EndsIdeal

@[expose] public section

noncomputable section

namespace Cert.SampleEq

open Idealize.ShloMosaic Idealize.ShloMosaic.TcCoe Cert.SampleSpec

open Cert.ReferenceIdeal.Run (far cloud)

/-- The kernel's table at a row's first half and second half. -/
theorem table_apply (x n : FVec Ideal Cert.KernelIdeal.S8x4096x3 .f32) (b : Fin 8) (t : Fin 1024) (e : Fin 3) :
    Cert.KernelIdeal.Run.table (F := Ideal) x n (ix3 b t (⟨e.val, by omega⟩ : Fin 6)) = x (ix3 b (state far (cloud x b) t.val).2 e)
      ∧ Cert.KernelIdeal.Run.table (F := Ideal) x n (ix3 b t (⟨3 + e.val, by omega⟩ : Fin 6)) = n (ix3 b (state far (cloud x b) t.val).2 e) := by
  have hx : ∀ (z : FVec Ideal Cert.KernelIdeal.S8x4096x3 .f32) h (b : Fin 8) (e : Fin 3) (i : Fin 4096),
      transpose Cert.KernelIdeal.S8x3x4096 [0, 2, 1] z h (ix3 b e i) = z (ix3 b i e) := by
    intro z h b e i
    pointwise
  have hr := Cert.KernelIdeal.FpsPay.row_eq (transpose Cert.KernelIdeal.S8x3x4096 [0, 2, 1] x Cert.KernelIdeal.Gen.transposes_S8x4096x3_S8x3x4096_0_2_1)
    (transpose Cert.KernelIdeal.S8x3x4096 [0, 2, 1] n Cert.KernelIdeal.Gen.transposes_S8x4096x3_S8x3x4096_0_2_1) t.val b e
  have hp : Cert.KernelIdeal.FpsPay.pts (transpose Cert.KernelIdeal.S8x3x4096 [0, 2, 1] x Cert.KernelIdeal.Gen.transposes_S8x4096x3_S8x3x4096_0_2_1) b
      = cloud x b := by
    funext i e
    exact hx _ _ b e i
  rw [hp, hx, hx] at hr
  refine ⟨Eq.trans ?_ hr.1, Eq.trans ?_ hr.2⟩
  · unfold Cert.KernelIdeal.Run.table
    pointwise [Cert.KernelIdeal.FpsCall.rows]
  · unfold Cert.KernelIdeal.Run.table
    pointwise [Cert.KernelIdeal.FpsCall.rows]

theorem points_eq (x n : FVec Ideal Cert.KernelIdeal.S8x4096x3 .f32) (b : Fin 8) (t : Fin 1024) (e : Fin 3) :
    Cert.KernelIdeal.Run.points (F := Ideal) x n (ix3 b t e) = x (ix3 b (state far (cloud x b) t.val).2 e) := by
  rw [← (table_apply x n b t e).1]
  unfold Cert.KernelIdeal.Run.points
  generalize Cert.KernelIdeal.Run.table (F := Ideal) x n = T
  pointwise

theorem normals_eq (x n : FVec Ideal Cert.KernelIdeal.S8x4096x3 .f32) (b : Fin 8) (t : Fin 1024) (e : Fin 3) :
    Cert.KernelIdeal.Run.normals (F := Ideal) x n (ix3 b t e) = n (ix3 b (state far (cloud x b) t.val).2 e) := by
  rw [← (table_apply x n b t e).2]
  unfold Cert.KernelIdeal.Run.normals
  generalize Cert.KernelIdeal.Run.table (F := Ideal) x n = T
  pointwise

end Cert.SampleEq

end
-- ==== Proof.SampleRefKeep.lean ====
/-
  What the reference's lines leave alone: each writes its own results, so the arguments, and the arrays of the lines before, stay.
-/
module

public import proofs.«01_k».proof.Proof.SampleRefRun

@[expose] public section

noncomputable section

namespace Cert.ReferenceIdeal.Run

open Cert.ReferenceIdeal Cert.ReferenceIdeal.Gen
open Idealize.ShloMosaic Idealize.ShloMosaic.TcCoe Idealize.ShloMosaic.StableHlo

variable {F : FTy → Type} [FloatOps F]

/-- What the operations write, in order. -/
abbrev preW : List (Ref sig .tc) :=
  [main_v0, main_v1, main_c, main_v2, main_v3, main_c_0, main_v4, main_cst, main_v5, main_c_1, main_v6, main_c_2, main_v7_0, main_v7_1, main_v7_2, main_v7_3, main_v7_4, main_v7_5, main_v7_6]

theorem pre_of (V : Valuation τ sig (Elt F)) {r : Ref sig .tc} (h : r ∉ preW) : after preOps V r = V r :=
  after_of_writes_sub preOps V (forall_writes_sub_of_map (W := preW) rfl) h

/-- What the operations write, in order. -/
abbrev condW : List (Ref sig .tc) :=
  [main_while0c_c_19, main_while0c_v79]

theorem cond_of (V : Valuation τ sig (Elt F)) {r : Ref sig .tc} (h : r ∉ condW) : after condOps V r = V r :=
  after_of_writes_sub condOps V (forall_writes_sub_of_map (W := condW) rfl) h

/-- What the operations write, in order. -/
abbrev bodyW : List (Ref sig .tc) :=
  [main_while0b_v79, main_while0b_c_19, main_while0b_v80, main_while0b_v81, main_while0b_c_20, main_while0b_v82, main_while0b_v83, main_while0b_v84, main_while0b_v85, main_while0b_v86, main_while0b_v87, main_while0b_v88, main_while0b_v89, main_while0b_v90, main_while0b_cst_21, main_while0b_v91, main_while0b_v92, main_while0b_call0_v0, main_while0b_call0_cst, main_while0b_call0_c, main_while0b_call0_v1_0, main_while0b_v93, main_while0b_call1_v0, main_while0b_call1_c, main_while0b_v94, main_while0b_c_22, main_while0b_v95, main_v7_3, main_v7_4, main_v7_5, main_v7_6]

theorem body_of (V : Valuation τ sig (Elt F)) {r : Ref sig .tc} (h : r ∉ bodyW) : after bodyOps V r = V r :=
  after_of_writes_sub bodyOps V (forall_writes_sub_of_map (W := bodyW) rfl) h

/-- What the operations write, in order. -/
abbrev postW : List (Ref sig .tc) :=
  [main_v8, main_v9, main_v10, main_v11, main_v12, main_c_3, main_v13, main_v14, main_v15, main_v16, main_v17, main_v18, main_c_4, main_v19, main_v20, main_c_5, main_v21, main_v22, main_v23, main_v24, main_v25, main_v26, main_v27, main_c_6, main_v28, main_v29, main_c_7, main_v30, main_v31, main_v32, main_v33, main_v34, main_v35]

theorem post_of (V : Valuation τ sig (Elt F)) {r : Ref sig .tc} (h : r ∉ postW) : after postOps V r = V r :=
  after_of_writes_sub postOps V (forall_writes_sub_of_map (W := postW) rfl) h

/-- What the operations write, in order. -/
abbrev groupW : List (Ref sig .tc) :=
  [main_v36, main_v37, main_v38, main_c_8, main_v39, main_v40, main_c_9, main_v41, main_v42, main_v43, main_v44, main_v45, main_v46, main_v47, main_v48, main_v49, main_v50, main_c_10, main_v51, main_v52, main_c_11, main_v53, main_v54, main_v55, main_v56, main_v57, main_v58, main_v59, main_v60, main_v61]

theorem group_of (V : Valuation τ sig (Elt F)) {r : Ref sig .tc} (h : r ∉ groupW) : after groupOps V r = V r :=
  after_of_writes_sub groupOps V (forall_writes_sub_of_map (W := groupW) rfl) h

/-- What the operations write, in order. -/
abbrev layerW : List (Ref sig .tc) :=
  [main_v62, main_v63, main_v64, main_v65, main_call2_cst, main_call2_v0, main_v66, main_v67, main_v68, main_v69, main_v70, main_call3_cst, main_call3_v0, main_v71, main_v72, main_v73, main_v74, main_v75, main_call4_cst, main_call4_v0, main_v76, main_cst_12, main_v77, main_v78]

theorem layer_of (V : Valuation τ sig (Elt F)) {r : Ref sig .tc} (h : r ∉ layerW) : after layerOps V r = V r :=
  after_of_writes_sub layerOps V (forall_writes_sub_of_map (W := layerW) rfl) h

theorem Wk_of (W : Valuation τ sig (Elt F)) {r : Ref sig .tc} (hc : r ∉ condW) (hb : r ∉ bodyW) : ∀ k, Wk W k r = W r
  | 0 => rfl
  | k + 1 => (body_of _ hb).trans ((cond_of _ hc).trans (Wk_of W hc hb k))

/-- Before the last three lines, and at the end, what no line writes is as it was at the launch. -/
theorem loop_of (W : Valuation τ sig (Elt F)) {r : Ref sig .tc} (hp : r ∉ preW) (hc : r ∉ condW) (hb : r ∉ bodyW) :
    after condOps (Wk (after preOps W) 1023) r = W r :=
  (cond_of _ hc).trans ((Wk_of _ hc hb 1023).trans (pre_of W hp))

theorem end_of (m : (ℓ : Loc nD τ sig) → Buf (Elt F) ℓ) (d : Dev nD) {r : Ref sig .tc} (hp : r ∉ preW) (hc : r ∉ condW) (hb : r ∉ bodyW)
    (hq : r ∉ postW) (hg : r ∉ groupW) (hl : r ∉ layerW) : Wend m d r = launchContents m d r :=
  (layer_of _ hl).trans ((group_of _ hg).trans ((post_of _ hq).trans (loop_of _ hp hc hb)))

end Cert.ReferenceIdeal.Run

end
-- ==== Proof.ReferenceTerm.lean ====
/-
  What the reference's last two lines compute, in four steps — the grouped points, three dense layers, the maximum over a group — each read at
  an element over the extended reals.
-/
module

public import proofs.«01_k».proof.Proof.Gen.ReferenceIdeal
public import proofs.«01_k».proof.Proof.RowGather
public import Idealize.ShloMosaic.Lib.Pointwise

@[expose] public section

noncomputable section

namespace Cert.ReferenceIdeal.Term

open Cert.ReferenceIdeal Cert.ReferenceIdeal.Gen Idealize.ShloMosaic Idealize.ShloMosaic.TcCoe

/-- The list of row numbers: the neighbours of each centre in turn. -/
def list (a2 : S8x8x32x128.Idx → BitVec 32) : S262144.Idx → BitVec 32 :=
  shapeCast S262144 (transpose S8x8x128x32 [0, 1, 3, 2] a2 transposes_S8x8x32x128_S8x8x128x32_0_1_3_2) shapeCasts_S8x8x128x32_S262144

/-- The list stood up as a column, a negative number counted from the table's end. -/
def col (l : S262144.Idx → BitVec 32) : S262144x1.Idx → BitVec 32 :=
  broadcastInDim S262144x1 ![0] bcast_S262144_S262144x1_0
    (select (cmpi .slt l (broadcastInDim S262144 ![] bcast_S_S262144 (constantI S_ 32 0#32)))
      (addi l (broadcastInDim S262144 ![] bcast_S_S262144 (constantI S_ 32 32768#32))) l)

/-- The grouped coordinates and features. -/
def gx (a2 : S8x8x32x128.Idx → BitVec 32) (a3 : S8x4096x3.Idx → EReal) : S262144x3.Idx → EReal :=
  Host.gather gather_S32768x3_S262144x1_S262144x3_1_0_n_n_0_1_13 (shapeCast S32768x3 a3 shapeCasts_S8x4096x3_S32768x3) (col (list a2))
def gf (a2 : S8x8x32x128.Idx → BitVec 32) (a4 : S8x4096x64.Idx → EReal) : S262144x64.Idx → EReal :=
  Host.gather gather_S32768x64_S262144x1_S262144x64_1_0_n_n_0_1_164 (shapeCast S32768x64 a4 shapeCasts_S8x4096x64_S32768x64) (col (list a2))

/-- A group's channels: relative coordinates, features, the centre's normal. -/
def group (gx : FVec Ideal S262144x3 .f32) (gf : FVec Ideal S262144x64 .f32) (a0 a1 : FVec Ideal S8x1024x3 .f32) : FVec Ideal S8x1024x32x70 .f32 :=
  concatenate S8x1024x32x70 3 [⟨S8x1024x32x3, subf (shapeCast S8x1024x32x3 gx shapeCasts_S262144x3_S8x1024x32x3) (broadcastInDim S8x1024x32x3 ![0, 1, 2, 3] bcast_S8x1024x1x3_S8x1024x32x3_0_1_2_3 (broadcastInDim S8x1024x1x3 ![0, 1, 3] bcast_S8x1024x3_S8x1024x1x3_0_1_3 a0))⟩,
    ⟨S8x1024x32x64, shapeCast S8x1024x32x64 gf shapeCasts_S262144x64_S8x1024x32x64⟩,
    ⟨S8x1024x32x3, broadcastInDim S8x1024x32x3 ![0, 1, 2, 3] bcast_S8x1024x1x3_S8x1024x32x3_0_1_2_3 (broadcastInDim S8x1024x1x3 ![0, 1, 3] bcast_S8x1024x3_S8x1024x1x3_0_1_3 a1)⟩]
    concatenates_S8x1024x32x3_S8x1024x32x64_S8x1024x32x3_S8x1024x32x70_d3

def layer1 (g : FVec Ideal S8x1024x32x70 .f32) (w : FVec Ideal S70x128 .f32) (b : FVec Ideal S128 .f32) : FVec Ideal S8x1024x32x128 .f32 :=
  maximumf (addf (Host.dotGeneral dot_S8x1024x32x70_S70x128_S8x1024x32x128_3_0_012_1_n_n none g w)
    (broadcastInDim S8x1024x32x128 ![0, 1, 2, 3] bcast_S1x1x1x128_S8x1024x32x128_0_1_2_3 (broadcastInDim S1x1x1x128 ![3] bcast_S128_S1x1x1x128_3 b)))
    (broadcastInDim S8x1024x32x128 ![] bcast_S_S8x1024x32x128 (constant S_ .f32 0x00000000#32))

def layer2 (g : FVec Ideal S8x1024x32x128 .f32) (w : FVec Ideal S128x128 .f32) (b : FVec Ideal S128 .f32) : FVec Ideal S8x1024x32x128 .f32 :=
  maximumf (addf (Host.dotGeneral dot_S8x1024x32x128_S128x128_S8x1024x32x128_3_0_012_1_n_n none g w)
    (broadcastInDim S8x1024x32x128 ![0, 1, 2, 3] bcast_S1x1x1x128_S8x1024x32x128_0_1_2_3 (broadcastInDim S1x1x1x128 ![3] bcast_S128_S1x1x1x128_3 b)))
    (broadcastInDim S8x1024x32x128 ![] bcast_S_S8x1024x32x128 (constant S_ .f32 0x00000000#32))

def layer3 (g : FVec Ideal S8x1024x32x128 .f32) (w : FVec Ideal S128x256 .f32) (b : FVec Ideal S256 .f32) : FVec Ideal S8x1024x32x256 .f32 :=
  maximumf (addf (Host.dotGeneral dot_S8x1024x32x128_S128x256_S8x1024x32x256_3_0_012_1_n_n none g w)
    (broadcastInDim S8x1024x32x256 ![0, 1, 2, 3] bcast_S1x1x1x256_S8x1024x32x256_0_1_2_3 (broadcastInDim S1x1x1x256 ![3] bcast_S256_S1x1x1x256_3 b)))
    (broadcastInDim S8x1024x32x256 ![] bcast_S_S8x1024x32x256 (constant S_ .f32 0x00000000#32))

def top (g : FVec Ideal S8x1024x32x256 .f32) : FVec Ideal S8x256x1024 .f32 :=
  transpose S8x256x1024 [0, 2, 1] (Host.reduce FloatOps.maximumf g (constant S_ .f32 0xFF800000#32) reducesTo_S8x1024x32x256_S8x1024x256_d2 h_S_)
    transposes_S8x1024x256_S8x256x1024_0_2_1

/-- The reference's result, from the grouped rows. -/
def res (gx : FVec Ideal S262144x3 .f32) (gf : FVec Ideal S262144x64 .f32) (a0 a1 : FVec Ideal S8x1024x3 .f32) (w1 : FVec Ideal S70x128 .f32)
    (b1 : FVec Ideal S128 .f32) (w2 : FVec Ideal S128x128 .f32) (b2 : FVec Ideal S128 .f32) (w3 : FVec Ideal S128x256 .f32) (b3 : FVec Ideal S256 .f32) :
    FVec Ideal S8x256x1024 .f32 :=
  top (layer3 (layer2 (layer1 (group gx gf a0 a1) w1 b1) w2 b2) w3 b3)

/-! ## Read at an element -/

/-- Place in the list of neighbour `k` of centre `s` of batch `b`. -/
def pos (b : Fin 8) (s : Fin 1024) (k : Fin 32) : Fin 262144 := ⟨b.val * 32768 + s.val * 32 + k.val, by omega⟩

/-- A row number as batch and point. -/
def rowB {v : BitVec 32} (h : v.toNat < 32768) : Fin 8 := ⟨v.toNat / 4096, by omega⟩
def rowN (v : BitVec 32) : Fin 4096 := ⟨v.toNat % 4096, Nat.mod_lt _ (by omega)⟩

theorem list_apply (a2 : S8x8x32x128.Idx → BitVec 32) (b : Fin 8) (s : Fin 1024) (k : Fin 32) (q : Fin 8) (t : Fin 128) (hs : s.val = q.val * 128 + t.val) :
    list a2 (ix1 (pos b s k)) = a2 (ix4 b q k t) := by
  pointwise [list, pos]
  congr 1
  funext a
  refine Fin.ext ?_
  match a with
  | 0 => rfl
  | 1 => show _ % _ = q.val; omega
  | 2 => rfl
  | 3 => show _ % _ = t.val; omega

theorem col_apply (l : S262144.Idx → BitVec 32) (p : Fin 262144) (h : (l (ix1 p)).toNat < 32768) : col l (RowGather.colAt p) = l (ix1 p) := by
  refine (RowGather.col_at _ _ (by norm_num) p (ix1 p) rfl).trans ?_
  exact RowGather.wrap_eq (k := 32768#32) (lt_of_lt_of_le h (by norm_num))

theorem gx_apply (a2 : S8x8x32x128.Idx → BitVec 32) (a3 : S8x4096x3.Idx → EReal) (p : Fin 262144) (e : Fin 3) (h : (list a2 (ix1 p)).toNat < 32768) :
    gx a2 a3 (ix2 p e) = a3 (ix3 (rowB h) (rowN (list a2 (ix1 p))) e) := by
  have hi : gather_S32768x3_S262144x1_S262144x3_1_0_n_n_0_1_13.operandIdx (ix2 p e) (col (list a2)) = ix2 (⟨(list a2 (ix1 p)).toNat, h⟩ : Fin 32768) e := by
    funext a
    match a with
    | 0 =>
      refine Fin.ext ((RowGather.operandIdx_zero _ _ (ix2 p e)).trans ?_)
      rw [show (ix2 p e) 0 = p from rfl, col_apply _ p h, RowGather.clamp_eq (by norm_num) h]; rfl
    | 1 => exact Fin.ext (RowGather.operandIdx_one _ _ (ix2 p e))
  show shapeCast S32768x3 a3 _ (gather_S32768x3_S262144x1_S262144x3_1_0_n_n_0_1_13.operandIdx (ix2 p e) (col (list a2))) = _
  rw [hi]
  pointwise [rowB, rowN]

theorem gf_apply (a2 : S8x8x32x128.Idx → BitVec 32) (a4 : S8x4096x64.Idx → EReal) (p : Fin 262144) (e : Fin 64) (h : (list a2 (ix1 p)).toNat < 32768) :
    gf a2 a4 (ix2 p e) = a4 (ix3 (rowB h) (rowN (list a2 (ix1 p))) e) := by
  have hi : gather_S32768x64_S262144x1_S262144x64_1_0_n_n_0_1_164.operandIdx (ix2 p e) (col (list a2)) = ix2 (⟨(list a2 (ix1 p)).toNat, h⟩ : Fin 32768) e := by
    funext a
    match a with
    | 0 =>
      refine Fin.ext ((RowGather.operandIdx_zero _ _ (ix2 p e)).trans ?_)
      rw [show (ix2 p e) 0 = p from rfl, col_apply _ p h, RowGather.clamp_eq (by norm_num) h]; rfl
    | 1 => exact Fin.ext (RowGather.operandIdx_one _ _ (ix2 p e))
  show shapeCast S32768x64 a4 _ (gather_S32768x64_S262144x1_S262144x64_1_0_n_n_0_1_164.operandIdx (ix2 p e) (col (list a2))) = _
  rw [hi]
  pointwise [rowB, rowN]

theorem top_apply (g : FVec Ideal S8x1024x32x256 .f32) (b : Fin 8) (o : Fin 256) (s : Fin 1024) :
    top g (ix3 b o s) = Finset.fold max (Ideal.ofBits FTy.f32 0xFF800000#32) (fun k : Fin 32 => g (ix4 b s k o)) Finset.univ := by
  pointwise [top]

theorem layer3_apply (g : FVec Ideal S8x1024x32x128 .f32) (w : FVec Ideal S128x256 .f32) (bb : FVec Ideal S256 .f32) (b : Fin 8) (s : Fin 1024)
    (k : Fin 32) (o : Fin 256) : layer3 g w bb (ix4 b s k o) = max (∑ x : Fin 128, g (ix4 b s k x) * w (ix2 x o) + bb (ix1 o)) 0 := by
  pointwise [layer3]

theorem layer2_apply (g : FVec Ideal S8x1024x32x128 .f32) (w : FVec Ideal S128x128 .f32) (bb : FVec Ideal S128 .f32) (b : Fin 8) (s : Fin 1024)
    (k : Fin 32) (o : Fin 128) : layer2 g w bb (ix4 b s k o) = max (∑ x : Fin 128, g (ix4 b s k x) * w (ix2 x o) + bb (ix1 o)) 0 := by
  pointwise [layer2]

theorem group_x (gx : FVec Ideal S262144x3 .f32) (gf : FVec Ideal S262144x64 .f32) (a0 a1 : FVec Ideal S8x1024x3 .f32) (b : Fin 8) (s : Fin 1024)
    (k : Fin 32) (e : Fin 3) : group gx gf a0 a1 (ix4 b s k (⟨e.val, by omega⟩ : Fin 70)) = gx (ix2 (pos b s k) e) - a0 (ix3 b s e) := by
  pointwise [group, pos]

theorem group_f (gx : FVec Ideal S262144x3 .f32) (gf : FVec Ideal S262144x64 .f32) (a0 a1 : FVec Ideal S8x1024x3 .f32) (b : Fin 8) (s : Fin 1024)
    (k : Fin 32) (e : Fin 64) : group gx gf a0 a1 (ix4 b s k (⟨3 + e.val, by omega⟩ : Fin 70)) = gf (ix2 (pos b s k) e) := by
  pointwise [group, pos]

theorem group_n (gx : FVec Ideal S262144x3 .f32) (gf : FVec Ideal S262144x64 .f32) (a0 a1 : FVec Ideal S8x1024x3 .f32) (b : Fin 8) (s : Fin 1024)
    (k : Fin 32) (e : Fin 3) : group gx gf a0 a1 (ix4 b s k (⟨67 + e.val, by omega⟩ : Fin 70)) = a1 (ix3 b s e) := by
  pointwise [group, pos]
  rw [dif_neg (by omega), dif_neg (by omega)]
  exact congrArg a1 (congrArg (ix3 b s) (Fin.ext (by show 67 + e.val - 3 - 64 = e.val; omega)))

theorem layer1_apply (g : FVec Ideal S8x1024x32x70 .f32) (w : FVec Ideal S70x128 .f32) (bb : FVec Ideal S128 .f32) (b : Fin 8) (s : Fin 1024)
    (k : Fin 32) (o : Fin 128) : layer1 g w bb (ix4 b s k o)
      = max ((∑ e : Fin 3, g (ix4 b s k (⟨e.val, by omega⟩ : Fin 70)) * w (ix2 (⟨e.val, by omega⟩ : Fin 70) o))
          + (∑ e : Fin 64, g (ix4 b s k (⟨3 + e.val, by omega⟩ : Fin 70)) * w (ix2 (⟨3 + e.val, by omega⟩ : Fin 70) o))
          + (∑ e : Fin 3, g (ix4 b s k (⟨67 + e.val, by omega⟩ : Fin 70)) * w (ix2 (⟨67 + e.val, by omega⟩ : Fin 70) o)) + bb (ix1 o)) 0 := by
  pointwise [layer1]
  refine congrArg (fun z => max (z + bb (ix1 o)) 0) ?_
  refine (Fin.sum_univ_add (a := 3 + 64) (b := 3) (fun x : Fin (3 + 64 + 3) => g (ix4 b s k x) * w (ix2 x o))).trans ?_
  exact congrArg (· + _) (Fin.sum_univ_add (a := 3) (b := 64) _)

end Cert.ReferenceIdeal.Term

end
-- ==== Proof.RefLayers.lean ====
/-
  The reference's last two lines compute the grouped channels and the layers of the arrays they find; so the reference's third
  result is the layers' term of the centres and normals the line before took.
-/
module

public import proofs.«01_k».proof.Proof.SampleRefKeep
public import proofs.«01_k».proof.Proof.ReferenceTerm
public import Idealize.ShloMosaic.Lib.StableHlo.RunClose

@[expose] public section

noncomputable section

namespace Cert.ReferenceIdeal.Run

open Cert.ReferenceIdeal Cert.ReferenceIdeal.Gen
open Idealize.ShloMosaic Idealize.ShloMosaic.TcCoe Idealize.ShloMosaic.StableHlo

theorem group_v61 (W : Valuation τ sig (Elt Ideal)) :
    after groupOps W main_v61 = Term.group (Term.gx (W main_arg2) (W main_arg0)) (Term.gf (W main_arg2) (W main_arg3)) (W main_v26) (W main_v35) := by
  simp only [groupOps]
  after_results_simp
  rfl

theorem layer_v78 (W : Valuation τ sig (Elt Ideal)) :
    after layerOps W main_v78 = Term.top (Term.layer3 (Term.layer2 (Term.layer1 (W main_v61) (W main_arg4) (W main_arg5)) (W main_arg6) (W main_arg7))
      (W main_arg8) (W main_arg9)) := by
  simp only [layerOps, TRef.nullary, TRef.unary, TRef.binary, TRef.toBuf, TRef.ofBuf, cast_eq]
  after_results_simp
  rfl

/-- The buffers after the line that takes the chosen points' rows. -/
def Wp (m : (ℓ : Loc nD τ sig) → Buf (Elt Ideal) ℓ) (d : Dev nD) : Valuation τ sig (Elt Ideal) :=
  after postOps (after condOps (Wk (after preOps (launchContents m d)) 1023))

theorem Wp_of (m : (ℓ : Loc nD τ sig) → Buf (Elt Ideal) ℓ) (d : Dev nD) {r : Ref sig .tc} (hp : r ∉ preW) (hc : r ∉ condW) (hb : r ∉ bodyW)
    (hq : r ∉ postW) : Wp m d r = launchContents m d r :=
  (post_of _ hq).trans (loop_of _ hp hc hb)

theorem end_v26 (m : (ℓ : Loc nD τ sig) → Buf (Elt Ideal) ℓ) (d : Dev nD) : Wend m d main_v26 = Wp m d main_v26 :=
  (layer_of _ (by decide)).trans (group_of _ (by decide))

theorem end_v35 (m : (ℓ : Loc nD τ sig) → Buf (Elt Ideal) ℓ) (d : Dev nD) : Wend m d main_v35 = Wp m d main_v35 :=
  (layer_of _ (by decide)).trans (group_of _ (by decide))

theorem end_v78 (m : (ℓ : Loc nD τ sig) → Buf (Elt Ideal) ℓ) (d : Dev nD) :
    Wend m d main_v78 = Term.res (Term.gx (launchContents m d main_arg2) (launchContents m d main_arg0))
      (Term.gf (launchContents m d main_arg2) (launchContents m d main_arg3)) (Wp m d main_v26) (Wp m d main_v35)
      (launchContents m d main_arg4) (launchContents m d main_arg5) (launchContents m d main_arg6) (launchContents m d main_arg7)
      (launchContents m d main_arg8) (launchContents m d main_arg9) := by
  have e : Wend m d main_v78 = after layerOps (after groupOps (Wp m d)) main_v78 := rfl
  have g : ∀ {r : Ref sig .tc}, r ∉ preW → r ∉ condW → r ∉ bodyW → r ∉ postW → r ∉ groupW →
      after groupOps (Wp m d) r = launchContents m d r := fun hp hc hb hq hg => (group_of _ hg).trans (Wp_of m d hp hc hb hq)
  rw [e, layer_v78, group_v61, g (r := main_arg4) (by decide) (by decide) (by decide) (by decide) (by decide),
    g (r := main_arg5) (by decide) (by decide) (by decide) (by decide) (by decide), g (r := main_arg6) (by decide) (by decide) (by decide) (by decide) (by decide),
    g (r := main_arg7) (by decide) (by decide) (by decide) (by decide) (by decide), g (r := main_arg8) (by decide) (by decide) (by decide) (by decide) (by decide),
    g (r := main_arg9) (by decide) (by decide) (by decide) (by decide) (by decide), Wp_of m d (r := main_arg0) (by decide) (by decide) (by decide) (by decide),
    Wp_of m d (r := main_arg2) (by decide) (by decide) (by decide) (by decide), Wp_of m d (r := main_arg3) (by decide) (by decide) (by decide) (by decide)]
  rfl

end Cert.ReferenceIdeal.Run

end
-- ==== Proof.Payloads.lean ====
/-
  What the table body and the layers body compute, read at an element over the extended reals.
-/
module

public import proofs.«01_k».proof.Proof.Gen.KernelIdeal.Skeleton
public import Idealize.ShloMosaic.Lib.Pointwise

@[expose] public section

noncomputable section

namespace Cert.KernelIdeal.Payloads

open Cert.KernelIdeal Cert.KernelIdeal.Gen Idealize.ShloMosaic

theorem g_apply (v0 : Vec Ideal S1x4096x67 .f32) (v2 : Vec Ideal S67x128 .f32) (r : Fin 4096) (c : Fin 128) :
    k1_pay1 (F := Ideal) v0 v2 (ix3 (0 : Fin 1) r c) = ∑ k : Fin 67, v0 (ix3 (0 : Fin 1) r k) * v2 (ix2 k c) := by
  pointwise [k1_pay1]

theorem h_apply (v0 : Vec Ideal S1x1x4096x128 .f32) (v2 v4 : Vec Ideal S1x128x3 .f32) (v6 v9 : Vec Ideal S3x128 .f32) (v13 : Vec Ideal S1x128 .f32)
    (v24 : Vec Ideal S128x128 .f32) (v26 : Vec Ideal S1x128 .f32) (r : Fin 4096) (c : Fin 128) :
    k3_pay2 (F := Ideal) v0 v2 v4 v6 v9 v13 v24 v26 (ix2 r c)
      = max (∑ x : Fin 128, max (v0 (ix4 (0 : Fin 1) (0 : Fin 1) r x)
          + (∑ e : Fin 3, v4 (ix3 (0 : Fin 1) (⟨r.val % 128, by omega⟩ : Fin 128) e) * v6 (ix2 e x)
            - ∑ e : Fin 3, v2 (ix3 (0 : Fin 1) (⟨r.val % 128, by omega⟩ : Fin 128) e) * v9 (ix2 e x) + v13 (ix2 (0 : Fin 1) x))) 0
          * v24 (ix2 x c) + v26 (ix2 (0 : Fin 1) c)) 0 := by
  pointwise [k3_pay2]

theorem o_apply (v31 : FVec Ideal S4096x128 .f32) (v32 : Vec Ideal S128x256 .f32) (v34 : Vec Ideal S1x256 .f32) (t : Fin 128) (c : Fin 256) :
    k3_pay1 (F := Ideal) v31 v32 v34 (ix3 (0 : Fin 1) t c)
      = Finset.fold max (Ideal.ofBits FTy.f32 0xFF800000#32) (fun k : Fin 32 =>
          max (∑ x : Fin 128, v31 (ix2 (⟨k.val * 128 + t.val, by omega⟩ : Fin 4096) x) * v32 (ix2 x c) + v34 (ix2 (0 : Fin 1) c)) 0) Finset.univ := by
  pointwise [k3_pay1]

end Cert.KernelIdeal.Payloads

end
-- ==== Proof.Distrib.lean ====
/-
  The one step of real arithmetic: the products of differences from a finite point with finite weights, summed, are the
  difference of the sums of the products.
-/
module

public import Mathlib.Data.EReal.Operations
public import Mathlib.Algebra.BigOperators.Fin
public import Mathlib.Tactic.Abel

@[expose] public section

namespace Cert.Distrib

/-- A difference from a finite number times a finite number. -/
theorem sub_mul_fin (x : EReal) (c w : ℝ) : (x - (c : EReal)) * (w : EReal) = x * w + ((-(c * w) : ℝ) : EReal) := by
  induction x with
  | coe x => norm_cast; ring
  | top =>
    rw [show (⊤ : EReal) - (c : EReal) = ⊤ from EReal.top_sub_coe c]
    rcases lt_trichotomy w 0 with h | h | h
    · rw [EReal.top_mul_coe_of_neg h, EReal.bot_add]
    · subst h; simp
    · rw [EReal.top_mul_coe_of_pos h, EReal.top_add_coe]
  | bot =>
    rw [show (⊥ : EReal) - (c : EReal) = ⊥ from EReal.bot_sub c]
    rcases lt_trichotomy w 0 with h | h | h
    · rw [EReal.bot_mul_coe_of_neg h, EReal.top_add_coe]
    · subst h; simp
    · rw [EReal.bot_mul_coe_of_pos h, EReal.bot_add]

/-- The first layer before its bias and cut, the products in either grouping. -/
theorem split (x c n w wn : Fin 3 → EReal) (S b : EReal) (hc : ∀ e, c e ≠ ⊤ ∧ c e ≠ ⊥) (hw : ∀ e, w e ≠ ⊤ ∧ w e ≠ ⊥) :
    ((∑ e, x e * w e) + S) + ((∑ e, n e * wn e) - (∑ e, c e * w e) + b)
      = (∑ e, (x e - c e) * w e) + S + (∑ e, n e * wn e) + b := by
  have hc' : ∀ e, c e = (((c e).toReal : ℝ) : EReal) := fun e => (EReal.coe_toReal (hc e).1 (hc e).2).symm
  have hw' : ∀ e, w e = (((w e).toReal : ℝ) : EReal) := fun e => (EReal.coe_toReal (hw e).1 (hw e).2).symm
  have h1 : ∀ e, (x e - c e) * w e = x e * w e + ((-((c e).toReal * (w e).toReal) : ℝ) : EReal) := fun e => by
    have := sub_mul_fin (x e) (c e).toReal (w e).toReal
    rwa [← hc' e, ← hw' e] at this
  have h2 : (∑ e, c e * w e) = ((∑ e, (c e).toReal * (w e).toReal : ℝ) : EReal) := by
    rw [Fin.sum_univ_three, Fin.sum_univ_three]
    push_cast
    rw [← hc' 0, ← hc' 1, ← hc' 2, ← hw' 0, ← hw' 1, ← hw' 2]
  simp only [h1, Finset.sum_add_distrib, h2]
  rw [sub_eq_add_neg, ← EReal.coe_neg, ← Finset.sum_neg_distrib,
    show ((∑ e, -((c e).toReal * (w e).toReal) : ℝ) : EReal) = ∑ e, ((-((c e).toReal * (w e).toReal) : ℝ) : EReal) by
      rw [Fin.sum_univ_three, Fin.sum_univ_three]; push_cast; rfl]
  abel

end Cert.Distrib
-- ==== Proof.Values.lean ====
/-
  The program's result is the reference's: element by element, over the extended reals, when the neighbour numbers name rows and
  the centres and the coordinates' weights are finite.
-/
module

public import proofs.«01_k».proof.Proof.EndsIdeal
public import proofs.«01_k».proof.Proof.Payloads
public import proofs.«01_k».proof.Proof.ReferenceTerm
public import proofs.«01_k».proof.Proof.Distrib

@[expose] public section

noncomputable section

namespace Cert.Values

open Cert.KernelIdeal Cert.KernelIdeal.Gen Cert.KernelIdeal.ScGather Cert.KernelIdeal.Run Idealize.ShloMosaic
open Cert.ReferenceIdeal.Term (rowB rowN pos)

variable (a0 a1 : S8x1024x3.Idx → EReal) (a2 : S8x8x32x128.Idx → BitVec 32) (a3 : S8x4096x3.Idx → EReal) (a4 : S8x4096x64.Idx → EReal)
  (a5 : S70x128.Idx → EReal) (a6 : S128.Idx → EReal) (a7 : S128x128.Idx → EReal) (a8 : S128.Idx → EReal) (a9 : S128x256.Idx → EReal) (a10 : S256.Idx → EReal)

theorem out_apply (A : S8x4096x67.Idx → EReal) (B : S67x128.Idx → EReal) (b : Fin 8) (r : Fin 4096) (c : Fin 128) :
    GCall.out (F := Ideal) A B (ix3 b r c) = ∑ k : Fin 67, A (ix3 b r k) * B (ix2 k c) := by
  have e : GCall.out (F := Ideal) A B (ix3 b r c) = k1_pay1 (F := Ideal) (GCall.blkA (F := Ideal) A b) B (ix3 (0 : Fin 1) r c) := by
    unfold GCall.out
    refine congrArg (k1_pay1 (F := Ideal) (GCall.blkA (F := Ideal) A b) B) ?_
    funext a
    match a with
    | 0 => rfl
    | 1 => rfl
    | 2 => rfl
  rw [e, Payloads.g_apply]
  refine Finset.sum_congr rfl fun k _ => congrArg (· * B (ix2 k c)) ?_
  unfold GCall.blkA
  refine congrArg A ?_
  funext a
  match a with
  | 0 => rfl
  | 1 => rfl
  | 2 => rfl

/-- The table call's array: a point's coordinates and features times the weights' first rows. -/
theorem table_apply (b : Fin 8) (r : Fin 4096) (c : Fin 128) :
    GCall.out (F := Ideal) (concatenate S8x4096x67 2 [⟨S8x4096x3, a3⟩, ⟨S8x4096x64, a4⟩] concatenates_S8x4096x3_S8x4096x64_S8x4096x67_d2)
        (extractStridedSlice S67x128 ![0, 0] a5 slices_S70x128_S67x128_0_0) (ix3 b r c)
      = (∑ e : Fin 3, a3 (ix3 b r e) * a5 (ix2 (⟨e.val, by omega⟩ : Fin 70) c))
        + ∑ e : Fin 64, a4 (ix3 b r e) * a5 (ix2 (⟨3 + e.val, by omega⟩ : Fin 70) c) := by
  have h1 : ∀ e : Fin 3, concatenate S8x4096x67 2 [⟨S8x4096x3, a3⟩, ⟨S8x4096x64, a4⟩] concatenates_S8x4096x3_S8x4096x64_S8x4096x67_d2
      (ix3 b r (⟨e.val, by omega⟩ : Fin 67)) = a3 (ix3 b r e) := fun e => by pointwise
  have h2 : ∀ e : Fin 64, concatenate S8x4096x67 2 [⟨S8x4096x3, a3⟩, ⟨S8x4096x64, a4⟩] concatenates_S8x4096x3_S8x4096x64_S8x4096x67_d2
      (ix3 b r (⟨3 + e.val, by omega⟩ : Fin 67)) = a4 (ix3 b r e) := fun e => by pointwise
  have h3 : ∀ k : Fin 67, extractStridedSlice S67x128 ![0, 0] a5 slices_S70x128_S67x128_0_0 (ix2 k c) = a5 (ix2 (⟨k.val, by omega⟩ : Fin 70) c) :=
    fun e => by pointwise
  rw [out_apply]
  simp only [h3]
  generalize concatenate S8x4096x67 2 [⟨S8x4096x3, a3⟩, ⟨S8x4096x64, a4⟩] concatenates_S8x4096x3_S8x4096x64_S8x4096x67_d2 = A at h1 h2 ⊢
  simp only [← h1, ← h2]
  exact Fin.sum_univ_add (a := 3) (b := 64) (fun k : Fin (3 + 64) => A (ix3 b r k) * a5 (ix2 (⟨k.val, by omega⟩ : Fin 70) c))

/-- The gathered rows: row `128 k + t` of tile `q` is the table's row that neighbour `k` of centre `t` names. -/
theorem rows_apply (b q : Fin 8) (k : Fin 32) (t : Fin 128) (c : Fin 128) (h : (a2 (ix4 b q k t)).toNat < 32768) :
    rows (F := Ideal) a2 a3 a4 a5 (ix4 b q (⟨k.val * 128 + t.val, by omega⟩ : Fin 4096) c)
      = (∑ e : Fin 3, a3 (ix3 (rowB h) (rowN (a2 (ix4 b q k t))) e) * a5 (ix2 (⟨e.val, by omega⟩ : Fin 70) c))
        + ∑ e : Fin 64, a4 (ix3 (rowB h) (rowN (a2 (ix4 b q k t))) e) * a5 (ix2 (⟨3 + e.val, by omega⟩ : Fin 70) c) := by
  rw [← table_apply]
  unfold rows
  generalize GCall.out (F := Ideal) (concatenate S8x4096x67 2 [⟨S8x4096x3, a3⟩, ⟨S8x4096x64, a4⟩] concatenates_S8x4096x3_S8x4096x64_S8x4096x67_d2)
        (extractStridedSlice S67x128 ![0, 0] a5 slices_S70x128_S67x128_0_0) = X
  have hI : ∀ h' : b.val * 32768 + q.val * 4096 + (k.val * 128 + t.val) < 262144,
      shapeCast S262144 a2 shapeCasts_S8x8x32x128_S262144 (ix1 (⟨b.val * 32768 + q.val * 4096 + (k.val * 128 + t.val), h'⟩ : Fin 262144)) = a2 (ix4 b q k t) := fun h' => by
    pointwise
  pointwise
  unfold gathered
  have hr : ∀ h' : b.val * 32768 + q.val * 4096 + (k.val * 128 + t.val) < 262144,
      rowNo (shapeCast S262144 a2 shapeCasts_S8x8x32x128_S262144) (⟨b.val * 32768 + q.val * 4096 + (k.val * 128 + t.val), h'⟩ : Fin 262144)
        = (⟨(a2 (ix4 b q k t)).toNat, h⟩ : Fin 32768) := fun h' => by
    refine Fin.ext ?_
    show (shapeCast S262144 a2 shapeCasts_S8x8x32x128_S262144 (ixL _)).toNat % 32768 = _
    rw [show ixL (⟨b.val * 32768 + q.val * 4096 + (k.val * 128 + t.val), h'⟩ : Fin 262144) = ix1 (⟨b.val * 32768 + q.val * 4096 + (k.val * 128 + t.val), h'⟩ : Fin 262144) from by
      funext a; match a with | 0 => rfl, hI h']
    exact Nat.mod_eq_of_lt h
  refine Eq.trans (b := shapeCast S32768x128 X shapeCasts_S8x4096x128_S32768x128 (ix2 (⟨(a2 (ix4 b q k t)).toNat, h⟩ : Fin 32768) c)) (congrArg _ ?_) ?_
  · funext a
    match a with
    | 0 => exact hr _
    | 1 => rfl
  · pointwise [rowB, rowN]

/-- The last call's array, of the rows and the small operands. -/
theorem mlp_apply (A0 : S8x8x4096x128.Idx → EReal) (A3 A4 : S3x128.Idx → EReal) (A5 : S1x128.Idx → EReal) (A6 : S128x128.Idx → EReal)
    (A7 : S1x128.Idx → EReal) (A8 : S128x256.Idx → EReal) (A9 : S1x256.Idx → EReal) (b : Fin 8) (s : Fin 1024) (o : Fin 256) :
    MlpCall.out (F := Ideal) A0 a0 a1 A3 A4 A5 A6 A7 A8 A9 (ix3 b s o)
      = Finset.fold max (Ideal.ofBits FTy.f32 0xFF800000#32) (fun k : Fin 32 =>
          max (∑ x : Fin 128, max (∑ y : Fin 128, max (A0 (ix4 b (MlpCall.tq s) (⟨k.val * 128 + (MlpCall.tr s).val, by omega⟩ : Fin 4096) y)
              + ((∑ e : Fin 3, a1 (ix3 b s e) * A4 (ix2 e y)) - (∑ e : Fin 3, a0 (ix3 b s e) * A3 (ix2 e y)) + A5 (ix2 (0 : Fin 1) y))) 0
            * A6 (ix2 y x) + A7 (ix2 (0 : Fin 1) x)) 0 * A8 (ix2 x o) + A9 (ix2 (0 : Fin 1) o)) 0) Finset.univ := by
  have e : MlpCall.out (F := Ideal) A0 a0 a1 A3 A4 A5 A6 A7 A8 A9 (ix3 b s o)
      = k3_pay1 (F := Ideal) (k3_pay2 (F := Ideal) (MlpCall.blkR (F := Ideal) A0 b (MlpCall.tq s)) (MlpCall.blkC (F := Ideal) a0 b (MlpCall.tq s))
        (MlpCall.blkC (F := Ideal) a1 b (MlpCall.tq s)) A4 A3 A5 A6 A7) A8 A9 (ix3 (0 : Fin 1) (MlpCall.tr s) o) := by
    unfold MlpCall.out MlpCall.tile
    refine congrArg (k3_pay1 (F := Ideal) _ A8 A9) ?_
    funext a
    match a with
    | 0 => rfl
    | 1 => rfl
    | 2 => rfl
  have hR : ∀ (r : Fin 4096) (y : Fin 128), MlpCall.blkR (F := Ideal) A0 b (MlpCall.tq s) (ix4 (0 : Fin 1) (0 : Fin 1) r y) = A0 (ix4 b (MlpCall.tq s) r y) := fun r y => by
    unfold MlpCall.blkR
    refine congrArg A0 ?_
    funext a
    match a with
    | 0 => rfl
    | 1 => rfl
    | 2 => rfl
    | 3 => rfl
  have hC : ∀ (A : S8x1024x3.Idx → EReal) (k : Fin 32) (h : (k.val * 128 + (MlpCall.tr s).val) % 128 < 128) (e : Fin 3),
      MlpCall.blkC (F := Ideal) A b (MlpCall.tq s) (ix3 (0 : Fin 1) (⟨(k.val * 128 + (MlpCall.tr s).val) % 128, h⟩ : Fin 128) e) = A (ix3 b s e) := fun A k h e => by
    unfold MlpCall.blkC
    refine congrArg A ?_
    funext a
    match a with
    | 0 => rfl
    | 1 =>
      refine Fin.ext ?_
      show s.val / 128 * 128 + (k.val * 128 + s.val % 128) % 128 = s.val
      omega
    | 2 => rfl
  rw [e, Payloads.o_apply]
  simp only [Payloads.h_apply, hR, hC]

/-- The program's result is the reference's. -/
theorem result_eq (hk : ∀ j, (a2 j).toNat < 32768) (hc : ∀ j, a0 j ≠ ⊤ ∧ a0 j ≠ ⊥)
    (hw : ∀ (e : Fin 3) (c : Fin 128), a5 (ix2 (⟨e.val, by omega⟩ : Fin 70) c) ≠ ⊤ ∧ a5 (ix2 (⟨e.val, by omega⟩ : Fin 70) c) ≠ ⊥) :
    result (F := Ideal) a0 a1 a2 a3 a4 a5 a6 a7 a8 a9 a10
      = Cert.ReferenceIdeal.Term.res (Cert.ReferenceIdeal.Term.gx a2 a3) (Cert.ReferenceIdeal.Term.gf a2 a4) a0 a1 a5 a6 a7 a8 a9 a10 := by
  funext j
  obtain ⟨b, o, s, rfl⟩ : ∃ (b : Fin 8) (o : Fin 256) (s : Fin 1024), j = ix3 b o s :=
    ⟨j 0, j 1, j 2, by funext a; match a with | 0 => rfl | 1 => rfl | 2 => rfl⟩
  have hL : ∀ k : Fin 32, Cert.ReferenceIdeal.Term.list a2 (ix1 (pos b s k)) = a2 (ix4 b (MlpCall.tq s) k (MlpCall.tr s)) := fun k =>
    Cert.ReferenceIdeal.Term.list_apply a2 b s k (MlpCall.tq s) (MlpCall.tr s) (by show s.val = s.val / 128 * 128 + s.val % 128; omega)
  have hN : ∀ (e : Fin 3) (y : Fin 128), extractStridedSlice S3x128 ![67, 0] a5 slices_S70x128_S3x128_67_0 (ix2 e y) = a5 (ix2 (⟨67 + e.val, by omega⟩ : Fin 70) y) :=
    fun e y => by pointwise
  have hX : ∀ (e : Fin 3) (y : Fin 128), extractStridedSlice S3x128 ![0, 0] a5 slices_S70x128_S3x128_0_0 (ix2 e y) = a5 (ix2 (⟨e.val, by omega⟩ : Fin 70) y) :=
    fun e y => by pointwise
  have h6 : ∀ y : Fin 128, shapeCast S1x128 a6 shapeCasts_S128_S1x128 (ix2 (0 : Fin 1) y) = a6 (ix1 y) := fun y => by pointwise
  have h8 : ∀ y : Fin 128, shapeCast S1x128 a8 shapeCasts_S128_S1x128 (ix2 (0 : Fin 1) y) = a8 (ix1 y) := fun y => by pointwise
  have h10 : ∀ y : Fin 256, shapeCast S1x256 a10 shapeCasts_S256_S1x256 (ix2 (0 : Fin 1) y) = a10 (ix1 y) := fun y => by pointwise
  have hK : result (F := Ideal) a0 a1 a2 a3 a4 a5 a6 a7 a8 a9 a10 (ix3 b o s)
      = MlpCall.out (F := Ideal) (rows (F := Ideal) a2 a3 a4 a5) a0 a1
          (extractStridedSlice S3x128 ![0, 0] a5 slices_S70x128_S3x128_0_0) (extractStridedSlice S3x128 ![67, 0] a5 slices_S70x128_S3x128_67_0)
          (shapeCast S1x128 a6 shapeCasts_S128_S1x128) a7 (shapeCast S1x128 a8 shapeCasts_S128_S1x128) a9 (shapeCast S1x256 a10 shapeCasts_S256_S1x256) (ix3 b s o) := by
    unfold result
    generalize MlpCall.out (F := Ideal) _ _ _ _ _ _ _ _ _ _ = X
    pointwise
  rw [hK, mlp_apply, Cert.ReferenceIdeal.Term.res, Cert.ReferenceIdeal.Term.top_apply]
  refine congrArg (fun f => Finset.fold max (Ideal.ofBits FTy.f32 0xFF800000#32) f Finset.univ) (funext fun k => ?_)
  have hl := hk (ix4 b (MlpCall.tq s) k (MlpCall.tr s))
  have hl' : (Cert.ReferenceIdeal.Term.list a2 (ix1 (pos b s k))).toNat < 32768 := by rw [hL]; exact hl
  rw [Cert.ReferenceIdeal.Term.layer3_apply]
  simp only [Cert.ReferenceIdeal.Term.layer2_apply, hN, hX, h6, h8, h10, rows_apply _ _ _ _ b (MlpCall.tq s) k (MlpCall.tr s) _ hl]
  have first : ∀ y : Fin 128, max ((∑ e : Fin 3, a3 (ix3 (rowB hl) (rowN (a2 (ix4 b (MlpCall.tq s) k (MlpCall.tr s)))) e) * a5 (ix2 (⟨e.val, by omega⟩ : Fin 70) y)
        + ∑ e : Fin 64, a4 (ix3 (rowB hl) (rowN (a2 (ix4 b (MlpCall.tq s) k (MlpCall.tr s)))) e) * a5 (ix2 (⟨3 + e.val, by omega⟩ : Fin 70) y))
        + ((∑ e : Fin 3, a1 (ix3 b s e) * a5 (ix2 (⟨67 + e.val, by omega⟩ : Fin 70) y)) - (∑ e : Fin 3, a0 (ix3 b s e) * a5 (ix2 (⟨e.val, by omega⟩ : Fin 70) y)) + a6 (ix1 y))) 0
      = Cert.ReferenceIdeal.Term.layer1 (Cert.ReferenceIdeal.Term.group (Cert.ReferenceIdeal.Term.gx a2 a3) (Cert.ReferenceIdeal.Term.gf a2 a4) a0 a1) a5 a6 (ix4 b s k y) := fun y => by
    rw [Cert.ReferenceIdeal.Term.layer1_apply]
    simp only [Cert.ReferenceIdeal.Term.group_x, Cert.ReferenceIdeal.Term.group_f, Cert.ReferenceIdeal.Term.group_n,
      Cert.ReferenceIdeal.Term.gx_apply _ _ _ _ hl', Cert.ReferenceIdeal.Term.gf_apply _ _ _ _ hl', hL]
    exact congrArg (fun z => max z 0) (Distrib.split (fun e => a3 (ix3 (rowB hl) (rowN (a2 (ix4 b (MlpCall.tq s) k (MlpCall.tr s)))) e))
      (fun e => a0 (ix3 b s e)) (fun e => a1 (ix3 b s e)) (fun e => a5 (ix2 (⟨e.val, by omega⟩ : Fin 70) y)) (fun e => a5 (ix2 (⟨67 + e.val, by omega⟩ : Fin 70) y))
      _ _ (fun e => hc _) (fun e => hw e y))
  simp only [first]

end Cert.Values

end
-- ==== Proof.Results.lean ====
/-
  The two programs' three results are the same arrays, from the same arguments, when the neighbour numbers name rows and the
  coordinates and their weights are finite.
-/
module

public import proofs.«01_k».proof.Proof.SampleEq
public import proofs.«01_k».proof.Proof.RefLayers
public import proofs.«01_k».proof.Proof.Values

@[expose] public section

noncomputable section

namespace Cert.Results

open Idealize.ShloMosaic Idealize.ShloMosaic.TcCoe Idealize.ShloMosaic.StableHlo

variable (m' : (ℓ : Loc Cert.ReferenceIdeal.nD Cert.ReferenceIdeal.τ Cert.ReferenceIdeal.sig) → Buf (Elt Ideal) ℓ) (c : Dev Cert.KernelIdeal.nD)

/-- The reference's centres and normals are the columns of the kernel's table. -/
theorem sampled (x n : FVec Ideal Cert.KernelIdeal.S8x4096x3 .f32)
    (h0 : (launchContents m' c Cert.ReferenceIdeal.main_arg0 : FVec Ideal Cert.KernelIdeal.S8x4096x3 .f32) = x)
    (h1 : (launchContents m' c Cert.ReferenceIdeal.main_arg1 : FVec Ideal Cert.KernelIdeal.S8x4096x3 .f32) = n) :
    (Cert.ReferenceIdeal.Run.Wp m' c Cert.ReferenceIdeal.main_v26 : FVec Ideal Cert.KernelIdeal.S8x1024x3 .f32) = Cert.KernelIdeal.Run.points (F := Ideal) x n
      ∧ (Cert.ReferenceIdeal.Run.Wp m' c Cert.ReferenceIdeal.main_v35 : FVec Ideal Cert.KernelIdeal.S8x1024x3 .f32) = Cert.KernelIdeal.Run.normals (F := Ideal) x n := by
  subst h0 h1
  constructor
  · funext j
    obtain ⟨b, t, e, rfl⟩ : ∃ (b : Fin 8) (t : Fin 1024) (e : Fin 3), j = ix3 b t e := ⟨j 0, j 1, j 2, eq_ix3 j⟩
    exact (Cert.ReferenceIdeal.Run.post_apply (launchContents m' c) b t e).1.trans (Cert.SampleEq.points_eq _ _ b t e).symm
  · funext j
    obtain ⟨b, t, e, rfl⟩ : ∃ (b : Fin 8) (t : Fin 1024) (e : Fin 3), j = ix3 b t e := ⟨j 0, j 1, j 2, eq_ix3 j⟩
    exact (Cert.ReferenceIdeal.Run.post_apply (launchContents m' c) b t e).2.trans (Cert.SampleEq.normals_eq _ _ b t e).symm

/-- The sampled centres are among the coordinates, so finite when those are. -/
theorem points_finite (x n : FVec Ideal Cert.KernelIdeal.S8x4096x3 .f32) (h : ∀ j, (x j : EReal) ≠ ⊤ ∧ (x j : EReal) ≠ ⊥) (j : Cert.KernelIdeal.S8x1024x3.Idx) :
    (Cert.KernelIdeal.Run.points (F := Ideal) x n j : EReal) ≠ ⊤ ∧ (Cert.KernelIdeal.Run.points (F := Ideal) x n j : EReal) ≠ ⊥ := by
  obtain ⟨b, t, e, rfl⟩ : ∃ (b : Fin 8) (t : Fin 1024) (e : Fin 3), j = ix3 b t e := ⟨j 0, j 1, j 2, eq_ix3 j⟩
  rw [Cert.SampleEq.points_eq]
  exact h _

/-- The third result, of the two arrays sampled. -/
theorem third (a0 a1 : Cert.KernelIdeal.S8x1024x3.Idx → EReal) (r0 r1 : Cert.KernelIdeal.S8x1024x3.Idx → EReal) (h0 : r0 = a0) (h1 : r1 = a1)
    (a2 b2 : Cert.KernelIdeal.S8x8x32x128.Idx → BitVec 32) (e2 : b2 = a2)
    (a3 b3 : Cert.KernelIdeal.S8x4096x3.Idx → EReal) (e3 : b3 = a3)
    (a4 b4 : Cert.KernelIdeal.S8x4096x64.Idx → EReal) (e4 : b4 = a4)
    (a5 b5 : Cert.KernelIdeal.S70x128.Idx → EReal) (e5 : b5 = a5)
    (a6 b6 : Cert.KernelIdeal.S128.Idx → EReal) (e6 : b6 = a6)
    (a7 b7 : Cert.KernelIdeal.S128x128.Idx → EReal) (e7 : b7 = a7)
    (a8 b8 : Cert.KernelIdeal.S128.Idx → EReal) (e8 : b8 = a8)
    (a9 b9 : Cert.KernelIdeal.S128x256.Idx → EReal) (e9 : b9 = a9)
    (a10 b10 : Cert.KernelIdeal.S256.Idx → EReal) (e10 : b10 = a10)
    (hk : ∀ j, (a2 j).toNat < 32768) (hc : ∀ j, a0 j ≠ ⊤ ∧ a0 j ≠ ⊥)
    (hw : ∀ (e : Fin 3) (c : Fin 128), a5 (ix2 (⟨e.val, by omega⟩ : Fin 70) c) ≠ ⊤ ∧ a5 (ix2 (⟨e.val, by omega⟩ : Fin 70) c) ≠ ⊥) :
    Cert.ReferenceIdeal.Term.res (Cert.ReferenceIdeal.Term.gx b2 b3) (Cert.ReferenceIdeal.Term.gf b2 b4) r0 r1 b5 b6 b7 b8 b9 b10
      = Cert.KernelIdeal.Run.result (F := Ideal) a0 a1 a2 a3 a4 a5 a6 a7 a8 a9 a10 := by
  subst h0 h1 e2 e3 e4 e5 e6 e7 e8 e9 e10
  exact (Cert.Values.result_eq _ _ _ _ _ _ _ _ _ _ _ hk hc hw).symm

/-- The three results. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hk : ∀ j, ((m ((c.tc : Thread Cert.KernelIdeal.nD Cert.KernelIdeal.τ).loc Cert.KernelIdeal.main_arg2) : Cert.KernelIdeal.S8x8x32x128.Idx → BitVec 32) j).toNat < 32768)
    (hc : ∀ j, id (α := Cert.KernelIdeal.S8x4096x3.Idx → EReal) (m ((c.tc : Thread Cert.KernelIdeal.nD Cert.KernelIdeal.τ).loc Cert.KernelIdeal.main_arg0)) j ≠ ⊤ ∧ id (α := Cert.KernelIdeal.S8x4096x3.Idx → EReal) (m ((c.tc : Thread Cert.KernelIdeal.nD Cert.KernelIdeal.τ).loc Cert.KernelIdeal.main_arg0)) j ≠ ⊥)
    (hw : ∀ (e : Fin 3) (y : Fin 128), id (α := Cert.KernelIdeal.S70x128.Idx → EReal) (m ((c.tc : Thread Cert.KernelIdeal.nD Cert.KernelIdeal.τ).loc Cert.KernelIdeal.main_arg4)) (ix2 (⟨e.val, by omega⟩ : Fin 70) y) ≠ ⊤
      ∧ id (α := Cert.KernelIdeal.S70x128.Idx → EReal) (m ((c.tc : Thread Cert.KernelIdeal.nD Cert.KernelIdeal.τ).loc Cert.KernelIdeal.main_arg4)) (ix2 (⟨e.val, by omega⟩ : Fin 70) y) ≠ ⊥) :
    Cert.ReferenceIdeal.Run.Wend m' c Cert.ReferenceIdeal.main_v26 = Cert.KernelIdeal.Run.onTc (Cert.KernelIdeal.Run.W14 m) c Cert.KernelIdeal.main_v4
      ∧ Cert.ReferenceIdeal.Run.Wend m' c Cert.ReferenceIdeal.main_v35 = Cert.KernelIdeal.Run.onTc (Cert.KernelIdeal.Run.W14 m) c Cert.KernelIdeal.main_v5
      ∧ Cert.ReferenceIdeal.Run.Wend m' c Cert.ReferenceIdeal.main_v78 = Cert.KernelIdeal.Run.onTc (Cert.KernelIdeal.Run.W14 m) c Cert.KernelIdeal.main_v19 := by
  obtain ⟨s0, s1⟩ := sampled m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) h0 h1
  refine ⟨((Cert.ReferenceIdeal.Run.end_v26 m' c).trans s0).trans ((Cert.KernelIdeal.Run.W14_c m c (by decide) (by decide) (by decide)).trans (Cert.KernelIdeal.Run.Wc_v4 m c)).symm,
    ((Cert.ReferenceIdeal.Run.end_v35 m' c).trans s1).trans ((Cert.KernelIdeal.Run.W14_c m c (by decide) (by decide) (by decide)).trans (Cert.KernelIdeal.Run.Wc_v5 m c)).symm, ?_⟩
  refine (Cert.ReferenceIdeal.Run.end_v78 m' c).trans (Eq.trans ?_ (Cert.KernelIdeal.Run.result_eq m c).symm)
  rw [Cert.KernelIdeal.Run.Wc_v4, Cert.KernelIdeal.Run.Wc_v5]
  exact third _ _ _ _ s0 s1 _ _ h2 _ _ h0 _ _ h3 _ _ h4 _ _ h5 _ _ h6 _ _ h7 _ _ h8 _ _ h9 hk (points_finite _ _ hc) hw

end Cert.Results

end
-- ==== Proof.Tests.lean ====
/-
  The preconditions, read: a test that came out true bounds every neighbour number, and makes the coordinates and the first three
  weight rows finite.
-/
module

public import proofs.«01_k».proof.Proof.Gen.Pre_in_range
public import proofs.«01_k».proof.Proof.Gen.Pre_in_range_and_finite
public import proofs.«01_k».proof.Proof.RowGather
public import Idealize.ShloMosaic.Lib.ReduceAll
public import Idealize.ShloMosaic.Lib.Pointwise

@[expose] public section

noncomputable section

namespace Cert.Tests

open Idealize.ShloMosaic Cert.Pre_in_range_and_finite

variable {F : FTy → Type} [FloatOps F]

instance one_index : Subsingleton S_.Idx := ⟨fun a b => by funext i; exact i.elim0⟩

/-- A product of two bits is one only when both are. -/
theorem both {p q : BitVec 1} (h : IntOp.andi p q = 1#1) : p = 1#1 ∧ q = 1#1 := IntOp.andi_eq_one.1 h

/-- An extended real whose absolute value is below the top is neither end. -/
theorem finite_of_test {x : Ideal .f32} (e : FloatOps.cmpf .olt (FloatOps.hostAbsf x) (FloatOps.ofBits (F := Ideal) .f32 0x7F800000#32) = 1#1) :
    (x : EReal) ≠ ⊤ ∧ (x : EReal) ≠ ⊥ := by
  have ht : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [ht] at e'
  refine ⟨fun h => ?_, fun h => ?_⟩ <;> · rw [h] at e'; simp [Ideal.cmp] at e'

variable (a0 a1 : FVec F S8x4096x3 .f32) (a2 : IVec S8x8x32x128 32) (a3 : FVec F S8x4096x64 .f32) (a4 : FVec F S70x128 .f32)
  (a5 : FVec F S128 .f32) (a6 : FVec F S128x128 .f32) (a7 : FVec F S128 .f32) (a8 : FVec F S128x256 .f32) (a9 : FVec F S256 .f32)

theorem in_range (h : Cert.Pre_in_range.fn (F := F) a0 a1 a2 a3 a4 a5 a6 a7 a8 a9 = fun _ => 1#1) (j : S8x8x32x128.Idx) :
    (a2 j).toNat < 32768 :=
  RowGather.range_of_test (k := 32768) (by norm_num)
    (Host.reduce_andi_all (t := S_) _ _ _ _ _ (congrFun h (fun i => i.elim0)) j)

/-- The three tests of the larger precondition. -/
theorem three (h : Cert.Pre_in_range_and_finite.fn (F := F) a0 a1 a2 a3 a4 a5 a6 a7 a8 a9 = fun _ => 1#1) :
    (∀ j, (a2 j).toNat < 32768)
    ∧ (∀ j, FloatOps.cmpf .olt (FloatOps.hostAbsf (a0 j)) (FloatOps.ofBits (F := F) .f32 0x7F800000#32) = 1#1)
    ∧ (∀ j, FloatOps.cmpf .olt (FloatOps.hostAbsf (extractStridedSlice S3x128 ![0, 0] a4 Gen.facts.slices_S70x128_S3x128_0_0 j))
        (FloatOps.ofBits (F := F) .f32 0x7F800000#32) = 1#1) := by
  have e := congrFun h (fun i => i.elim0)
  obtain ⟨e1, e3⟩ := both e
  obtain ⟨e1, e2⟩ := both e1
  exact ⟨fun j => RowGather.range_of_test (k := 32768) (by norm_num) (Host.reduce_andi_all (t := S_) _ _ _ _ _ e1 j),
    fun j => Host.reduce_andi_all (t := S_) _ _ _ _ _ e2 j, fun j => Host.reduce_andi_all (t := S_) _ _ _ _ _ e3 j⟩

/-- What the larger precondition says, over the extended reals. -/
theorem finite (a0 a1 : S8x4096x3.Idx → EReal) (a2 : IVec S8x8x32x128 32) (a3 : S8x4096x64.Idx → EReal) (a4 : S70x128.Idx → EReal)
    (a5 : S128.Idx → EReal) (a6 : S128x128.Idx → EReal) (a7 : S128.Idx → EReal) (a8 : S128x256.Idx → EReal) (a9 : S256.Idx → EReal) (h : Cert.Pre_in_range_and_finite.fn (F := Ideal) a0 a1 a2 a3 a4 a5 a6 a7 a8 a9 = fun _ => 1#1) :
    (∀ j, (a2 j).toNat < 32768) ∧ (∀ j, a0 j ≠ ⊤ ∧ a0 j ≠ ⊥)
    ∧ ∀ (e : Fin 3) (c : Fin 128), a4 (ix2 (⟨e.val, by omega⟩ : Fin 70) c) ≠ ⊤ ∧ a4 (ix2 (⟨e.val, by omega⟩ : Fin 70) c) ≠ ⊥ := by
  obtain ⟨h1, h2, h3⟩ := three (F := Ideal) a0 a1 a2 a3 a4 a5 a6 a7 a8 a9 h
  refine ⟨h1, fun j => finite_of_test (h2 j), fun e c => ?_⟩
  have f := finite_of_test (h3 (ix2 e c))
  have s : extractStridedSlice S3x128 ![0, 0] a4 Gen.facts.slices_S70x128_S3x128_0_0 (ix2 e c) = a4 (ix2 (⟨e.val, by omega⟩ : Fin 70) c) := by pointwise
  exact ⟨fun t => f.1 (s.trans t), fun t => f.2 (s.trans t)⟩

end Cert.Tests

end
-- ==== Proof.lean ====
/-
  The certificate.  The program is the sampling call, the table's TensorCore call, the SparseCore call that gathers its rows by the
  neighbour list, and the TensorCore call that puts every group through the layers, among host transposes, reshapes and slices.  Its
  run is `Cert.Kernel.Run.run_main` (Proof/Main.lean), at any reading of the floats, and the same over the extended reals; the
  reference's is `Cert.ReferenceIdeal.Run.run_main` (Proof/SampleRefRun.lean).  That the centres and normals are the same arrays is
  `Cert.SampleEq`, that the layers' results are is `Cert.Values.result_eq`, and the two together are `Cert.Results.same`.

  The sampling is also a program of its own, for what holds of it with nothing asked: the kernel's run is
  `Cert.SamplingIdeal.Ends.ends`, the reference's `Cert.SamplingReferenceIdeal.Run.run_main`, and both hold the coordinates and
  normals of the points `Cert.SampleSpec.state` chooses.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_and_finite
public import proofs.«01_k».proof.Proof.Gen.SamplingIdeal.Frame
public import proofs.«01_k».proof.Proof.Gen.Sampling.Frame
public import proofs.«01_k».proof.Proof.Gen.SamplingReferenceIdeal
public import proofs.«01_k».proof.Proof.SamplingEq
public import proofs.«01_k».proof.Proof.Ends
public import proofs.«01_k».proof.Proof.Results
public import proofs.«01_k».proof.Proof.Tests
public import Idealize.ShloMosaic.Lib.Quiescent

@[expose] public section

noncomputable section

namespace Cert.Proof

open Idealize.ShloMosaic Idealize.ShloMosaic.TcCoe Idealize.SL.Sem

theorem preK (m : (ℓ : Loc Cert.Kernel.nD Cert.Kernel.τ Cert.Kernel.sig) → Buf (Elt Bits) ℓ) (h : Cert.Pre_Kernel m) :
    Cert.Kernel.Run.PreOK (F := Bits) m := fun d j => by
  rw [Cert.Kernel.Run.W5_v10]
  exact Tests.in_range _ _ _ _ _ _ _ _ _ _ (h d) _

theorem preOfRange (m : (ℓ : Loc Cert.KernelIdeal.nD Cert.KernelIdeal.τ Cert.KernelIdeal.sig) → Buf (Elt Ideal) ℓ)
    (h : ∀ (d : Dev Cert.KernelIdeal.nD) j, (m ((d.tc : Thread Cert.KernelIdeal.nD Cert.KernelIdeal.τ).loc Cert.KernelIdeal.main_arg2) j : BitVec 32).toNat < 32768) :
    Cert.KernelIdeal.Run.PreOK (F := Ideal) m := fun d j => by
  rw [Cert.KernelIdeal.Run.W5_v10]
  exact h d _

theorem preKI (m : (ℓ : Loc Cert.KernelIdeal.nD Cert.KernelIdeal.τ Cert.KernelIdeal.sig) → Buf (Elt Ideal) ℓ) (h : Cert.Pre_KernelIdeal m) :
    Cert.KernelIdeal.Run.PreOK (F := Ideal) m := preOfRange m fun d => Tests.in_range _ _ _ _ _ _ _ _ _ _ (h d)

theorem preKIF (m : (ℓ : Loc Cert.KernelIdeal.nD Cert.KernelIdeal.τ Cert.KernelIdeal.sig) → Buf (Elt Ideal) ℓ)
    (h : Cert.Pre_KernelIdeal_in_range_and_finite m) : Cert.KernelIdeal.Run.PreOK (F := Ideal) m :=
  preOfRange m fun d => (Tests.three _ _ _ _ _ _ _ _ _ _ (h d)).1

theorem frame_p : Cert.quiescent_Kernel := fun m ρ hpre =>
  (θ_run Cert.Kernel.defs _ _).mono (fun r h => ⟨fun c => by
    refine ⟨?_, ?_, ?_, ?_, ?_, ?_, ?_, ?_, ?_, ?_⟩ <;>
      exact (Cert.Kernel.Run.end_of m c h rfl).trans (Cert.Kernel.Run.W14_arg m c (by decide) (by decide) (by decide)), h.2⟩)
    (Cert.Kernel.Run.run_main (F := Bits) m ρ (preK m hpre))

theorem frame_of (m : (ℓ : Loc Cert.KernelIdeal.nD Cert.KernelIdeal.τ Cert.KernelIdeal.sig) → Buf (Elt Ideal) ℓ) (c : Dev Cert.KernelIdeal.nD)
    {r : PUnit × MemSt Cert.KernelIdeal.nD Cert.KernelIdeal.τ Cert.KernelIdeal.sig (Elt Ideal)} (h : Cert.KernelIdeal.Run.QC m r) :
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) := by
  refine ⟨?_, ?_, ?_, ?_, ?_, ?_, ?_, ?_, ?_, ?_⟩ <;>
    exact (Cert.KernelIdeal.Run.end_of m c h rfl).trans (Cert.KernelIdeal.Run.W14_arg m c (by decide) (by decide) (by decide))

theorem frame_pi : Cert.quiescent_KernelIdeal := fun m ρ hpre =>
  (θ_run Cert.KernelIdeal.defs _ _).mono (fun r h => ⟨fun c => frame_of m c h, h.2⟩)
    (Cert.KernelIdeal.Run.run_main (F := Ideal) m ρ (preKI m hpre))

theorem frame_pif : Cert.quiescent_KernelIdeal_pre_in_range_and_finite := fun m ρ hpre =>
  (θ_run Cert.KernelIdeal.defs _ _).mono (fun r h => ⟨fun c => frame_of m c h, h.2⟩)
    (Cert.KernelIdeal.Run.run_main (F := Ideal) m ρ (preKIF m hpre))

/-- The reference leaves its arguments. -/
theorem ref_args (m : (ℓ : Loc Cert.ReferenceIdeal.nD Cert.ReferenceIdeal.τ Cert.ReferenceIdeal.sig) → Buf (Elt Ideal) ℓ) (c : Dev Cert.ReferenceIdeal.nD)
    {r : PUnit × MemSt Cert.ReferenceIdeal.nD Cert.ReferenceIdeal.τ Cert.ReferenceIdeal.sig (Elt Ideal)}
    (h : ∀ (d : Dev Cert.ReferenceIdeal.nD) (b : Ref Cert.ReferenceIdeal.sig .tc), r.2.mem ((d.tc : Thread Cert.ReferenceIdeal.nD Cert.ReferenceIdeal.τ).loc b) = Cert.ReferenceIdeal.Run.Wend m d b) :
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) := by
  refine ⟨?_, ?_, ?_, ?_, ?_, ?_, ?_, ?_, ?_, ?_⟩ <;>
    exact (h c _).trans (Cert.ReferenceIdeal.Run.end_of m c (by decide) (by decide) (by decide) (by decide) (by decide) (by decide))

theorem frame_ri : Cert.quiescent_ReferenceIdeal := fun m ρ _ =>
  (θ_run Cert.ReferenceIdeal.defs _ _).mono (fun r h => ⟨fun c => ref_args m c h, sem_eq_zero_of_no_sems (by decide) r.2⟩)
    (Cert.ReferenceIdeal.Run.run_main (F := Ideal) m ρ)

theorem frame_rif : Cert.quiescent_ReferenceIdeal_pre_in_range_and_finite := fun m ρ _ =>
  (θ_run Cert.ReferenceIdeal.defs _ _).mono (fun r h => ⟨fun c => ref_args m c h, sem_eq_zero_of_no_sems (by decide) r.2⟩)
    (Cert.ReferenceIdeal.Run.run_main (F := Ideal) m ρ)

theorem algebraic : Cert.algebraic_KernelIdeal_ReferenceIdeal_pre_in_range_and_finite := by
  intro m g m' g' hpre hag
  have hs := fun c => by
    obtain ⟨h0, h1, h2, h3, h4, h5, h6, h7, h8, h9⟩ := hag c
    obtain ⟨hk, hc, hw⟩ := Tests.finite _ _ _ _ _ _ _ _ _ _ (hpre c)
    exact Results.same m m' c h0 h1 h2 h3 h4 h5 h6 h7 h8 h9 hk hc hw
  exact ⟨fun c => Cert.KernelIdeal.Run.onTc (Cert.KernelIdeal.Run.W14 m) c Cert.KernelIdeal.main_v4,
    fun c => Cert.KernelIdeal.Run.onTc (Cert.KernelIdeal.Run.W14 m) c Cert.KernelIdeal.main_v5,
    fun c => Cert.KernelIdeal.Run.onTc (Cert.KernelIdeal.Run.W14 m) c Cert.KernelIdeal.main_v19,
    (θ_run Cert.KernelIdeal.defs _ _).mono (fun r h c => ⟨Cert.KernelIdeal.Run.end_of m c h rfl, Cert.KernelIdeal.Run.end_of m c h rfl,
      Cert.KernelIdeal.Run.end_of m c h rfl, frame_of m c h⟩) (Cert.KernelIdeal.Run.run_main (F := Ideal) m g (preKIF m hpre)),
    (θ_run Cert.ReferenceIdeal.defs _ _).mono (fun r h c => ⟨(h c _).trans (hs c).1, (h c _).trans (hs c).2.1, (h c _).trans (hs c).2.2, ref_args m' c h⟩)
      (Cert.ReferenceIdeal.Run.run_main (F := Ideal) m' g')⟩

/-! ## The sampling as a program of its own -/

theorem frame_sp : Cert.quiescent_Sampling := fun m ρ _ => Cert.Sampling.Gen.frame m ρ

theorem frame_spi : Cert.quiescent_SamplingIdeal := fun m ρ _ => Cert.SamplingIdeal.Gen.frame m ρ

theorem frame_sri : Cert.quiescent_SamplingReferenceIdeal := fun m ρ _ =>
  (θ_run Cert.SamplingReferenceIdeal.defs _ _).mono (fun r h =>
    ⟨fun c => ⟨(h c _).trans (Cert.SamplingReferenceIdeal.Run.end_keeps m c).1, (h c _).trans (Cert.SamplingReferenceIdeal.Run.end_keeps m c).2⟩,
      sem_eq_zero_of_no_sems (by decide) r.2⟩)
    (Cert.SamplingReferenceIdeal.Run.run_main (F := Ideal) m ρ)

/-- The reference's two sampled arrays are the columns of the kernel's table. -/
theorem sampled (m' : (ℓ : Loc Cert.SamplingReferenceIdeal.nD Cert.SamplingReferenceIdeal.τ Cert.SamplingReferenceIdeal.sig) → Buf (Elt Ideal) ℓ) (c : Dev Cert.SamplingIdeal.nD)
    (x n : FVec Ideal Cert.SamplingIdeal.S8x4096x3 .f32)
    (h0 : (StableHlo.launchContents m' c Cert.SamplingReferenceIdeal.main_arg0 : FVec Ideal Cert.SamplingIdeal.S8x4096x3 .f32) = x)
    (h1 : (StableHlo.launchContents m' c Cert.SamplingReferenceIdeal.main_arg1 : FVec Ideal Cert.SamplingIdeal.S8x4096x3 .f32) = n) :
    (Cert.SamplingReferenceIdeal.Run.Wend m' c Cert.SamplingReferenceIdeal.main_v26 : FVec Ideal Cert.SamplingIdeal.S8x1024x3 .f32)
        = extractStridedSlice Cert.SamplingIdeal.S8x1024x3 ![0, 0, 0] (Cert.SamplingIdeal.Ends.table x n) Cert.SamplingIdeal.Gen.slices_S8x1024x6_S8x1024x3_0_0_0
      ∧ (Cert.SamplingReferenceIdeal.Run.Wend m' c Cert.SamplingReferenceIdeal.main_v35 : FVec Ideal Cert.SamplingIdeal.S8x1024x3 .f32)
        = extractStridedSlice Cert.SamplingIdeal.S8x1024x3 ![0, 0, 3] (Cert.SamplingIdeal.Ends.table x n) Cert.SamplingIdeal.Gen.slices_S8x1024x6_S8x1024x3_0_0_3 := by
  subst h0 h1
  constructor
  · funext j
    obtain ⟨b, t, e, rfl⟩ : ∃ (b : Fin 8) (t : Fin 1024) (e : Fin 3), j = ix3 b t e := ⟨j 0, j 1, j 2, eq_ix3 j⟩
    exact (Cert.SamplingReferenceIdeal.Run.end_apply m' c b t e).1.trans (Cert.SamplingEq.points_eq _ _ b t e).symm
  · funext j
    obtain ⟨b, t, e, rfl⟩ : ∃ (b : Fin 8) (t : Fin 1024) (e : Fin 3), j = ix3 b t e := ⟨j 0, j 1, j 2, eq_ix3 j⟩
    exact (Cert.SamplingReferenceIdeal.Run.end_apply m' c b t e).2.trans (Cert.SamplingEq.normals_eq _ _ b t e).symm

theorem algebraic_s : Cert.algebraic_SamplingIdeal_SamplingReferenceIdeal := by
  intro m g m' g' _ hag
  have hs := fun c => sampled m' c _ _ (hag c).1 (hag c).2
  have hk := fun c => Cert.SamplingReferenceIdeal.Run.end_keeps m' c
  exact ⟨_, _, Cert.SamplingIdeal.Ends.ends (F := Ideal) m g,
    (θ_run Cert.SamplingReferenceIdeal.defs _ _).mono (fun r h c =>
      ⟨(h c _).trans (hs c).1, (h c _).trans (hs c).2, (h c _).trans (hk c).1, (h c _).trans (hk c).2⟩)
      (Cert.SamplingReferenceIdeal.Run.run_main (F := Ideal) m' g')⟩

theorem claim : Cert.Claim :=
  ⟨Cert.Sampling.Gen.facts, Cert.SamplingIdeal.Gen.facts, Cert.SamplingReferenceIdeal.Gen.facts,
    Cert.Kernel.Gen.facts, Cert.KernelIdeal.Gen.facts, Cert.ReferenceIdeal.Gen.facts, Cert.Pre_in_range.Gen.facts,
    Cert.Pre_in_range_and_finite.Gen.facts, frame_sp, frame_spi, frame_sri, frame_p, frame_pi, frame_pif, frame_ri, frame_rif,
    trivial, algebraic_s, trivial, algebraic⟩

end Cert.Proof

end
